-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_KernelLiteral (m : (ℓ : Loc Cert.KernelLiteral.nD Cert.KernelLiteral.τ Cert.KernelLiteral.sig) → Buf (Elt Bits) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_KernelLiteral [hKernelLiteral : Cert.KernelLiteral.Facts] : Prop :=
  ∀ (m : (ℓ : Loc Cert.KernelLiteral.nD Cert.KernelLiteral.τ Cert.KernelLiteral.sig) → Buf (Elt Bits) ℓ) (g : Dev Cert.KernelLiteral.nD → PrngReg), Pre_KernelLiteral m →
    θ_run (Cert.KernelLiteral.defs (F := Bits)) (onTc (τ := Cert.KernelLiteral.τ) (Cert.KernelLiteral.main (F := Bits))) ⟨m, fun _ => 0, g⟩ (fun r => (∀ c : Dev Cert.KernelLiteral.nD,
      r.2.mem ((c.tc : Thread Cert.KernelLiteral.nD Cert.KernelLiteral.τ).loc Cert.KernelLiteral.main_arg0) = m ((c.tc : Thread Cert.KernelLiteral.nD Cert.KernelLiteral.τ).loc Cert.KernelLiteral.main_arg0)
      ∧ r.2.mem ((c.tc : Thread Cert.KernelLiteral.nD Cert.KernelLiteral.τ).loc Cert.KernelLiteral.main_arg1) = m ((c.tc : Thread Cert.KernelLiteral.nD Cert.KernelLiteral.τ).loc Cert.KernelLiteral.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v12)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v22) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v17) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  IdealRules.named_const.Statement Cert.Kernel4Ideal.κ "mask" .f32 0xF149F2CA#32 ⊥

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v16_0)) (v1 : (c : Dev Cert.Kernel4Ideal.nD) → Buf (Elt Ideal) ((c.tc : Thread Cert.Kernel4Ideal.nD Cert.Kernel4Ideal.τ).loc Cert.Kernel4Ideal.main_v16_1)) (v2 : (c : Dev Cert.Kernel4Ideal.nD) → Buf (Elt Ideal) ((c.tc : Thread Cert.Kernel4Ideal.nD Cert.Kernel4Ideal.τ).loc Cert.Kernel4Ideal.main_v16_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v16_0) = v0 c
          ∧ r.2.mem ((c.tc : Thread Cert.Kernel4Ideal.nD Cert.Kernel4Ideal.τ).loc Cert.Kernel4Ideal.main_v16_1) = v1 c
          ∧ r.2.mem ((c.tc : Thread Cert.Kernel4Ideal.nD Cert.Kernel4Ideal.τ).loc Cert.Kernel4Ideal.main_v16_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v48) = v0 c
          ∧ r.2.mem ((c.tc : Thread Cert.Reference4Ideal.nD Cert.Reference4Ideal.τ).loc Cert.Reference4Ideal.main_v78) = v1 c
          ∧ r.2.mem ((c.tc : Thread Cert.Reference4Ideal.nD Cert.Reference4Ideal.τ).loc Cert.Reference4Ideal.main_v79) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v13) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v13) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v9)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v9) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v35) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernelLiteral : Cert.KernelLiteral.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts) (hPre_finite4 : Cert.Pre_finite4.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_KernelLiteral (hKernelLiteral := hKernelLiteral)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite.lean ====
abbrev S16x2048x4352 : Shape := ⟨3, ![16, 2048, 4352]⟩
abbrev S12x15x31 : Shape := ⟨3, ![12, 15, 31]⟩
abbrev S16x2048x1536 : Shape := ⟨3, ![16, 2048, 1536]⟩
abbrev S_ : Shape := ⟨0, ![]⟩

class Facts : Prop where
  slices_S16x2048x4352_S16x2048x1536_0_0_1536 : S16x2048x4352.Slices ![0, 0, 1536] S16x2048x1536
  bcast_S_S16x2048x1536 : S_.BroadcastsInDim S16x2048x1536 (![] : Fin 0 → Fin S16x2048x1536.rank)
  reducesTo_S16x2048x1536_S_d0_1_2 : S16x2048x1536.ReducesTo [0, 1, 2] S_
  h_S_ : 0 < S_.numel
  bcast_S_S12x15x31 : S_.BroadcastsInDim S12x15x31 (![] : Fin 0 → Fin S12x15x31.rank)
  reducesTo_S12x15x31_S_d0_1_2 : S12x15x31.ReducesTo [0, 1, 2] S_

variable [Facts]

def fn {F : FTy → Type} [FloatOps F] (main_arg0 : FVec F S16x2048x4352 .f32) (main_arg1 : FVec F S12x15x31 .f32) : IVec S_ 1 :=
  let main_v0 : FVec F S16x2048x1536 .f32 := (extractStridedSlice S16x2048x1536 ![0, 0, 1536] · slices_S16x2048x4352_S16x2048x1536_0_0_1536) main_arg0
  let main_v1 : FVec F S16x2048x1536 .f32 := Host.absf main_v0
  let main_cst : FVec F S_ .f32 := constant S_ .f32 0x7F800000#32
  let main_v2 : FVec F S16x2048x1536 .f32 := broadcastInDim S16x2048x1536 ![] bcast_S_S16x2048x1536 main_cst
  let main_v3 : IVec S16x2048x1536 1 := cmpf .olt main_v1 main_v2
  let main_c : IVec S_ 1 := constantI S_ 1 1#1
  let main_v4 : IVec S_ 1 := (fun x v => Host.reduce IntOp.andi x v reducesTo_S16x2048x1536_S_d0_1_2 h_S_) main_v3 main_c
  let main_v5 : FVec F S12x15x31 .f32 := Host.absf main_arg1
  let main_cst_0 : FVec F S_ .f32 := constant S_ .f32 0x7F800000#32
  let main_v6 : FVec F S12x15x31 .f32 := broadcastInDim S12x15x31 ![] bcast_S_S12x15x31 main_cst_0
  let main_v7 : IVec S12x15x31 1 := cmpf .olt main_v5 main_v6
  let main_c_1 : IVec S_ 1 := constantI S_ 1 1#1
  let main_v8 : IVec S_ 1 := (fun x v => Host.reduce IntOp.andi x v reducesTo_S12x15x31_S_d0_1_2 h_S_) main_v7 main_c_1
  let main_v9 : IVec S_ 1 := andi main_v4 main_v8
  main_v9
-- ==== Pre_finite4.lean ====
abbrev S32768x768 : Shape := ⟨2, ![32768, 768]⟩
abbrev S32768x512 : Shape := ⟨2, ![32768, 512]⟩
abbrev S32768x2048 : Shape := ⟨2, ![32768, 2048]⟩
abbrev S4x2048 : Shape := ⟨2, ![4, 2048]⟩
abbrev S4x2048x2048 : Shape := ⟨3, ![4, 2048, 2048]⟩
abbrev S4x2048x16 : Shape := ⟨3, ![4, 2048, 16]⟩
abbrev S1x2048 : Shape := ⟨2, ![1, 2048]⟩
abbrev S_ : Shape := ⟨0, ![]⟩
abbrev S1x2048x16 : Shape := ⟨3, ![1, 2048, 16]⟩

class Facts : Prop where
  slices_S4x2048_S1x2048_0_0 : S4x2048.Slices ![0, 0] S1x2048
  bcast_S_S1x2048 : S_.BroadcastsInDim S1x2048 (![] : Fin 0 → Fin S1x2048.rank)
  reducesTo_S1x2048_S_d0_1 : S1x2048.ReducesTo [0, 1] S_
  h_S_ : 0 < S_.numel
  slices_S4x2048x16_S1x2048x16_0_0_0 : S4x2048x16.Slices ![0, 0, 0] S1x2048x16
  bcast_S_S1x2048x16 : S_.BroadcastsInDim S1x2048x16 (![] : Fin 0 → Fin S1x2048x16.rank)
  reducesTo_S1x2048x16_S_d0_1_2 : S1x2048x16.ReducesTo [0, 1, 2] S_

variable [Facts]

def fn {F : FTy → Type} [FloatOps F] (main_arg0 : FVec F S32768x768 .f32) (main_arg1 : FVec F S32768x768 .f32) (main_arg2 : FVec F S32768x512 .f32) (main_arg3 : FVec F S32768x2048 .f32) (main_arg4 : FVec F S4x2048 .f32) (main_arg5 : FVec F S4x2048x2048 .f32) (main_arg6 : FVec F S4x2048 .f32) (main_arg7 : FVec F S4x2048x16 .f32) : IVec S_ 1 :=
  let main_v0 : FVec F S1x2048 .f32 := (extractStridedSlice S1x2048 ![0, 0] · slices_S4x2048_S1x2048_0_0) main_arg6
  let main_v1 : FVec F S1x2048 .f32 := Host.absf main_v0
  let main_cst : FVec F S_ .f32 := constant S_ .f32 0x7F800000#32
  let main_v2 : FVec F S1x2048 .f32 := broadcastInDim S1x2048 ![] bcast_S_S1x2048 main_cst
  let main_v3 : IVec S1x2048 1 := cmpf .olt main_v1 main_v2
  let main_c : IVec S_ 1 := constantI S_ 1 1#1
  let main_v4 : IVec S_ 1 := (fun x v => Host.reduce IntOp.andi x v reducesTo_S1x2048_S_d0_1 h_S_) main_v3 main_c
  let main_v5 : FVec F S1x2048x16 .f32 := (extractStridedSlice S1x2048x16 ![0, 0, 0] · slices_S4x2048x16_S1x2048x16_0_0_0) main_arg7
  let main_v6 : FVec F S1x2048x16 .f32 := Host.absf main_v5
  let main_cst_0 : FVec F S_ .f32 := constant S_ .f32 0x7F800000#32
  let main_v7 : FVec F S1x2048x16 .f32 := broadcastInDim S1x2048x16 ![] bcast_S_S1x2048x16 main_cst_0
  let main_v8 : IVec S1x2048x16 1 := cmpf .olt main_v6 main_v7
  let main_c_1 : IVec S_ 1 := constantI S_ 1 1#1
  let main_v9 : IVec S_ 1 := (fun x v => Host.reduce IntOp.andi x v reducesTo_S1x2048x16_S_d0_1_2 h_S_) main_v8 main_c_1
  let main_v10 : IVec S_ 1 := andi main_v4 main_v9
  main_v10
-- ==== Kernel.lean ====
abbrev S16x2048x4352 : Shape := ⟨3, ![16, 2048, 4352]⟩
abbrev S12x15x31 : Shape := ⟨3, ![12, 15, 31]⟩
abbrev S8x16 : Shape := ⟨2, ![8, 16]⟩
abbrev S64x64 : Shape := ⟨2, ![64, 64]⟩
abbrev S3x8x16 : Shape := ⟨3, ![3, 8, 16]⟩
abbrev S_ : Shape := ⟨0, ![]⟩
abbrev S8x16x1 : Shape := ⟨3, ![8, 16, 1]⟩
abbrev S12x8x16x31 : Shape := ⟨4, ![12, 8, 16, 31]⟩
abbrev S64x64x1 : Shape := ⟨3, ![64, 64, 1]⟩
abbrev S12x8x16x64x64 : Shape := ⟨5, ![12, 8, 16, 64, 64]⟩
abbrev S3x8x16x1x1 : Shape := ⟨5, ![3, 8, 16, 1, 1]⟩
abbrev S1x1x1x64x64 : Shape := ⟨5, ![1, 1, 1, 64, 64]⟩
abbrev S3x8x16x64x64 : Shape := ⟨5, ![3, 8, 16, 64, 64]⟩
abbrev S1x3x8x16x64x64 : Shape := ⟨6, ![1, 3, 8, 16, 64, 64]⟩
abbrev S12x1x8x16x64x64 : Shape := ⟨6, ![12, 1, 8, 16, 64, 64]⟩
abbrev S12x3x8x16x64x64 : Shape := ⟨6, ![12, 3, 8, 16, 64, 64]⟩
abbrev S12x3x8x64x16x64 : Shape := ⟨6, ![12, 3, 8, 64, 16, 64]⟩
abbrev S12x3x512x1024 : Shape := ⟨4, ![12, 3, 512, 1024]⟩
abbrev S16x2048x768 : Shape := ⟨3, ![16, 2048, 768]⟩
abbrev S1x512x128 : Shape := ⟨3, ![1, 512, 128]⟩
abbrev S1x256x128 : Shape := ⟨3, ![1, 256, 128]⟩
abbrev S2x1x512x1024 : Shape := ⟨4, ![2, 1, 512, 1024]⟩
abbrev S256x128 : Shape := ⟨2, ![256, 128]⟩
abbrev S512x128 : Shape := ⟨2, ![512, 128]⟩
abbrev S1024x128 : Shape := ⟨2, ![1024, 128]⟩
abbrev S768x128 : Shape := ⟨2, ![768, 128]⟩
abbrev S256x768 : Shape := ⟨2, ![256, 768]⟩
abbrev S1x1x256x768 : Shape := ⟨4, ![1, 1, 256, 768]⟩
abbrev S256 : Shape := ⟨1, ![256]⟩
abbrev S256x1 : Shape := ⟨2, ![256, 1]⟩

abbrev nBuf : Space → Nat
  | .hbm => 36
  | .vmem => 18
  | .smem => 0
  | _ => 0

abbrev bufTy : (tb : Table) → Fin (tcTables nBuf tb) → BufTy
  | .hbm, ⟨0, _⟩ => ⟨S16x2048x4352, .f32⟩
  | .hbm, ⟨1, _⟩ => ⟨S12x15x31, .f32⟩
  | .hbm, ⟨2, _⟩ => ⟨S8x16, .i32⟩
  | .hbm, ⟨3, _⟩ => ⟨S8x16, .i1⟩
  | .hbm, ⟨4, _⟩ => ⟨S64x64, .i32⟩
  | .hbm, ⟨5, _⟩ => ⟨S64x64, .i1⟩
  | .hbm, ⟨6, _⟩ => ⟨S3x8x16, .i1⟩
  | .hbm, ⟨7, _⟩ => ⟨S64x64, .i1⟩
  | .hbm, ⟨8, _⟩ => ⟨S_, .i32⟩
  | .hbm, ⟨9, _⟩ => ⟨S8x16, .i32⟩
  | .hbm, ⟨10, _⟩ => ⟨S8x16, .i32⟩
  | .hbm, ⟨11, _⟩ => ⟨S8x16, .i32⟩
  | .hbm, ⟨12, _⟩ => ⟨S8x16x1, .i32⟩
  | .hbm, ⟨13, _⟩ => ⟨S12x8x16x31, .f32⟩
  | .hbm, ⟨14, _⟩ => ⟨S_, .i32⟩
  | .hbm, ⟨15, _⟩ => ⟨S64x64, .i32⟩
  | .hbm, ⟨16, _⟩ => ⟨S64x64, .i32⟩
  | .hbm, ⟨17, _⟩ => ⟨S64x64, .i32⟩
  | .hbm, ⟨18, _⟩ => ⟨S64x64x1, .i32⟩
  | .hbm, ⟨19, _⟩ => ⟨S12x8x16x64x64, .f32⟩
  | .hbm, ⟨20, _⟩ => ⟨S3x8x16x1x1, .i1⟩
  | .hbm, ⟨21, _⟩ => ⟨S1x1x1x64x64, .i1⟩
  | .hbm, ⟨22, _⟩ => ⟨S3x8x16x64x64, .i1⟩
  | .hbm, ⟨23, _⟩ => ⟨S3x8x16x64x64, .i1⟩
  | .hbm, ⟨24, _⟩ => ⟨S3x8x16x64x64, .i1⟩
  | .hbm, ⟨25, _⟩ => ⟨S1x3x8x16x64x64, .i1⟩
  | .hbm, ⟨26, _⟩ => ⟨S12x1x8x16x64x64, .f32⟩
  | .hbm, ⟨27, _⟩ => ⟨S_, .f32⟩
  | .hbm, ⟨28, _⟩ => ⟨S_, .f32⟩
  | .hbm, ⟨29, _⟩ => ⟨S12x3x8x16x64x64, .i1⟩
  | .hbm, ⟨30, _⟩ => ⟨S12x3x8x16x64x64, .f32⟩
  | .hbm, ⟨31, _⟩ => ⟨S12x3x8x16x64x64, .f32⟩
  | .hbm, ⟨32, _⟩ => ⟨S12x3x8x16x64x64, .f32⟩
  | .hbm, ⟨33, _⟩ => ⟨S12x3x8x64x16x64, .f32⟩
  | .hbm, ⟨34, _⟩ => ⟨S12x3x512x1024, .f32⟩
  | .hbm, ⟨35, _⟩ => ⟨S16x2048x768, .f32⟩
  | .local _ .vmem, ⟨0, _⟩ => ⟨S1x512x128, .f32⟩
  | .local _ .vmem, ⟨1, _⟩ => ⟨S1x512x128, .f32⟩
  | .local _ .vmem, ⟨2, _⟩ => ⟨S1x256x128, .f32⟩
  | .local _ .vmem, ⟨3, _⟩ => ⟨S1x256x128, .f32⟩
  | .local _ .vmem, ⟨4, _⟩ => ⟨S1x512x128, .f32⟩
  | .local _ .vmem, ⟨5, _⟩ => ⟨S1x512x128, .f32⟩
  | .local _ .vmem, ⟨6, _⟩ => ⟨S1x256x128, .f32⟩
  | .local _ .vmem, ⟨7, _⟩ => ⟨S1x256x128, .f32⟩
  | .local _ .vmem, ⟨8, _⟩ => ⟨S1x256x128, .f32⟩
  | .local _ .vmem, ⟨9, _⟩ => ⟨S1x256x128, .f32⟩
  | .local _ .vmem, ⟨10, _⟩ => ⟨S1x512x128, .f32⟩
  | .local _ .vmem, ⟨11, _⟩ => ⟨S1x512x128, .f32⟩
  | .local _ .vmem, ⟨12, _⟩ => ⟨S1x256x128, .f32⟩
  | .local _ .vmem, ⟨13, _⟩ => ⟨S1x256x128, .f32⟩
  | .local _ .vmem, ⟨14, _⟩ => ⟨S2x1x512x1024, .f32⟩
  | .local _ .vmem, ⟨15, _⟩ => ⟨S2x1x512x1024, .f32⟩
  | .local _ .vmem, ⟨16, _⟩ => ⟨S1x512x128, .f32⟩
  | .local _ .vmem, ⟨17, _⟩ => ⟨S1x512x128, .f32⟩
  | _, _ => ⟨S16x2048x4352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_c_3 : Ref sig .tc := ⟨.hbm, 6, rfl⟩
abbrev main_c_4 : Ref sig .tc := ⟨.hbm, 7, rfl⟩
abbrev main_c_5 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_6 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![6, 4, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg0
  let c0_i32 : BitVec 32 := 0#32
  ![arg2.toNat, arg1.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg1
  let c1_i32 : BitVec 32 := 1#32
  let v1 : BitVec 32 := Scalar.subi v0 c1_i32
  let c0_i32 : BitVec 32 := 0#32
  let v2 : BitVec 32 := Scalar.maxsi v1 c0_i32
  let c18_i32 : BitVec 32 := 18#32
  let v3 : BitVec 32 := Scalar.addi c18_i32 arg0
  let c0_i32_0 : BitVec 32 := 0#32
  ![arg2.toNat, v2.toNat, v3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c18_i32 : BitVec 32 := 18#32
  let v0 : BitVec 32 := Scalar.addi c18_i32 arg0
  let c0_i32 : BitVec 32 := 0#32
  ![arg2.toNat, arg1.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg1
  let c2_i32_0 : BitVec 32 := 2#32
  let v1 : BitVec 32 := Scalar.addi v0 c2_i32_0
  let c7_i32 : BitVec 32 := 7#32
  let v2 : BitVec 32 := Scalar.minsi v1 c7_i32
  let c18_i32 : BitVec 32 := 18#32
  let v3 : BitVec 32 := Scalar.addi c18_i32 arg0
  let c0_i32 : BitVec 32 := 0#32
  ![arg2.toNat, v2.toNat, v3.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg1
  let c1_i32 : BitVec 32 := 1#32
  let v1 : BitVec 32 := Scalar.subi v0 c1_i32
  let c0_i32 : BitVec 32 := 0#32
  let v2 : BitVec 32 := Scalar.maxsi v1 c0_i32
  let c24_i32 : BitVec 32 := 24#32
  let v3 : BitVec 32 := Scalar.addi c24_i32 arg0
  let c0_i32_0 : BitVec 32 := 0#32
  ![arg2.toNat, v2.toNat, v3.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.addi c24_i32 arg0
  let c0_i32 : BitVec 32 := 0#32
  ![arg2.toNat, arg1.toNat, v0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg1
  let c2_i32_0 : BitVec 32 := 2#32
  let v1 : BitVec 32 := Scalar.addi v0 c2_i32_0
  let c7_i32 : BitVec 32 := 7#32
  let v2 : BitVec 32 := Scalar.minsi v1 c7_i32
  let c24_i32 : BitVec 32 := 24#32
  let v3 : BitVec 32 := Scalar.addi c24_i32 arg0
  let c0_i32 : BitVec 32 := 0#32
  ![arg2.toNat, v2.toNat, v3.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg1 c0_i32
  let c3_i32 : BitVec 32 := 3#32
  let v1 : BitVec 1 := Scalar.cmpi .eq arg1 c3_i32
  let c2_i32 : BitVec 32 := 2#32
  let c1_i32 : BitVec 32 := 1#32
  let v2 : BitVec 32 := Scalar.select v1 c2_i32 c1_i32
  let c0_i32_0 : BitVec 32 := 0#32
  let v3 : BitVec 32 := Scalar.select v0 c0_i32_0 v2
  let c0_i32_1 : BitVec 32 := 0#32
  let c0_i32_2 : BitVec 32 := 0#32
  let c0_i32_3 : BitVec 32 := 0#32
  ![arg0.toNat, v3.toNat, c0_i32_1.toNat, c0_i32_2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat, arg0.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S2x1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== ReferenceIdeal.lean ====
abbrev S16x2048x4352 : Shape := ⟨3, ![16, 2048, 4352]⟩
abbrev S12x15x31 : Shape := ⟨3, ![12, 15, 31]⟩
abbrev S16x2048x768 : Shape := ⟨3, ![16, 2048, 768]⟩
abbrev S_ : Shape := ⟨0, ![]⟩
abbrev S16x32x64x12x64 : Shape := ⟨5, ![16, 32, 64, 12, 64]⟩
abbrev S16x2048x12x64 : Shape := ⟨4, ![16, 2048, 12, 64]⟩
abbrev S32 : Shape := ⟨1, ![32]⟩
abbrev S64 : Shape := ⟨1, ![64]⟩
abbrev S32x1 : Shape := ⟨2, ![32, 1]⟩
abbrev S64x1 : Shape := ⟨2, ![64, 1]⟩
abbrev S1x32 : Shape := ⟨2, ![1, 32]⟩
abbrev S32x32 : Shape := ⟨2, ![32, 32]⟩
abbrev S1x64 : Shape := ⟨2, ![1, 64]⟩
abbrev S64x64 : Shape := ⟨2, ![64, 64]⟩
abbrev S32x1x32x1 : Shape := ⟨4, ![32, 1, 32, 1]⟩
abbrev S1x64x1x64 : Shape := ⟨4, ![1, 64, 1, 64]⟩
abbrev S32x64x32x64 : Shape := ⟨4, ![32, 64, 32, 64]⟩
abbrev S32x64x2048 : Shape := ⟨3, ![32, 64, 2048]⟩
abbrev S32x32x1 : Shape := ⟨3, ![32, 32, 1]⟩
abbrev S12x32x32x31 : Shape := ⟨4, ![12, 32, 32, 31]⟩
abbrev S64x64x1 : Shape := ⟨3, ![64, 64, 1]⟩
abbrev S12x32x32x64x64 : Shape := ⟨5, ![12, 32, 32, 64, 64]⟩
abbrev S12x32x64x32x64 : Shape := ⟨5, ![12, 32, 64, 32, 64]⟩
abbrev S12x32x64x2048 : Shape := ⟨4, ![12, 32, 64, 2048]⟩
abbrev S16x12x32x64x2048 : Shape := ⟨5, ![16, 12, 32, 64, 2048]⟩
abbrev S1x1x32x64x2048 : Shape := ⟨5, ![1, 1, 32, 64, 2048]⟩
abbrev S1x12x32x64x2048 : Shape := ⟨5, ![1, 12, 32, 64, 2048]⟩
abbrev S16x12x32x64 : Shape := ⟨4, ![16, 12, 32, 64]⟩
abbrev S16x12x32x64x1 : Shape := ⟨5, ![16, 12, 32, 64, 1]⟩
abbrev S16x12x64x32x64 : Shape := ⟨5, ![16, 12, 64, 32, 64]⟩

abbrev nBuf : Space → Nat
  | .hbm => 132
  | .vmem => 0
  | .smem => 0
  | _ => 0

abbrev hbmTy0_0 (i : Nat) : BufTy := match i % 128 with
  | 0 => ⟨S16x2048x4352, .f32⟩
  | 1 => ⟨S12x15x31, .f32⟩
  | 2 => ⟨S16x2048x768, .f32⟩
  | 3 => ⟨S_, .f32⟩
  | 4 => ⟨S16x2048x768, .f32⟩
  | 5 => ⟨S16x2048x768, .f32⟩
  | 6 => ⟨S16x2048x768, .f32⟩
  | 7 => ⟨S16x2048x768, .f32⟩
  | 8 => ⟨S16x32x64x12x64, .f32⟩
  | 9 => ⟨S16x2048x12x64, .f32⟩
  | 10 => ⟨S16x2048x12x64, .f32⟩
  | 11 => ⟨S32, .i32⟩
  | 12 => ⟨S64, .i32⟩
  | 13 => ⟨S_, .i32⟩
  | 14 => ⟨S32, .i32⟩
  | 15 => ⟨S32, .i32⟩
  | 16 => ⟨S_, .i32⟩
  | 17 => ⟨S_, .i32⟩
  | 18 => ⟨S_, .i32⟩
  | 19 => ⟨S32, .i32⟩
  | 20 => ⟨S32, .i32⟩
  | 21 => ⟨S_, .i32⟩
  | 22 => ⟨S32, .i32⟩
  | 23 => ⟨S32, .i32⟩
  | 24 => ⟨S32x1, .i32⟩
  | 25 => ⟨S_, .i32⟩
  | 26 => ⟨S64, .i32⟩
  | 27 => ⟨S64, .i32⟩
  | 28 => ⟨S_, .i32⟩
  | 29 => ⟨S_, .i32⟩
  | 30 => ⟨S_, .i32⟩
  | 31 => ⟨S64, .i32⟩
  | 32 => ⟨S64, .i32⟩
  | 33 => ⟨S_, .i32⟩
  | 34 => ⟨S64, .i32⟩
  | 35 => ⟨S64, .i32⟩
  | 36 => ⟨S64x1, .i32⟩
  | 37 => ⟨S1x32, .i32⟩
  | 38 => ⟨S32x32, .i32⟩
  | 39 => ⟨S32x32, .i32⟩
  | 40 => ⟨S32x32, .i1⟩
  | 41 => ⟨S1x32, .i32⟩
  | 42 => ⟨S_, .i32⟩
  | 43 => ⟨S32x1, .i32⟩
  | 44 => ⟨S32x1, .i32⟩
  | 45 => ⟨S32x32, .i32⟩
  | 46 => ⟨S32x32, .i32⟩
  | 47 => ⟨S32x32, .i1⟩
  | 48 => ⟨S32x32, .i1⟩
  | 49 => ⟨S1x64, .i32⟩
  | 50 => ⟨S64x64, .i32⟩
  | 51 => ⟨S64x64, .i32⟩
  | 52 => ⟨S64x64, .i1⟩
  | 53 => ⟨S1x64, .i32⟩
  | 54 => ⟨S_, .i32⟩
  | 55 => ⟨S64x1, .i32⟩
  | 56 => ⟨S64x1, .i32⟩
  | 57 => ⟨S64x64, .i32⟩
  | 58 => ⟨S64x64, .i32⟩
  | 59 => ⟨S64x64, .i1⟩
  | 60 => ⟨S64x64, .i1⟩
  | 61 => ⟨S32x1x32x1, .i1⟩
  | 62 => ⟨S1x64x1x64, .i1⟩
  | 63 => ⟨S32x64x32x64, .i1⟩
  | 64 => ⟨S32x64x32x64, .i1⟩
  | 65 => ⟨S32x64x32x64, .i1⟩
  | 66 => ⟨S32x64x2048, .i1⟩
  | 67 => ⟨S1x32, .i32⟩
  | 68 => ⟨S32x1, .i32⟩
  | 69 => ⟨S32x32, .i32⟩
  | 70 => ⟨S32x32, .i32⟩
  | 71 => ⟨S32x32, .i32⟩
  | 72 => ⟨S_, .i32⟩
  | 73 => ⟨S32x32, .i32⟩
  | 74 => ⟨S32x32, .i32⟩
  | 75 => ⟨S_, .i32⟩
  | 76 => ⟨S_, .i32⟩
  | 77 => ⟨S_, .i32⟩
  | 78 => ⟨S32x32, .i32⟩
  | 79 => ⟨S32x32, .i32⟩
  | 80 => ⟨S_, .i32⟩
  | 81 => ⟨S32x32, .i32⟩
  | 82 => ⟨S32x32, .i32⟩
  | 83 => ⟨S1x64, .i32⟩
  | 84 => ⟨S64x1, .i32⟩
  | 85 => ⟨S64x64, .i32⟩
  | 86 => ⟨S64x64, .i32⟩
  | 87 => ⟨S64x64, .i32⟩
  | 88 => ⟨S_, .i32⟩
  | 89 => ⟨S64x64, .i32⟩
  | 90 => ⟨S64x64, .i32⟩
  | 91 => ⟨S_, .i32⟩
  | 92 => ⟨S_, .i32⟩
  | 93 => ⟨S_, .i32⟩
  | 94 => ⟨S64x64, .i32⟩
  | 95 => ⟨S64x64, .i32⟩
  | 96 => ⟨S_, .i32⟩
  | 97 => ⟨S64x64, .i32⟩
  | 98 => ⟨S64x64, .i32⟩
  | 99 => ⟨S32x32x1, .i32⟩
  | 100 => ⟨S12x32x32x31, .f32⟩
  | 101 => ⟨S64x64x1, .i32⟩
  | 102 => ⟨S12x32x32x64x64, .f32⟩
  | 103 => ⟨S12x32x64x32x64, .f32⟩
  | 104 => ⟨S12x32x64x2048, .f32⟩
  | 105 => ⟨S16x12x32x64x2048, .f32⟩
  | 106 => ⟨S1x1x32x64x2048, .i1⟩
  | 107 => ⟨S1x12x32x64x2048, .f32⟩
  | 108 => ⟨S16x12x32x64x2048, .f32⟩
  | 109 => ⟨S16x12x32x64x2048, .f32⟩
  | 110 => ⟨S_, .f32⟩
  | 111 => ⟨S_, .f32⟩
  | 112 => ⟨S16x12x32x64x2048, .i1⟩
  | 113 => ⟨S16x12x32x64x2048, .f32⟩
  | 114 => ⟨S16x12x32x64x2048, .f32⟩
  | 115 => ⟨S_, .f32⟩
  | 116 => ⟨S16x12x32x64, .f32⟩
  | 117 => ⟨S_, .f32⟩
  | 118 => ⟨S16x12x32x64, .f32⟩
  | 119 => ⟨S16x12x32x64, .f32⟩
  | 120 => ⟨S16x12x32x64x1, .f32⟩
  | 121 => ⟨S16x12x32x64x2048, .f32⟩
  | 122 => ⟨S16x12x32x64x2048, .f32⟩
  | 123 => ⟨S16x12x32x64x2048, .f32⟩
  | 124 => ⟨S_, .f32⟩
  | 125 => ⟨S16x12x32x64, .f32⟩
  | 126 => ⟨S16x12x32x64x1, .f32⟩
  | 127 => ⟨S16x12x32x64x2048, .f32⟩
  | _ => ⟨S16x2048x4352, .f32⟩

abbrev hbmTy0_1 (i : Nat) : BufTy := match i % 128 with
  | 0 => ⟨S16x12x32x64x2048, .f32⟩
  | 1 => ⟨S16x12x64x32x64, .f32⟩
  | 2 => ⟨S16x32x64x12x64, .f32⟩
  | 3 => ⟨S16x2048x768, .f32⟩
  | _ => ⟨S16x2048x4352, .f32⟩

abbrev hbmTy (i : Nat) : BufTy := match i / 128 with
  | 0 => hbmTy0_0 i
  | 1 => hbmTy0_1 i
  | _ => ⟨S16x2048x4352, .f32⟩

abbrev bufTy : (tb : Table) → Fin (tcTables nBuf tb) → BufTy
  | .hbm, ⟨i, _⟩ => hbmTy i
  | _, _ => ⟨S16x2048x4352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_v10 : Ref sig .tc := ⟨.hbm, 14, rfl⟩
abbrev main_v11 : Ref sig .tc := ⟨.hbm, 15, rfl⟩
abbrev main_c_0 : Ref sig .tc := ⟨.hbm, 16, rfl⟩
abbrev main_c_1 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_c_3 : Ref sig .tc := ⟨.hbm, 28, rfl⟩
abbrev main_c_4 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_5 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_6 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_c_7 : Ref sig .tc := ⟨.hbm, 72, rfl⟩
abbrev main_v51 : Ref sig .tc := ⟨.hbm, 73, rfl⟩
abbrev main_v52 : Ref sig .tc := ⟨.hbm, 74, rfl⟩
abbrev main_c_8 : Ref sig .tc := ⟨.hbm, 75, rfl⟩
abbrev main_c_9 : Ref sig .tc := ⟨.hbm, 76, rfl⟩
abbrev main_call2_v0 : Ref sig .tc := ⟨.hbm, 77, rfl⟩
abbrev main_call2_v1 : Ref sig .tc := ⟨.hbm, 78, rfl⟩
abbrev main_call2_v2 : Ref sig .tc := ⟨.hbm, 79, rfl⟩
abbrev main_call2_v3 : Ref sig .tc := ⟨.hbm, 80, rfl⟩
abbrev main_call2_v4 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_c_10 : Ref sig .tc := ⟨.hbm, 88, rfl⟩
abbrev main_v59 : Ref sig .tc := ⟨.hbm, 89, rfl⟩
abbrev main_v60 : Ref sig .tc := ⟨.hbm, 90, rfl⟩
abbrev main_c_11 : Ref sig .tc := ⟨.hbm, 91, rfl⟩
abbrev main_c_12 : Ref sig .tc := ⟨.hbm, 92, rfl⟩
abbrev main_call3_v0 : Ref sig .tc := ⟨.hbm, 93, rfl⟩
abbrev main_call3_v1 : Ref sig .tc := ⟨.hbm, 94, rfl⟩
abbrev main_call3_v2 : Ref sig .tc := ⟨.hbm, 95, rfl⟩
abbrev main_call3_v3 : Ref sig .tc := ⟨.hbm, 96, rfl⟩
abbrev main_call3_v4 : Ref sig .tc := ⟨.hbm, 97, rfl⟩
abbrev main_v61 : Ref sig .tc := ⟨.hbm, 98, rfl⟩
abbrev main_call4_v0 : Ref sig .tc := ⟨.hbm, 99, rfl⟩
abbrev main_v62 : Ref sig .tc := ⟨.hbm, 100, rfl⟩
abbrev main_call5_v0 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_cst_13 : Ref sig .tc := ⟨.hbm, 110, rfl⟩
abbrev main_call6_v0 : Ref sig .tc := ⟨.hbm, 111, rfl⟩
abbrev main_call6_v1 : Ref sig .tc := ⟨.hbm, 112, rfl⟩
abbrev main_call6_v2 : Ref sig .tc := ⟨.hbm, 113, rfl⟩
abbrev main_v71 : Ref sig .tc := ⟨.hbm, 114, rfl⟩
abbrev main_cst_14 : Ref sig .tc := ⟨.hbm, 115, rfl⟩
abbrev main_v72 : Ref sig .tc := ⟨.hbm, 116, rfl⟩
abbrev main_cst_15 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_cst_16 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩

abbrev nD : Nat := 1
abbrev τ : Topo := Topo.v7x

variable {F : FTy → Type} [FloatOps F]
-- ==== Kernel2.lean ====
abbrev S32768x2048 : Shape := ⟨2, ![32768, 2048]⟩
abbrev S32768x16 : Shape := ⟨2, ![32768, 16]⟩
abbrev S4x16x2048x4096 : Shape := ⟨4, ![4, 16, 2048, 4096]⟩
abbrev S4x16x4096x2048 : Shape := ⟨4, ![4, 16, 4096, 2048]⟩
abbrev S16x32768 : Shape := ⟨2, ![16, 32768]⟩
abbrev S16x4096 : Shape := ⟨2, ![16, 4096]⟩
abbrev S_ : Shape := ⟨0, ![]⟩
abbrev S16x4096x1 : Shape := ⟨3, ![16, 4096, 1]⟩
abbrev S16x4096x2048 : Shape := ⟨3, ![16, 4096, 2048]⟩
abbrev S1x1024x2048 : Shape := ⟨3, ![1, 1024, 2048]⟩
abbrev S1x1x2048x512 : Shape := ⟨4, ![1, 1, 2048, 512]⟩
abbrev S1x1x512x2048 : Shape := ⟨4, ![1, 1, 512, 2048]⟩
abbrev S1x1024x1 : Shape := ⟨3, ![1, 1024, 1]⟩
abbrev S1024x2048 : Shape := ⟨2, ![1024, 2048]⟩
abbrev S2048x512 : Shape := ⟨2, ![2048, 512]⟩
abbrev S1024x512 : Shape := ⟨2, ![1024, 512]⟩
abbrev S512x2048 : Shape := ⟨2, ![512, 2048]⟩
abbrev S1024x1 : Shape := ⟨2, ![1024, 1]⟩

abbrev nBuf : Space → Nat
  | .hbm => 22
  | .vmem => 12
  | .smem => 0
  | _ => 0

abbrev bufTy : (tb : Table) → Fin (tcTables nBuf tb) → BufTy
  | .hbm, ⟨0, _⟩ => ⟨S32768x2048, .bf16⟩
  | .hbm, ⟨1, _⟩ => ⟨S32768x16, .f32⟩
  | .hbm, ⟨2, _⟩ => ⟨S4x16x2048x4096, .f32⟩
  | .hbm, ⟨3, _⟩ => ⟨S4x16x2048x4096, .f32⟩
  | .hbm, ⟨4, _⟩ => ⟨S4x16x4096x2048, .f32⟩
  | .hbm, ⟨5, _⟩ => ⟨S4x16x2048x4096, .bf16⟩
  | .hbm, ⟨6, _⟩ => ⟨S4x16x2048x4096, .bf16⟩
  | .hbm, ⟨7, _⟩ => ⟨S4x16x4096x2048, .bf16⟩
  | .hbm, ⟨8, _⟩ => ⟨S16x32768, .f32⟩
  | .hbm, ⟨9, _⟩ => ⟨S16x4096, .f32⟩
  | .hbm, ⟨10, _⟩ => ⟨S16x4096, .i32⟩
  | .hbm, ⟨11, _⟩ => ⟨S_, .i32⟩
  | .hbm, ⟨12, _⟩ => ⟨S16x4096, .i32⟩
  | .hbm, ⟨13, _⟩ => ⟨S16x4096, .i1⟩
  | .hbm, ⟨14, _⟩ => ⟨S_, .i32⟩
  | .hbm, ⟨15, _⟩ => ⟨S16x4096, .i32⟩
  | .hbm, ⟨16, _⟩ => ⟨S16x4096, .i32⟩
  | .hbm, ⟨17, _⟩ => ⟨S16x4096, .i32⟩
  | .hbm, ⟨18, _⟩ => ⟨S16x4096x1, .i32⟩
  | .hbm, ⟨19, _⟩ => ⟨S16x4096x2048, .bf16⟩
  | .hbm, ⟨20, _⟩ => ⟨S16x4096x1, .f32⟩
  | .hbm, ⟨21, _⟩ => ⟨S16x4096x2048, .f32⟩
  | .local _ .vmem, ⟨0, _⟩ => ⟨S1x1024x2048, .bf16⟩
  | .local _ .vmem, ⟨1, _⟩ => ⟨S1x1024x2048, .bf16⟩
  | .local _ .vmem, ⟨2, _⟩ => ⟨S1x1x2048x512, .bf16⟩
  | .local _ .vmem, ⟨3, _⟩ => ⟨S1x1x2048x512, .bf16⟩
  | .local _ .vmem, ⟨4, _⟩ => ⟨S1x1x2048x512, .bf16⟩
  | .local _ .vmem, ⟨5, _⟩ => ⟨S1x1x2048x512, .bf16⟩
  | .local _ .vmem, ⟨6, _⟩ => ⟨S1x1x512x2048, .bf16⟩
  | .local _ .vmem, ⟨7, _⟩ => ⟨S1x1x512x2048, .bf16⟩
  | .local _ .vmem, ⟨8, _⟩ => ⟨S1x1024x1, .f32⟩
  | .local _ .vmem, ⟨9, _⟩ => ⟨S1x1024x1, .f32⟩
  | .local _ .vmem, ⟨10, _⟩ => ⟨S1x1024x2048, .f32⟩
  | .local _ .vmem, ⟨11, _⟩ => ⟨S1x1024x2048, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_values : Ref sig .tc := ⟨.hbm, 9, rfl⟩
abbrev main_indices : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 4, 8], ![false, false, false]⟩

def k0_cond1 (i : grid0.Coords) : BitVec 1 :=
  let arg2 : BitVec 32 := BitVec.ofNat 32 (i 2).val
  let c0_i32 : BitVec 32 := 0#32
  let v15 : BitVec 1 := Scalar.cmpi .eq arg2 c0_i32
  let v16 : BitVec 32 := Scalar.extui v15
  let c0_i32_16 : BitVec 32 := 0#32
  let v17 : BitVec 1 := Scalar.cmpi .ne v16 c0_i32_16
  v17

def k0_cond2 (i : grid0.Coords) : BitVec 1 :=
  let arg2 : BitVec 32 := BitVec.ofNat 32 (i 2).val
  let c0_i32_17 : BitVec 32 := 0#32
  let v18 : BitVec 1 := Scalar.cmpi .sgt arg2 c0_i32_17
  let v19 : BitVec 32 := Scalar.extui v18
  let c0_i32_18 : BitVec 32 := 0#32
  let v20 : BitVec 1 := Scalar.cmpi .ne v19 c0_i32_18
  v20

def k0_cond3 (i : grid0.Coords) : BitVec 1 :=
  let arg2 : BitVec 32 := BitVec.ofNat 32 (i 2).val
  let c7_i32 : BitVec 32 := 7#32
  let v21 : BitVec 1 := Scalar.cmpi .eq arg2 c7_i32
  let v22 : BitVec 32 := Scalar.extui v21
  let c0_i32_19 : BitVec 32 := 0#32
  let v23 : BitVec 1 := Scalar.cmpi .ne v22 c0_i32_19
  v23

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat, arg2.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat, arg2.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, arg2.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference2Ideal.lean ====
abbrev S32768x2048 : Shape := ⟨2, ![32768, 2048]⟩
abbrev S32768x16 : Shape := ⟨2, ![32768, 16]⟩
abbrev S4x16x2048x4096 : Shape := ⟨4, ![4, 16, 2048, 4096]⟩
abbrev S4x16x4096x2048 : Shape := ⟨4, ![4, 16, 4096, 2048]⟩
abbrev S16x32768 : Shape := ⟨2, ![16, 32768]⟩
abbrev S16x4096 : Shape := ⟨2, ![16, 4096]⟩
abbrev S_ : Shape := ⟨0, ![]⟩
abbrev S16x4096x1 : Shape := ⟨3, ![16, 4096, 1]⟩
abbrev S16x4096x2048 : Shape := ⟨3, ![16, 4096, 2048]⟩
abbrev S1x16x2048x4096 : Shape := ⟨4, ![1, 16, 2048, 4096]⟩
abbrev S16x2048x4096 : Shape := ⟨3, ![16, 2048, 4096]⟩
abbrev S16x4096x4096 : Shape := ⟨3, ![16, 4096, 4096]⟩
abbrev S1x16x4096x2048 : Shape := ⟨4, ![1, 16, 4096, 2048]⟩

abbrev nBuf : Space → Nat
  | .hbm => 40
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S32768x16, .f32⟩
  | .hbm, ⟨2, _⟩ => ⟨S4x16x2048x4096, .f32⟩
  | .hbm, ⟨3, _⟩ => ⟨S4x16x2048x4096, .f32⟩
  | .hbm, ⟨4, _⟩ => ⟨S4x16x4096x2048, .f32⟩
  | .hbm, ⟨5, _⟩ => ⟨S16x32768, .f32⟩
  | .hbm, ⟨6, _⟩ => ⟨S16x4096, .f32⟩
  | .hbm, ⟨7, _⟩ => ⟨S16x4096, .i32⟩
  | .hbm, ⟨8, _⟩ => ⟨S32768x2048, .f32⟩
  | .hbm, ⟨9, _⟩ => ⟨S_, .i32⟩
  | .hbm, ⟨10, _⟩ => ⟨S16x4096, .i32⟩
  | .hbm, ⟨11, _⟩ => ⟨S16x4096, .i1⟩
  | .hbm, ⟨12, _⟩ => ⟨S_, .i32⟩
  | .hbm, ⟨13, _⟩ => ⟨S16x4096, .i32⟩
  | .hbm, ⟨14, _⟩ => ⟨S16x4096, .i32⟩
  | .hbm, ⟨15, _⟩ => ⟨S16x4096, .i32⟩
  | .hbm, ⟨16, _⟩ => ⟨S16x4096x1, .i32⟩
  | .hbm, ⟨17, _⟩ => ⟨S16x4096x2048, .f32⟩
  | .hbm, ⟨18, _⟩ => ⟨S1x16x2048x4096, .f32⟩
  | .hbm, ⟨19, _⟩ => ⟨S16x2048x4096, .f32⟩
  | .hbm, ⟨20, _⟩ => ⟨S16x4096x4096, .f32⟩
  | .hbm, ⟨21, _⟩ => ⟨S16x4096x4096, .f32⟩
  | .hbm, ⟨22, _⟩ => ⟨S16x4096x4096, .f32⟩
  | .hbm, ⟨23, _⟩ => ⟨S_, .f32⟩
  | .hbm, ⟨24, _⟩ => ⟨S16x4096x4096, .f32⟩
  | .hbm, ⟨25, _⟩ => ⟨S16x4096x4096, .f32⟩
  | .hbm, ⟨26, _⟩ => ⟨S_, .f32⟩
  | .hbm, ⟨27, _⟩ => ⟨S16x4096x4096, .f32⟩
  | .hbm, ⟨28, _⟩ => ⟨S16x4096x4096, .f32⟩
  | .hbm, ⟨29, _⟩ => ⟨S16x4096x4096, .f32⟩
  | .hbm, ⟨30, _⟩ => ⟨S1x16x2048x4096, .f32⟩
  | .hbm, ⟨31, _⟩ => ⟨S16x2048x4096, .f32⟩
  | .hbm, ⟨32, _⟩ => ⟨S16x4096x4096, .f32⟩
  | .hbm, ⟨33, _⟩ => ⟨S16x4096x4096, .f32⟩
  | .hbm, ⟨34, _⟩ => ⟨S1x16x4096x2048, .f32⟩
  | .hbm, ⟨35, _⟩ => ⟨S16x4096x2048, .f32⟩
  | .hbm, ⟨36, _⟩ => ⟨S16x4096x2048, .f32⟩
  | .hbm, ⟨37, _⟩ => ⟨S16x4096x1, .f32⟩
  | .hbm, ⟨38, _⟩ => ⟨S16x4096x2048, .f32⟩
  | .hbm, ⟨39, _⟩ => ⟨S16x4096x2048, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_values : Ref sig .tc := ⟨.hbm, 6, rfl⟩
abbrev main_indices : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩

abbrev nD : Nat := 1
abbrev τ : Topo := Topo.v7x

variable {F : FTy → Type} [FloatOps F]
-- ==== Kernel3.lean ====
abbrev S32768x2048 : Shape := ⟨2, ![32768, 2048]⟩
abbrev S4x2048 : Shape := ⟨2, ![4, 2048]⟩
abbrev S4x2048x4352 : Shape := ⟨3, ![4, 2048, 4352]⟩
abbrev S1x2048 : Shape := ⟨2, ![1, 2048]⟩
abbrev S2048 : Shape := ⟨1, ![2048]⟩
abbrev S32768x4352 : Shape := ⟨2, ![32768, 4352]⟩
abbrev S512x2048 : Shape := ⟨2, ![512, 2048]⟩
abbrev S1x2048x2176 : Shape := ⟨3, ![1, 2048, 2176]⟩
abbrev S512x2176 : Shape := ⟨2, ![512, 2176]⟩
abbrev S512 : Shape := ⟨1, ![512]⟩
abbrev S512x1 : Shape := ⟨2, ![512, 1]⟩
abbrev S2048x2176 : Shape := ⟨2, ![2048, 2176]⟩

abbrev nBuf : Space → Nat
  | .hbm => 8
  | .vmem => 7
  | .smem => 0
  | _ => 0

abbrev bufTy : (tb : Table) → Fin (tcTables nBuf tb) → BufTy
  | .hbm, ⟨0, _⟩ => ⟨S32768x2048, .f32⟩
  | .hbm, ⟨1, _⟩ => ⟨S4x2048, .f32⟩
  | .hbm, ⟨2, _⟩ => ⟨S4x2048x4352, .f32⟩
  | .hbm, ⟨3, _⟩ => ⟨S1x2048, .f32⟩
  | .hbm, ⟨4, _⟩ => ⟨S2048, .f32⟩
  | .hbm, ⟨5, _⟩ => ⟨S4x2048x4352, .bf16⟩
  | .hbm, ⟨6, _⟩ => ⟨S1x2048, .f32⟩
  | .hbm, ⟨7, _⟩ => ⟨S32768x4352, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048x2176, .bf16⟩
  | .local _ .vmem, ⟨4, _⟩ => ⟨S1x2048x2176, .bf16⟩
  | .local _ .vmem, ⟨5, _⟩ => ⟨S512x2176, .f32⟩
  | .local _ .vmem, ⟨6, _⟩ => ⟨S512x2176, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x2176 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2176 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S32768x2048 : Shape := ⟨2, ![32768, 2048]⟩
abbrev S4x2048 : Shape := ⟨2, ![4, 2048]⟩
abbrev S4x2048x4352 : Shape := ⟨3, ![4, 2048, 4352]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S2048 : Shape := ⟨1, ![2048]⟩
abbrev S1x2048x4352 : Shape := ⟨3, ![1, 2048, 4352]⟩
abbrev S2048x4352 : Shape := ⟨2, ![2048, 4352]⟩
abbrev S32768x4352 : Shape := ⟨2, ![32768, 4352]⟩

abbrev nBuf : Space → Nat
  | .hbm => 24
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S4x2048, .f32⟩
  | .hbm, ⟨2, _⟩ => ⟨S4x2048x4352, .f32⟩
  | .hbm, ⟨3, _⟩ => ⟨S32768x2048, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x2048, .f32⟩
  | .hbm, ⟨15, _⟩ => ⟨S32768x2048, .f32⟩
  | .hbm, ⟨16, _⟩ => ⟨S1x2048, .f32⟩
  | .hbm, ⟨17, _⟩ => ⟨S2048, .f32⟩
  | .hbm, ⟨18, _⟩ => ⟨S1x2048, .f32⟩
  | .hbm, ⟨19, _⟩ => ⟨S32768x2048, .f32⟩
  | .hbm, ⟨20, _⟩ => ⟨S32768x2048, .f32⟩
  | .hbm, ⟨21, _⟩ => ⟨S1x2048x4352, .f32⟩
  | .hbm, ⟨22, _⟩ => ⟨S2048x4352, .f32⟩
  | .hbm, ⟨23, _⟩ => ⟨S32768x4352, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== KernelLiteral.lean ====
abbrev S16x2048x4352 : Shape := ⟨3, ![16, 2048, 4352]⟩
abbrev S12x15x31 : Shape := ⟨3, ![12, 15, 31]⟩
abbrev S8x16 : Shape := ⟨2, ![8, 16]⟩
abbrev S64x64 : Shape := ⟨2, ![64, 64]⟩
abbrev S3x8x16 : Shape := ⟨3, ![3, 8, 16]⟩
abbrev S_ : Shape := ⟨0, ![]⟩
abbrev S8x16x1 : Shape := ⟨3, ![8, 16, 1]⟩
abbrev S12x8x16x31 : Shape := ⟨4, ![12, 8, 16, 31]⟩
abbrev S64x64x1 : Shape := ⟨3, ![64, 64, 1]⟩
abbrev S12x8x16x64x64 : Shape := ⟨5, ![12, 8, 16, 64, 64]⟩
abbrev S3x8x16x1x1 : Shape := ⟨5, ![3, 8, 16, 1, 1]⟩
abbrev S1x1x1x64x64 : Shape := ⟨5, ![1, 1, 1, 64, 64]⟩
abbrev S3x8x16x64x64 : Shape := ⟨5, ![3, 8, 16, 64, 64]⟩
abbrev S1x3x8x16x64x64 : Shape := ⟨6, ![1, 3, 8, 16, 64, 64]⟩
abbrev S12x1x8x16x64x64 : Shape := ⟨6, ![12, 1, 8, 16, 64, 64]⟩
abbrev S12x3x8x16x64x64 : Shape := ⟨6, ![12, 3, 8, 16, 64, 64]⟩
abbrev S12x3x8x64x16x64 : Shape := ⟨6, ![12, 3, 8, 64, 16, 64]⟩
abbrev S12x3x512x1024 : Shape := ⟨4, ![12, 3, 512, 1024]⟩
abbrev S16x2048x768 : Shape := ⟨3, ![16, 2048, 768]⟩
abbrev S1x512x128 : Shape := ⟨3, ![1, 512, 128]⟩
abbrev S1x256x128 : Shape := ⟨3, ![1, 256, 128]⟩
abbrev S2x1x512x1024 : Shape := ⟨4, ![2, 1, 512, 1024]⟩
abbrev S256x128 : Shape := ⟨2, ![256, 128]⟩
abbrev S512x128 : Shape := ⟨2, ![512, 128]⟩
abbrev S1024x128 : Shape := ⟨2, ![1024, 128]⟩
abbrev S768x128 : Shape := ⟨2, ![768, 128]⟩
abbrev S256x768 : Shape := ⟨2, ![256, 768]⟩
abbrev S1x1x256x768 : Shape := ⟨4, ![1, 1, 256, 768]⟩
abbrev S256 : Shape := ⟨1, ![256]⟩
abbrev S256x1 : Shape := ⟨2, ![256, 1]⟩

abbrev nBuf : Space → Nat
  | .hbm => 36
  | .vmem => 18
  | .smem => 0
  | _ => 0

abbrev bufTy : (tb : Table) → Fin (tcTables nBuf tb) → BufTy
  | .hbm, ⟨0, _⟩ => ⟨S16x2048x4352, .f32⟩
  | .hbm, ⟨1, _⟩ => ⟨S12x15x31, .f32⟩
  | .hbm, ⟨2, _⟩ => ⟨S8x16, .i32⟩
  | .hbm, ⟨3, _⟩ => ⟨S8x16, .i1⟩
  | .hbm, ⟨4, _⟩ => ⟨S64x64, .i32⟩
  | .hbm, ⟨5, _⟩ => ⟨S64x64, .i1⟩
  | .hbm, ⟨6, _⟩ => ⟨S3x8x16, .i1⟩
  | .hbm, ⟨7, _⟩ => ⟨S64x64, .i1⟩
  | .hbm, ⟨8, _⟩ => ⟨S_, .i32⟩
  | .hbm, ⟨9, _⟩ => ⟨S8x16, .i32⟩
  | .hbm, ⟨10, _⟩ => ⟨S8x16, .i32⟩
  | .hbm, ⟨11, _⟩ => ⟨S8x16, .i32⟩
  | .hbm, ⟨12, _⟩ => ⟨S8x16x1, .i32⟩
  | .hbm, ⟨13, _⟩ => ⟨S12x8x16x31, .f32⟩
  | .hbm, ⟨14, _⟩ => ⟨S_, .i32⟩
  | .hbm, ⟨15, _⟩ => ⟨S64x64, .i32⟩
  | .hbm, ⟨16, _⟩ => ⟨S64x64, .i32⟩
  | .hbm, ⟨17, _⟩ => ⟨S64x64, .i32⟩
  | .hbm, ⟨18, _⟩ => ⟨S64x64x1, .i32⟩
  | .hbm, ⟨19, _⟩ => ⟨S12x8x16x64x64, .f32⟩
  | .hbm, ⟨20, _⟩ => ⟨S3x8x16x1x1, .i1⟩
  | .hbm, ⟨21, _⟩ => ⟨S1x1x1x64x64, .i1⟩
  | .hbm, ⟨22, _⟩ => ⟨S3x8x16x64x64, .i1⟩
  | .hbm, ⟨23, _⟩ => ⟨S3x8x16x64x64, .i1⟩
  | .hbm, ⟨24, _⟩ => ⟨S3x8x16x64x64, .i1⟩
  | .hbm, ⟨25, _⟩ => ⟨S1x3x8x16x64x64, .i1⟩
  | .hbm, ⟨26, _⟩ => ⟨S12x1x8x16x64x64, .f32⟩
  | .hbm, ⟨27, _⟩ => ⟨S_, .f32⟩
  | .hbm, ⟨28, _⟩ => ⟨S_, .f32⟩
  | .hbm, ⟨29, _⟩ => ⟨S12x3x8x16x64x64, .i1⟩
  | .hbm, ⟨30, _⟩ => ⟨S12x3x8x16x64x64, .f32⟩
  | .hbm, ⟨31, _⟩ => ⟨S12x3x8x16x64x64, .f32⟩
  | .hbm, ⟨32, _⟩ => ⟨S12x3x8x16x64x64, .f32⟩
  | .hbm, ⟨33, _⟩ => ⟨S12x3x8x64x16x64, .f32⟩
  | .hbm, ⟨34, _⟩ => ⟨S12x3x512x1024, .f32⟩
  | .hbm, ⟨35, _⟩ => ⟨S16x2048x768, .f32⟩
  | .local _ .vmem, ⟨0, _⟩ => ⟨S1x512x128, .f32⟩
  | .local _ .vmem, ⟨1, _⟩ => ⟨S1x512x128, .f32⟩
  | .local _ .vmem, ⟨2, _⟩ => ⟨S1x256x128, .f32⟩
  | .local _ .vmem, ⟨3, _⟩ => ⟨S1x256x128, .f32⟩
  | .local _ .vmem, ⟨4, _⟩ => ⟨S1x512x128, .f32⟩
  | .local _ .vmem, ⟨5, _⟩ => ⟨S1x512x128, .f32⟩
  | .local _ .vmem, ⟨6, _⟩ => ⟨S1x256x128, .f32⟩
  | .local _ .vmem, ⟨7, _⟩ => ⟨S1x256x128, .f32⟩
  | .local _ .vmem, ⟨8, _⟩ => ⟨S1x256x128, .f32⟩
  | .local _ .vmem, ⟨9, _⟩ => ⟨S1x256x128, .f32⟩
  | .local _ .vmem, ⟨10, _⟩ => ⟨S1x512x128, .f32⟩
  | .local _ .vmem, ⟨11, _⟩ => ⟨S1x512x128, .f32⟩
  | .local _ .vmem, ⟨12, _⟩ => ⟨S1x256x128, .f32⟩
  | .local _ .vmem, ⟨13, _⟩ => ⟨S1x256x128, .f32⟩
  | .local _ .vmem, ⟨14, _⟩ => ⟨S2x1x512x1024, .f32⟩
  | .local _ .vmem, ⟨15, _⟩ => ⟨S2x1x512x1024, .f32⟩
  | .local _ .vmem, ⟨16, _⟩ => ⟨S1x512x128, .f32⟩
  | .local _ .vmem, ⟨17, _⟩ => ⟨S1x512x128, .f32⟩
  | _, _ => ⟨S16x2048x4352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_c_3 : Ref sig .tc := ⟨.hbm, 6, rfl⟩
abbrev main_c_4 : Ref sig .tc := ⟨.hbm, 7, rfl⟩
abbrev main_c_5 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_6 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![6, 4, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg0
  let c0_i32 : BitVec 32 := 0#32
  ![arg2.toNat, arg1.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg1
  let c1_i32 : BitVec 32 := 1#32
  let v1 : BitVec 32 := Scalar.subi v0 c1_i32
  let c0_i32 : BitVec 32 := 0#32
  let v2 : BitVec 32 := Scalar.maxsi v1 c0_i32
  let c18_i32 : BitVec 32 := 18#32
  let v3 : BitVec 32 := Scalar.addi c18_i32 arg0
  let c0_i32_0 : BitVec 32 := 0#32
  ![arg2.toNat, v2.toNat, v3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c18_i32 : BitVec 32 := 18#32
  let v0 : BitVec 32 := Scalar.addi c18_i32 arg0
  let c0_i32 : BitVec 32 := 0#32
  ![arg2.toNat, arg1.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg1
  let c2_i32_0 : BitVec 32 := 2#32
  let v1 : BitVec 32 := Scalar.addi v0 c2_i32_0
  let c7_i32 : BitVec 32 := 7#32
  let v2 : BitVec 32 := Scalar.minsi v1 c7_i32
  let c18_i32 : BitVec 32 := 18#32
  let v3 : BitVec 32 := Scalar.addi c18_i32 arg0
  let c0_i32 : BitVec 32 := 0#32
  ![arg2.toNat, v2.toNat, v3.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg1
  let c1_i32 : BitVec 32 := 1#32
  let v1 : BitVec 32 := Scalar.subi v0 c1_i32
  let c0_i32 : BitVec 32 := 0#32
  let v2 : BitVec 32 := Scalar.maxsi v1 c0_i32
  let c24_i32 : BitVec 32 := 24#32
  let v3 : BitVec 32 := Scalar.addi c24_i32 arg0
  let c0_i32_0 : BitVec 32 := 0#32
  ![arg2.toNat, v2.toNat, v3.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.addi c24_i32 arg0
  let c0_i32 : BitVec 32 := 0#32
  ![arg2.toNat, arg1.toNat, v0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg1
  let c2_i32_0 : BitVec 32 := 2#32
  let v1 : BitVec 32 := Scalar.addi v0 c2_i32_0
  let c7_i32 : BitVec 32 := 7#32
  let v2 : BitVec 32 := Scalar.minsi v1 c7_i32
  let c24_i32 : BitVec 32 := 24#32
  let v3 : BitVec 32 := Scalar.addi c24_i32 arg0
  let c0_i32 : BitVec 32 := 0#32
  ![arg2.toNat, v2.toNat, v3.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg1 c0_i32
  let c3_i32 : BitVec 32 := 3#32
  let v1 : BitVec 1 := Scalar.cmpi .eq arg1 c3_i32
  let c2_i32 : BitVec 32 := 2#32
  let c1_i32 : BitVec 32 := 1#32
  let v2 : BitVec 32 := Scalar.select v1 c2_i32 c1_i32
  let c0_i32_0 : BitVec 32 := 0#32
  let v3 : BitVec 32 := Scalar.select v0 c0_i32_0 v2
  let c0_i32_1 : BitVec 32 := 0#32
  let c0_i32_2 : BitVec 32 := 0#32
  let c0_i32_3 : BitVec 32 := 0#32
  ![arg0.toNat, v3.toNat, c0_i32_1.toNat, c0_i32_2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat, arg0.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S2x1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Kernel4.lean ====
abbrev S32768x768 : Shape := ⟨2, ![32768, 768]⟩
abbrev S32768x512 : Shape := ⟨2, ![32768, 512]⟩
abbrev S32768x2048 : Shape := ⟨2, ![32768, 2048]⟩
abbrev S4x2048 : Shape := ⟨2, ![4, 2048]⟩
abbrev S4x2048x2048 : Shape := ⟨3, ![4, 2048, 2048]⟩
abbrev S4x2048x16 : Shape := ⟨3, ![4, 2048, 16]⟩
abbrev S_ : Shape := ⟨0, ![]⟩
abbrev S2048x128 : Shape := ⟨2, ![2048, 128]⟩
abbrev S1x2048x16 : Shape := ⟨3, ![1, 2048, 16]⟩
abbrev S2048x16 : Shape := ⟨2, ![2048, 16]⟩
abbrev S1 : Shape := ⟨1, ![1]⟩
abbrev S1x2048 : Shape := ⟨2, ![1, 2048]⟩
abbrev S2048 : Shape := ⟨1, ![2048]⟩
abbrev S32768x128 : Shape := ⟨2, ![32768, 128]⟩
abbrev S256x768 : Shape := ⟨2, ![256, 768]⟩
abbrev S256x512 : Shape := ⟨2, ![256, 512]⟩
abbrev S256x2048 : Shape := ⟨2, ![256, 2048]⟩
abbrev S1x2048x2048 : Shape := ⟨3, ![1, 2048, 2048]⟩
abbrev S256x128 : Shape := ⟨2, ![256, 128]⟩
abbrev S1x768 : Shape := ⟨2, ![1, 768]⟩
abbrev S256 : Shape := ⟨1, ![256]⟩
abbrev S256x1 : Shape := ⟨2, ![256, 1]⟩
abbrev S1x512 : Shape := ⟨2, ![1, 512]⟩
abbrev S1x768x2048 : Shape := ⟨3, ![1, 768, 2048]⟩
abbrev S768x2048 : Shape := ⟨2, ![768, 2048]⟩
abbrev S1x512x2048 : Shape := ⟨3, ![1, 512, 2048]⟩
abbrev S512x2048 : Shape := ⟨2, ![512, 2048]⟩

abbrev nBuf : Space → Nat
  | .hbm => 29
  | .vmem => 19
  | .smem => 0
  | _ => 0

abbrev bufTy : (tb : Table) → Fin (tcTables nBuf tb) → BufTy
  | .hbm, ⟨0, _⟩ => ⟨S32768x768, .f32⟩
  | .hbm, ⟨1, _⟩ => ⟨S32768x768, .f32⟩
  | .hbm, ⟨2, _⟩ => ⟨S32768x512, .f32⟩
  | .hbm, ⟨3, _⟩ => ⟨S32768x2048, .f32⟩
  | .hbm, ⟨4, _⟩ => ⟨S4x2048, .f32⟩
  | .hbm, ⟨5, _⟩ => ⟨S4x2048x2048, .f32⟩
  | .hbm, ⟨6, _⟩ => ⟨S4x2048, .f32⟩
  | .hbm, ⟨7, _⟩ => ⟨S4x2048x16, .f32⟩
  | .hbm, ⟨8, _⟩ => ⟨S_, .f32⟩
  | .hbm, ⟨9, _⟩ => ⟨S2048x128, .f32⟩
  | .hbm, ⟨10, _⟩ => ⟨S1x2048x16, .f32⟩
  | .hbm, ⟨11, _⟩ => ⟨S2048x16, .f32⟩
  | .hbm, ⟨12, _⟩ => ⟨S_, .i32⟩
  | .hbm, ⟨13, _⟩ => ⟨S1, .i32⟩
  | .hbm, ⟨14, _⟩ => ⟨S2048x128, .f32⟩
  | .hbm, ⟨15, _⟩ => ⟨S2048x128, .bf16⟩
  | .hbm, ⟨16, _⟩ => ⟨S2048x128, .f32⟩
  | .hbm, ⟨17, _⟩ => ⟨S2048x128, .f32⟩
  | .hbm, ⟨18, _⟩ => ⟨S2048x128, .bf16⟩
  | .hbm, ⟨19, _⟩ => ⟨S1x2048, .f32⟩
  | .hbm, ⟨20, _⟩ => ⟨S2048, .f32⟩
  | .hbm, ⟨21, _⟩ => ⟨S4x2048x2048, .bf16⟩
  | .hbm, ⟨22, _⟩ => ⟨S1x2048, .f32⟩
  | .hbm, ⟨23, _⟩ => ⟨S2048, .f32⟩
  | .hbm, ⟨24, _⟩ => ⟨S1x2048, .f32⟩
  | .hbm, ⟨25, _⟩ => ⟨S1x2048, .f32⟩
  | .hbm, ⟨26, _⟩ => ⟨S32768x2048, .f32⟩
  | .hbm, ⟨27, _⟩ => ⟨S32768x2048, .bf16⟩
  | .hbm, ⟨28, _⟩ => ⟨S32768x128, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x512, .f32⟩
  | .local _ .vmem, ⟨5, _⟩ => ⟨S256x512, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S1x2048x2048, .bf16⟩
  | .local _ .vmem, ⟨10, _⟩ => ⟨S1x2048, .f32⟩
  | .local _ .vmem, ⟨11, _⟩ => ⟨S2048x128, .bf16⟩
  | .local _ .vmem, ⟨12, _⟩ => ⟨S2048x128, .bf16⟩
  | .local _ .vmem, ⟨13, _⟩ => ⟨S256x2048, .f32⟩
  | .local _ .vmem, ⟨14, _⟩ => ⟨S256x2048, .f32⟩
  | .local _ .vmem, ⟨15, _⟩ => ⟨S256x2048, .bf16⟩
  | .local _ .vmem, ⟨16, _⟩ => ⟨S256x2048, .bf16⟩
  | .local _ .vmem, ⟨17, _⟩ => ⟨S256x128, .f32⟩
  | .local _ .vmem, ⟨18, _⟩ => ⟨S256x128, .f32⟩
  | _, _ => ⟨S32768x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16_0 : Ref sig .tc := ⟨.hbm, 26, rfl⟩
abbrev main_v16_1 : Ref sig .tc := ⟨.hbm, 27, rfl⟩
abbrev main_v16_2 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Kernel4Ideal.lean ====
variable {F : FTy → Type} [FloatOps F] [Named F]
def κ : String → Option EReal := fun
  | "mask" => some ⊥
  | _ => none
-- ==== Reference4Ideal.lean ====
abbrev S32768x768 : Shape := ⟨2, ![32768, 768]⟩
abbrev S32768x512 : Shape := ⟨2, ![32768, 512]⟩
abbrev S32768x2048 : Shape := ⟨2, ![32768, 2048]⟩
abbrev S4x2048 : Shape := ⟨2, ![4, 2048]⟩
abbrev S4x2048x2048 : Shape := ⟨3, ![4, 2048, 2048]⟩
abbrev S4x2048x16 : Shape := ⟨3, ![4, 2048, 16]⟩
abbrev S1x2048 : Shape := ⟨2, ![1, 2048]⟩
abbrev S2048 : Shape := ⟨1, ![2048]⟩
abbrev S768 : Shape := ⟨1, ![768]⟩
abbrev S_ : Shape := ⟨0, ![]⟩
abbrev S32768 : Shape := ⟨1, ![32768]⟩
abbrev S32768x1 : Shape := ⟨2, ![32768, 1]⟩
abbrev S1x768 : Shape := ⟨2, ![1, 768]⟩
abbrev S512 : Shape := ⟨1, ![512]⟩
abbrev S1x512 : Shape := ⟨2, ![1, 512]⟩
abbrev S1x2048x2048 : Shape := ⟨3, ![1, 2048, 2048]⟩
abbrev S2048x2048 : Shape := ⟨2, ![2048, 2048]⟩
abbrev S1x2048x16 : Shape := ⟨3, ![1, 2048, 16]⟩
abbrev S2048x16 : Shape := ⟨2, ![2048, 16]⟩
abbrev S32768x16 : Shape := ⟨2, ![32768, 16]⟩
abbrev S32768x128 : Shape := ⟨2, ![32768, 128]⟩

abbrev nBuf : Space → Nat
  | .hbm => 105
  | .vmem => 0
  | .smem => 0
  | _ => 0

abbrev bufTy : (tb : Table) → Fin (tcTables nBuf tb) → BufTy
  | .hbm, ⟨0, _⟩ => ⟨S32768x768, .f32⟩
  | .hbm, ⟨1, _⟩ => ⟨S32768x768, .f32⟩
  | .hbm, ⟨2, _⟩ => ⟨S32768x512, .f32⟩
  | .hbm, ⟨3, _⟩ => ⟨S32768x2048, .f32⟩
  | .hbm, ⟨4, _⟩ => ⟨S4x2048, .f32⟩
  | .hbm, ⟨5, _⟩ => ⟨S4x2048x2048, .f32⟩
  | .hbm, ⟨6, _⟩ => ⟨S4x2048, .f32⟩
  | .hbm, ⟨7, _⟩ => ⟨S4x2048x16, .f32⟩
  | .hbm, ⟨8, _⟩ => ⟨S1x2048, .f32⟩
  | .hbm, ⟨9, _⟩ => ⟨S2048, .f32⟩
  | .hbm, ⟨10, _⟩ => ⟨S768, .f32⟩
  | .hbm, ⟨11, _⟩ => ⟨S32768x768, .f32⟩
  | .hbm, ⟨12, _⟩ => ⟨S_, .f32⟩
  | .hbm, ⟨13, _⟩ => ⟨S32768, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S_, .f32⟩
  | .hbm, ⟨19, _⟩ => ⟨S32768x1, .f32⟩
  | .hbm, ⟨20, _⟩ => ⟨S32768x1, .f32⟩
  | .hbm, ⟨21, _⟩ => ⟨S32768x1, .f32⟩
  | .hbm, ⟨22, _⟩ => ⟨S32768x768, .f32⟩
  | .hbm, ⟨23, _⟩ => ⟨S32768x768, .f32⟩
  | .hbm, ⟨24, _⟩ => ⟨S1x768, .f32⟩
  | .hbm, ⟨25, _⟩ => ⟨S32768x768, .f32⟩
  | .hbm, ⟨26, _⟩ => ⟨S32768x768, .f32⟩
  | .hbm, ⟨27, _⟩ => ⟨S768, .f32⟩
  | .hbm, ⟨28, _⟩ => ⟨S32768x768, .f32⟩
  | .hbm, ⟨29, _⟩ => ⟨S_, .f32⟩
  | .hbm, ⟨30, _⟩ => ⟨S32768, .f32⟩
  | .hbm, ⟨31, _⟩ => ⟨S32768x1, .f32⟩
  | .hbm, ⟨32, _⟩ => ⟨S_, .f32⟩
  | .hbm, ⟨33, _⟩ => ⟨S32768x1, .f32⟩
  | .hbm, ⟨34, _⟩ => ⟨S32768x1, .f32⟩
  | .hbm, ⟨35, _⟩ => ⟨S_, .f32⟩
  | .hbm, ⟨36, _⟩ => ⟨S32768x1, .f32⟩
  | .hbm, ⟨37, _⟩ => ⟨S32768x1, .f32⟩
  | .hbm, ⟨38, _⟩ => ⟨S32768x1, .f32⟩
  | .hbm, ⟨39, _⟩ => ⟨S32768x768, .f32⟩
  | .hbm, ⟨40, _⟩ => ⟨S32768x768, .f32⟩
  | .hbm, ⟨41, _⟩ => ⟨S1x768, .f32⟩
  | .hbm, ⟨42, _⟩ => ⟨S32768x768, .f32⟩
  | .hbm, ⟨43, _⟩ => ⟨S32768x768, .f32⟩
  | .hbm, ⟨44, _⟩ => ⟨S512, .f32⟩
  | .hbm, ⟨45, _⟩ => ⟨S32768x512, .f32⟩
  | .hbm, ⟨46, _⟩ => ⟨S_, .f32⟩
  | .hbm, ⟨47, _⟩ => ⟨S32768, .f32⟩
  | .hbm, ⟨48, _⟩ => ⟨S32768x1, .f32⟩
  | .hbm, ⟨49, _⟩ => ⟨S_, .f32⟩
  | .hbm, ⟨50, _⟩ => ⟨S32768x1, .f32⟩
  | .hbm, ⟨51, _⟩ => ⟨S32768x1, .f32⟩
  | .hbm, ⟨52, _⟩ => ⟨S_, .f32⟩
  | .hbm, ⟨53, _⟩ => ⟨S32768x1, .f32⟩
  | .hbm, ⟨54, _⟩ => ⟨S32768x1, .f32⟩
  | .hbm, ⟨55, _⟩ => ⟨S32768x1, .f32⟩
  | .hbm, ⟨56, _⟩ => ⟨S32768x512, .f32⟩
  | .hbm, ⟨57, _⟩ => ⟨S32768x512, .f32⟩
  | .hbm, ⟨58, _⟩ => ⟨S1x512, .f32⟩
  | .hbm, ⟨59, _⟩ => ⟨S32768x512, .f32⟩
  | .hbm, ⟨60, _⟩ => ⟨S32768x512, .f32⟩
  | .hbm, ⟨61, _⟩ => ⟨S32768x2048, .f32⟩
  | .hbm, ⟨62, _⟩ => ⟨S1x2048x2048, .f32⟩
  | .hbm, ⟨63, _⟩ => ⟨S2048x2048, .f32⟩
  | .hbm, ⟨64, _⟩ => ⟨S32768x2048, .f32⟩
  | .hbm, ⟨65, _⟩ => ⟨S32768x2048, .f32⟩
  | .hbm, ⟨66, _⟩ => ⟨S1x2048, .f32⟩
  | .hbm, ⟨67, _⟩ => ⟨S2048, .f32⟩
  | .hbm, ⟨68, _⟩ => ⟨S32768x2048, .f32⟩
  | .hbm, ⟨69, _⟩ => ⟨S_, .f32⟩
  | .hbm, ⟨70, _⟩ => ⟨S32768, .f32⟩
  | .hbm, ⟨71, _⟩ => ⟨S32768x1, .f32⟩
  | .hbm, ⟨72, _⟩ => ⟨S_, .f32⟩
  | .hbm, ⟨73, _⟩ => ⟨S32768x1, .f32⟩
  | .hbm, ⟨74, _⟩ => ⟨S32768x1, .f32⟩
  | .hbm, ⟨75, _⟩ => ⟨S_, .f32⟩
  | .hbm, ⟨76, _⟩ => ⟨S32768x1, .f32⟩
  | .hbm, ⟨77, _⟩ => ⟨S32768x1, .f32⟩
  | .hbm, ⟨78, _⟩ => ⟨S32768x1, .f32⟩
  | .hbm, ⟨79, _⟩ => ⟨S32768x2048, .f32⟩
  | .hbm, ⟨80, _⟩ => ⟨S32768x2048, .f32⟩
  | .hbm, ⟨81, _⟩ => ⟨S1x2048, .f32⟩
  | .hbm, ⟨82, _⟩ => ⟨S32768x2048, .f32⟩
  | .hbm, ⟨83, _⟩ => ⟨S32768x2048, .f32⟩
  | .hbm, ⟨84, _⟩ => ⟨S1x2048x16, .f32⟩
  | .hbm, ⟨85, _⟩ => ⟨S2048x16, .f32⟩
  | .hbm, ⟨86, _⟩ => ⟨S32768x16, .f32⟩
  | .hbm, ⟨87, _⟩ => ⟨S_, .f32⟩
  | .hbm, ⟨88, _⟩ => ⟨S32768, .f32⟩
  | .hbm, ⟨89, _⟩ => ⟨S_, .f32⟩
  | .hbm, ⟨90, _⟩ => ⟨S32768, .f32⟩
  | .hbm, ⟨91, _⟩ => ⟨S32768, .f32⟩
  | .hbm, ⟨92, _⟩ => ⟨S32768x1, .f32⟩
  | .hbm, ⟨93, _⟩ => ⟨S32768x16, .f32⟩
  | .hbm, ⟨94, _⟩ => ⟨S32768x16, .f32⟩
  | .hbm, ⟨95, _⟩ => ⟨S32768x16, .f32⟩
  | .hbm, ⟨96, _⟩ => ⟨S_, .f32⟩
  | .hbm, ⟨97, _⟩ => ⟨S32768, .f32⟩
  | .hbm, ⟨98, _⟩ => ⟨S32768x1, .f32⟩
  | .hbm, ⟨99, _⟩ => ⟨S32768x16, .f32⟩
  | .hbm, ⟨100, _⟩ => ⟨S32768x16, .f32⟩
  | .hbm, ⟨101, _⟩ => ⟨S32768x2048, .bf16⟩
  | .hbm, ⟨102, _⟩ => ⟨S_, .i32⟩
  | .hbm, ⟨103, _⟩ => ⟨S_, .f32⟩
  | .hbm, ⟨104, _⟩ => ⟨S32768x128, .f32⟩
  | _, _ => ⟨S32768x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_cst_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_8 : Ref sig .tc := ⟨.hbm, 69, rfl⟩
abbrev main_v52 : Ref sig .tc := ⟨.hbm, 70, rfl⟩
abbrev main_v53 : Ref sig .tc := ⟨.hbm, 71, rfl⟩
abbrev main_cst_9 : Ref sig .tc := ⟨.hbm, 72, rfl⟩
abbrev main_v54 : Ref sig .tc := ⟨.hbm, 73, rfl⟩
abbrev main_v55 : Ref sig .tc := ⟨.hbm, 74, rfl⟩
abbrev main_cst_10 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_11 : Ref sig .tc := ⟨.hbm, 87, rfl⟩
abbrev main_v67 : Ref sig .tc := ⟨.hbm, 88, rfl⟩
abbrev main_cst_12 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_cst_13 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_c : Ref sig .tc := ⟨.hbm, 102, rfl⟩
abbrev main_call0_v0 : Ref sig .tc := ⟨.hbm, 103, rfl⟩
abbrev main_v79 : Ref sig .tc := ⟨.hbm, 104, rfl⟩

abbrev nD : Nat := 1
abbrev τ : Topo := Topo.v7x

variable {F : FTy → Type} [FloatOps F]
-- ==== Kernel5.lean ====
abbrev S16x2048x2048 : Shape := ⟨3, ![16, 2048, 2048]⟩
abbrev S2048 : Shape := ⟨1, ![2048]⟩
abbrev S32768x2048 : Shape := ⟨2, ![32768, 2048]⟩
abbrev S1x2048 : Shape := ⟨2, ![1, 2048]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 5
  | .vmem => 5
  | .smem => 0
  | _ => 0

abbrev bufTy : (tb : Table) → Fin (tcTables nBuf tb) → BufTy
  | .hbm, ⟨0, _⟩ => ⟨S16x2048x2048, .f32⟩
  | .hbm, ⟨1, _⟩ => ⟨S2048, .f32⟩
  | .hbm, ⟨2, _⟩ => ⟨S32768x2048, .f32⟩
  | .hbm, ⟨3, _⟩ => ⟨S1x2048, .f32⟩
  | .hbm, ⟨4, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1024x2048, .f32⟩
  | .local _ .vmem, ⟨4, _⟩ => ⟨S1024x2048, .f32⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S16x2048x2048 : Shape := ⟨3, ![16, 2048, 2048]⟩
abbrev S2048 : Shape := ⟨1, ![2048]⟩
abbrev S_ : Shape := ⟨0, ![]⟩
abbrev S16x2048 : Shape := ⟨2, ![16, 2048]⟩
abbrev S16x2048x1 : Shape := ⟨3, ![16, 2048, 1]⟩
abbrev S1x1x2048 : Shape := ⟨3, ![1, 1, 2048]⟩
abbrev S32768x2048 : Shape := ⟨2, ![32768, 2048]⟩

abbrev nBuf : Space → Nat
  | .hbm => 19
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S2048, .f32⟩
  | .hbm, ⟨2, _⟩ => ⟨S16x2048x2048, .f32⟩
  | .hbm, ⟨3, _⟩ => ⟨S_, .f32⟩
  | .hbm, ⟨4, _⟩ => ⟨S16x2048, .f32⟩
  | .hbm, ⟨5, _⟩ => ⟨S16x2048x1, .f32⟩
  | .hbm, ⟨6, _⟩ => ⟨S_, .f32⟩
  | .hbm, ⟨7, _⟩ => ⟨S16x2048x1, .f32⟩
  | .hbm, ⟨8, _⟩ => ⟨S16x2048x1, .f32⟩
  | .hbm, ⟨9, _⟩ => ⟨S_, .f32⟩
  | .hbm, ⟨10, _⟩ => ⟨S16x2048x1, .f32⟩
  | .hbm, ⟨11, _⟩ => ⟨S16x2048x1, .f32⟩
  | .hbm, ⟨12, _⟩ => ⟨S16x2048x1, .f32⟩
  | .hbm, ⟨13, _⟩ => ⟨S16x2048x2048, .f32⟩
  | .hbm, ⟨14, _⟩ => ⟨S16x2048x2048, .f32⟩
  | .hbm, ⟨15, _⟩ => ⟨S1x1x2048, .f32⟩
  | .hbm, ⟨16, _⟩ => ⟨S16x2048x2048, .f32⟩
  | .hbm, ⟨17, _⟩ => ⟨S16x2048x2048, .f32⟩
  | .hbm, ⟨18, _⟩ => ⟨S32768x2048, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel6.lean ====
abbrev S1x16384x2048 : Shape := ⟨3, ![1, 16384, 2048]⟩
abbrev S2048 : Shape := ⟨1, ![2048]⟩
abbrev S16384x2048 : Shape := ⟨2, ![16384, 2048]⟩
abbrev S1x2048 : Shape := ⟨2, ![1, 2048]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 5
  | .vmem => 5
  | .smem => 0
  | _ => 0

abbrev bufTy : (tb : Table) → Fin (tcTables nBuf tb) → BufTy
  | .hbm, ⟨0, _⟩ => ⟨S1x16384x2048, .f32⟩
  | .hbm, ⟨1, _⟩ => ⟨S2048, .f32⟩
  | .hbm, ⟨2, _⟩ => ⟨S16384x2048, .f32⟩
  | .hbm, ⟨3, _⟩ => ⟨S1x2048, .f32⟩
  | .hbm, ⟨4, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1024x2048, .f32⟩
  | .local _ .vmem, ⟨4, _⟩ => ⟨S1024x2048, .f32⟩
  | _, _ => ⟨S1x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference6Ideal.lean ====
abbrev S1x16384x2048 : Shape := ⟨3, ![1, 16384, 2048]⟩
abbrev S2048 : Shape := ⟨1, ![2048]⟩
abbrev S_ : Shape := ⟨0, ![]⟩
abbrev S1x16384 : Shape := ⟨2, ![1, 16384]⟩
abbrev S1x16384x1 : Shape := ⟨3, ![1, 16384, 1]⟩
abbrev S1x1x2048 : Shape := ⟨3, ![1, 1, 2048]⟩
abbrev S16384x2048 : Shape := ⟨2, ![16384, 2048]⟩

abbrev nBuf : Space → Nat
  | .hbm => 19
  | .vmem => 0
  | .smem => 0
  | _ => 0

abbrev bufTy : (tb : Table) → Fin (tcTables nBuf tb) → BufTy
  | .hbm, ⟨0, _⟩ => ⟨S1x16384x2048, .f32⟩
  | .hbm, ⟨1, _⟩ => ⟨S2048, .f32⟩
  | .hbm, ⟨2, _⟩ => ⟨S1x16384x2048, .f32⟩
  | .hbm, ⟨3, _⟩ => ⟨S_, .f32⟩
  | .hbm, ⟨4, _⟩ => ⟨S1x16384, .f32⟩
  | .hbm, ⟨5, _⟩ => ⟨S1x16384x1, .f32⟩
  | .hbm, ⟨6, _⟩ => ⟨S_, .f32⟩
  | .hbm, ⟨7, _⟩ => ⟨S1x16384x1, .f32⟩
  | .hbm, ⟨8, _⟩ => ⟨S1x16384x1, .f32⟩
  | .hbm, ⟨9, _⟩ => ⟨S_, .f32⟩
  | .hbm, ⟨10, _⟩ => ⟨S1x16384x1, .f32⟩
  | .hbm, ⟨11, _⟩ => ⟨S1x16384x1, .f32⟩
  | .hbm, ⟨12, _⟩ => ⟨S1x16384x1, .f32⟩
  | .hbm, ⟨13, _⟩ => ⟨S1x16384x2048, .f32⟩
  | .hbm, ⟨14, _⟩ => ⟨S1x16384x2048, .f32⟩
  | .hbm, ⟨15, _⟩ => ⟨S1x1x2048, .f32⟩
  | .hbm, ⟨16, _⟩ => ⟨S1x16384x2048, .f32⟩
  | .hbm, ⟨17, _⟩ => ⟨S1x16384x2048, .f32⟩
  | .hbm, ⟨18, _⟩ => ⟨S16384x2048, .f32⟩
  | _, _ => ⟨S1x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel7.lean ====
abbrev S32768x512 : Shape := ⟨2, ![32768, 512]⟩
abbrev S4x512 : Shape := ⟨2, ![4, 512]⟩
abbrev S4x512x1024 : Shape := ⟨3, ![4, 512, 1024]⟩
abbrev S4x1024 : Shape := ⟨2, ![4, 1024]⟩
abbrev S1x512 : Shape := ⟨2, ![1, 512]⟩
abbrev S512 : Shape := ⟨1, ![512]⟩
abbrev S1x512x1024 : Shape := ⟨3, ![1, 512, 1024]⟩
abbrev S512x1024 : Shape := ⟨2, ![512, 1024]⟩
abbrev S1x1024 : Shape := ⟨2, ![1, 1024]⟩
abbrev S1024 : Shape := ⟨1, ![1024]⟩
abbrev S1024x512 : Shape := ⟨2, ![1024, 512]⟩
abbrev S1024x1024 : Shape := ⟨2, ![1024, 1024]⟩

abbrev nBuf : Space → Nat
  | .hbm => 15
  | .vmem => 9
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S4x512, .f32⟩
  | .hbm, ⟨3, _⟩ => ⟨S4x512x1024, .f32⟩
  | .hbm, ⟨4, _⟩ => ⟨S4x1024, .f32⟩
  | .hbm, ⟨5, _⟩ => ⟨S1x512, .f32⟩
  | .hbm, ⟨6, _⟩ => ⟨S512, .f32⟩
  | .hbm, ⟨7, _⟩ => ⟨S1x512x1024, .f32⟩
  | .hbm, ⟨8, _⟩ => ⟨S512x1024, .f32⟩
  | .hbm, ⟨9, _⟩ => ⟨S512x1024, .bf16⟩
  | .hbm, ⟨10, _⟩ => ⟨S1x1024, .f32⟩
  | .hbm, ⟨11, _⟩ => ⟨S1024, .f32⟩
  | .hbm, ⟨12, _⟩ => ⟨S1x512, .f32⟩
  | .hbm, ⟨13, _⟩ => ⟨S1x1024, .f32⟩
  | .hbm, ⟨14, _⟩ => ⟨S32768x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1x512, .f32⟩
  | .local _ .vmem, ⟨5, _⟩ => ⟨S512x1024, .bf16⟩
  | .local _ .vmem, ⟨6, _⟩ => ⟨S1x1024, .f32⟩
  | .local _ .vmem, ⟨7, _⟩ => ⟨S1024x512, .f32⟩
  | .local _ .vmem, ⟨8, _⟩ => ⟨S1024x512, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference7Ideal.lean ====
abbrev S32768x512 : Shape := ⟨2, ![32768, 512]⟩
abbrev S4x512 : Shape := ⟨2, ![4, 512]⟩
abbrev S4x512x1024 : Shape := ⟨3, ![4, 512, 1024]⟩
abbrev S4x1024 : Shape := ⟨2, ![4, 1024]⟩
abbrev S1x512 : Shape := ⟨2, ![1, 512]⟩
abbrev S512 : Shape := ⟨1, ![512]⟩
abbrev S_ : Shape := ⟨0, ![]⟩
abbrev S1x512x1024 : Shape := ⟨3, ![1, 512, 1024]⟩
abbrev S512x1024 : Shape := ⟨2, ![512, 1024]⟩
abbrev S32768x1024 : Shape := ⟨2, ![32768, 1024]⟩
abbrev S1x1024 : Shape := ⟨2, ![1, 1024]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S4x512, .f32⟩
  | .hbm, ⟨3, _⟩ => ⟨S4x512x1024, .f32⟩
  | .hbm, ⟨4, _⟩ => ⟨S4x1024, .f32⟩
  | .hbm, ⟨5, _⟩ => ⟨S1x512, .f32⟩
  | .hbm, ⟨6, _⟩ => ⟨S512, .f32⟩
  | .hbm, ⟨7, _⟩ => ⟨S1x512, .f32⟩
  | .hbm, ⟨8, _⟩ => ⟨S32768x512, .f32⟩
  | .hbm, ⟨9, _⟩ => ⟨S32768x512, .f32⟩
  | .hbm, ⟨10, _⟩ => ⟨S32768x512, .f32⟩
  | .hbm, ⟨11, _⟩ => ⟨S32768x512, .f32⟩
  | .hbm, ⟨12, _⟩ => ⟨S32768x512, .f32⟩
  | .hbm, ⟨13, _⟩ => ⟨S_, .f32⟩
  | .hbm, ⟨14, _⟩ => ⟨S32768x512, .f32⟩
  | .hbm, ⟨15, _⟩ => ⟨S32768x512, .f32⟩
  | .hbm, ⟨16, _⟩ => ⟨S32768x512, .f32⟩
  | .hbm, ⟨17, _⟩ => ⟨S_, .f32⟩
  | .hbm, ⟨18, _⟩ => ⟨S32768x512, .f32⟩
  | .hbm, ⟨19, _⟩ => ⟨S32768x512, .f32⟩
  | .hbm, ⟨20, _⟩ => ⟨S32768x512, .f32⟩
  | .hbm, ⟨21, _⟩ => ⟨S_, .f32⟩
  | .hbm, ⟨22, _⟩ => ⟨S32768x512, .f32⟩
  | .hbm, ⟨23, _⟩ => ⟨S32768x512, .f32⟩
  | .hbm, ⟨24, _⟩ => ⟨S_, .f32⟩
  | .hbm, ⟨25, _⟩ => ⟨S32768x512, .f32⟩
  | .hbm, ⟨26, _⟩ => ⟨S32768x512, .f32⟩
  | .hbm, ⟨27, _⟩ => ⟨S32768x512, .f32⟩
  | .hbm, ⟨28, _⟩ => ⟨S1x512x1024, .f32⟩
  | .hbm, ⟨29, _⟩ => ⟨S512x1024, .f32⟩
  | .hbm, ⟨30, _⟩ => ⟨S32768x1024, .f32⟩
  | .hbm, ⟨31, _⟩ => ⟨S1x1024, .f32⟩
  | .hbm, ⟨32, _⟩ => ⟨S1024, .f32⟩
  | .hbm, ⟨33, _⟩ => ⟨S1x1024, .f32⟩
  | .hbm, ⟨34, _⟩ => ⟨S32768x1024, .f32⟩
  | .hbm, ⟨35, _⟩ => ⟨S32768x1024, .f32⟩
  | .hbm, ⟨36, _⟩ => ⟨S32768x512, .f32⟩
  | .hbm, ⟨37, _⟩ => ⟨S32768x512, .f32⟩
  | .hbm, ⟨38, _⟩ => ⟨S32768x512, .f32⟩
  | .hbm, ⟨39, _⟩ => ⟨S32768x512, .f32⟩
  | .hbm, ⟨40, _⟩ => ⟨S_, .f32⟩
  | .hbm, ⟨41, _⟩ => ⟨S32768x512, .f32⟩
  | .hbm, ⟨42, _⟩ => ⟨S32768x512, .f32⟩
  | .hbm, ⟨43, _⟩ => ⟨S_, .f32⟩
  | .hbm, ⟨44, _⟩ => ⟨S32768x512, .f32⟩
  | .hbm, ⟨45, _⟩ => ⟨S32768x512, .f32⟩
  | .hbm, ⟨46, _⟩ => ⟨S32768x512, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== Proof.NaIndex.lean ====
module

public import proofs.«01_k».proof.Proof.Gen.KernelIdeal.Value

/-! The blocks the attention kernel's windows read and write at each grid point. -/

@[expose] public section

set_option maxRecDepth 16384

noncomputable section

namespace Cert.Na

open Cert.KernelIdeal Cert.KernelIdeal.Gen Idealize.ShloMosaic

/-- The block of window 0 at a grid point. -/
theorem idx0 : ∀ t : Fin cfg0.N, win0_0.index t 0 = t.val % 16 ∧ win0_0.index t 1 = t.val / 16 % 4 ∧ win0_0.index t 2 = 12 + t.val / 64 :=
  (by decide +kernel : ∀ t : Fin grid0.N, win0_0.index t 0 = t.val % 16 ∧ win0_0.index t 1 = t.val / 16 % 4 ∧ win0_0.index t 2 = 12 + t.val / 64)

/-- The block of window 1 at a grid point. -/
theorem idx1 : ∀ t : Fin cfg0.N, win0_1.index t 0 = t.val % 16 ∧ win0_1.index t 1 = 2 * (t.val / 16 % 4) - 1 ∧ win0_1.index t 2 = 18 + t.val / 64 :=
  (by decide +kernel : ∀ t : Fin grid0.N, win0_1.index t 0 = t.val % 16 ∧ win0_1.index t 1 = 2 * (t.val / 16 % 4) - 1 ∧ win0_1.index t 2 = 18 + t.val / 64)

/-- The block of window 2 at a grid point. -/
theorem idx2 : ∀ t : Fin cfg0.N, win0_2.index t 0 = t.val % 16 ∧ win0_2.index t 1 = t.val / 16 % 4 ∧ win0_2.index t 2 = 18 + t.val / 64 :=
  (by decide +kernel : ∀ t : Fin grid0.N, win0_2.index t 0 = t.val % 16 ∧ win0_2.index t 1 = t.val / 16 % 4 ∧ win0_2.index t 2 = 18 + t.val / 64)

/-- The block of window 3 at a grid point. -/
theorem idx3 : ∀ t : Fin cfg0.N, win0_3.index t 0 = t.val % 16 ∧ win0_3.index t 1 = min (2 * (t.val / 16 % 4) + 2) 7 ∧ win0_3.index t 2 = 18 + t.val / 64 :=
  (by decide +kernel : ∀ t : Fin grid0.N, win0_3.index t 0 = t.val % 16 ∧ win0_3.index t 1 = min (2 * (t.val / 16 % 4) + 2) 7 ∧ win0_3.index t 2 = 18 + t.val / 64)

/-- The block of window 4 at a grid point. -/
theorem idx4 : ∀ t : Fin cfg0.N, win0_4.index t 0 = t.val % 16 ∧ win0_4.index t 1 = 2 * (t.val / 16 % 4) - 1 ∧ win0_4.index t 2 = 24 + t.val / 64 :=
  (by decide +kernel : ∀ t : Fin grid0.N, win0_4.index t 0 = t.val % 16 ∧ win0_4.index t 1 = 2 * (t.val / 16 % 4) - 1 ∧ win0_4.index t 2 = 24 + t.val / 64)

/-- The block of window 5 at a grid point. -/
theorem idx5 : ∀ t : Fin cfg0.N, win0_5.index t 0 = t.val % 16 ∧ win0_5.index t 1 = t.val / 16 % 4 ∧ win0_5.index t 2 = 24 + t.val / 64 :=
  (by decide +kernel : ∀ t : Fin grid0.N, win0_5.index t 0 = t.val % 16 ∧ win0_5.index t 1 = t.val / 16 % 4 ∧ win0_5.index t 2 = 24 + t.val / 64)

/-- The block of window 6 at a grid point. -/
theorem idx6 : ∀ t : Fin cfg0.N, win0_6.index t 0 = t.val % 16 ∧ win0_6.index t 1 = min (2 * (t.val / 16 % 4) + 2) 7 ∧ win0_6.index t 2 = 24 + t.val / 64 :=
  (by decide +kernel : ∀ t : Fin grid0.N, win0_6.index t 0 = t.val % 16 ∧ win0_6.index t 1 = min (2 * (t.val / 16 % 4) + 2) 7 ∧ win0_6.index t 2 = 24 + t.val / 64)

/-- The block of window 8 at a grid point. -/
theorem idx8 : ∀ t : Fin cfg0.N, win0_8.index t 0 = t.val % 16 ∧ win0_8.index t 1 = t.val / 16 % 4 ∧ win0_8.index t 2 = t.val / 64 :=
  (by decide +kernel : ∀ t : Fin grid0.N, win0_8.index t 0 = t.val % 16 ∧ win0_8.index t 1 = t.val / 16 % 4 ∧ win0_8.index t 2 = t.val / 64)

/-- The block of window 7 at a grid point. -/
theorem idx7 : ∀ t : Fin cfg0.N,
    win0_7.index t 0 = t.val / 64 ∧ win0_7.index t 1 = (if t.val / 16 % 4 = 0 then 0 else if t.val / 16 % 4 = 3 then 2 else 1) ∧ win0_7.index t 2 = 0 ∧ win0_7.index t 3 = 0 :=
  (by decide +kernel : ∀ t : Fin grid0.N,
    win0_7.index t 0 = t.val / 64 ∧ win0_7.index t 1 = (if t.val / 16 % 4 = 0 then 0 else if t.val / 16 % 4 = 3 then 2 else 1) ∧ win0_7.index t 2 = 0 ∧ win0_7.index t 3 = 0)

end Cert.Na

end
-- ==== Proof.Ops.lean ====
/-
  Vector operations over the extended reals, read at an index: sums and maxima along the rows of a matrix, a column repeated,
  and a layout cast.
-/
module

public import Idealize.ShloMosaic.Lib.Pipeline.Value
public import Idealize.ShloMosaic.Lib.MatmulPlain
public import Idealize.ShloMosaic.Lib.ValueIdx
public import Idealize.ShloMosaic.Lib.ValueLayout
public import Idealize.ShloMosaic.Lib.ValueLayoutCasts

@[expose] public section

noncomputable section

namespace Cert.Ops

open Idealize.ShloMosaic Idealize.ShloMosaic.ValueIdx

/-- A sum along the rows of a matrix, read at a row. -/
theorem rowSum_apply {M N : Nat} (src : FVec Ideal ⟨2, ![M, N]⟩ .f32) (h : Shape.Reduces ⟨2, ![M, N]⟩ [1] ⟨1, ![M]⟩)
    (hφ : FKind.Formats .f32) (hacc : (0#32 : BitVec 32) = FKind.add.neutral .f32 hφ) (r : Fin M) :
    multiReduction .add [1] ⟨1, ![M]⟩ src 0#32 h hφ hacc (ix1 r) = ∑ k : Fin N, src (ix2 r k) := by
  rw [Ideal.multiReduction_add_single]
  exact Finset.sum_congr rfl fun k _ => congrArg src (funext fun a => Fin.ext (by match a with | ⟨0, _⟩ => rfl | ⟨1, _⟩ => rfl))

/-- The maximum along the rows of a matrix, read at a row. -/
theorem rowMax_apply {M N : Nat} (src : FVec Ideal ⟨2, ![M, N]⟩ .f32) (h : Shape.Reduces ⟨2, ![M, N]⟩ [1] ⟨1, ![M]⟩)
    (hφ : FKind.Formats .f32) (hacc : (0xFF800000#32 : BitVec 32) = FKind.maximumf.neutral .f32 hφ) (r : Fin M) :
    multiReduction .maximumf [1] ⟨1, ![M]⟩ src 0xFF800000#32 h hφ hacc (ix1 r)
      = Finset.univ.sup fun k : Fin N => (src (ix2 r k) : EReal) := by
  rw [Ideal.multiReduction_maximumf_single]
  have hb : FloatOps.ofBits (F := Ideal) .f32 0xFF800000#32 = (⊥ : EReal) := by
    show Ideal.ofBits .f32 0xFF800000#32 = ⊥
    simp [Ideal.ofBits, Ideal.ieee]
  rw [hb]
  show Finset.fold max (⊥ : EReal) _ _ = Finset.fold max ⊥ _ _
  exact Finset.fold_congr fun k _ => congrArg src (funext fun a => Fin.ext (by match a with | ⟨0, _⟩ => rfl | ⟨1, _⟩ => rfl))

/-- One column repeated across the columns of a matrix. -/
theorem broadcastTo_col_apply {α : Type} {M N : Nat} (x : (⟨2, ![M, 1]⟩ : Shape).Idx → α)
    (h : (⟨2, ![M, 1]⟩ : Shape).Broadcasts ⟨2, ![M, N]⟩) (r : Fin M) (k : Fin N) :
    broadcastTo ⟨2, ![M, N]⟩ x h (ix2 r k) = x (ix2 r 0) := by
  refine broadcastTo_apply _ _ (ix2 r k) (ix2 r 0) (fun a => ?_)
  match a with
  | ⟨0, _⟩ =>
    show r.val = if M = 1 then 0 else r.val
    split <;> omega
  | ⟨1, _⟩ => rfl

/-- A `[1, 1, a, b]` array cast to `[a, b]` reads, at `(i, j)`, the operand at `(0, 0, i, j)`. -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    norm_num)

/-- The word `1.0` denotes the number one. -/
theorem ofBits_one : Ideal.ofBits .f32 0x3F800000#32 = (1 : EReal) := by
  simp [Ideal.ofBits, Ideal.ieee, -EReal.coe_mul]; norm_num

end Cert.Ops

end
-- ==== Proof.Softmax.lean ====
/-
  The mathematics of one attention row over the extended reals: a row of weights taken over a block of keys and divided
  at the end is the same as the row taken over all keys, masked, and divided key by key.
-/
module

public import Idealize.ShloMosaic.Lib.MatmulPlain
public import Idealize.ShloMosaic.Lib.ValueIdx

@[expose] public section

noncomputable section

namespace Cert.Softmax

open Idealize.ShloMosaic

/-- The weight of key `k` among the scores `s`, before the division. -/
def weight {n : Nat} (s : Fin n → EReal) (k : Fin n) : EReal := Ideal.exp (s k - Finset.univ.sup s)

/-- The weighted sum of the values, divided by the sum of the weights at the end. -/
def late {n : Nat} (s v : Fin n → EReal) : EReal := Ideal.div (∑ k, weight s k * v k) (∑ k, weight s k)

/-- The weighted sum of the values, each weight divided by the sum of the weights first. -/
def early {n : Nat} (s v : Fin n → EReal) : EReal := ∑ k, v k * Ideal.div (weight s k) (∑ k, weight s k)

/-- The exponential is never negative. -/
theorem exp_nonneg (x : EReal) : 0 ≤ Ideal.exp x := by
  induction x using EReal.rec with
  | bot => exact le_rfl
  | top => exact le_top
  | coe r => exact EReal.coe_nonneg.mpr (Real.exp_pos r).le

/-- The exponential of a number below infinity is below infinity. -/
theorem exp_ne_top {x : EReal} (h : x ≠ ⊤) : Ideal.exp x ≠ ⊤ := by
  induction x using EReal.rec with
  | bot => exact EReal.zero_ne_top
  | top => exact absurd rfl h
  | coe r => exact EReal.coe_ne_top _

/-- The exponential of a number above minus infinity is positive. -/
theorem exp_pos {x : EReal} (h : x ≠ ⊥) : 0 < Ideal.exp x := by
  induction x using EReal.rec with
  | bot => exact absurd rfl h
  | top => exact EReal.zero_lt_top
  | coe r => exact EReal.coe_pos.mpr (Real.exp_pos r)

/-- A finite sum of numbers that are neither infinite is not plus infinity. -/
theorem sum_ne_top {ι : Type} (t : Finset ι) (f : ι → EReal) (h : ∀ i ∈ t, f i ≠ ⊤) : ∑ i ∈ t, f i ≠ ⊤ := by
  classical
  induction t using Finset.induction_on with
  | empty => simp
  | insert a t ha ih =>
    rw [Finset.sum_insert ha]
    exact EReal.add_ne_top (h a (Finset.mem_insert_self a t)) (ih fun i hi => h i (Finset.mem_insert_of_mem hi))

/-- A finite sum of numbers above minus infinity is above minus infinity. -/
theorem sum_ne_bot {ι : Type} (t : Finset ι) (f : ι → EReal) (h : ∀ i ∈ t, f i ≠ ⊥) : ∑ i ∈ t, f i ≠ ⊥ := by
  classical
  induction t using Finset.induction_on with
  | empty => simp
  | insert a t ha ih =>
    rw [Finset.sum_insert ha]
    exact EReal.add_ne_bot_iff.mpr ⟨h a (Finset.mem_insert_self a t), ih fun i hi => h i (Finset.mem_insert_of_mem hi)⟩

/-- A factor that is neither negative nor infinite distributes over a finite sum. -/
theorem sum_mul {ι : Type} (t : Finset ι) (f : ι → EReal) (c : EReal) (h0 : 0 ≤ c) (h1 : c ≠ ⊤) :
    (∑ i ∈ t, f i) * c = ∑ i ∈ t, f i * c := by
  classical
  induction t using Finset.induction_on with
  | empty => simp
  | insert a t ha ih =>
    rw [Finset.sum_insert ha, Finset.sum_insert ha, EReal.right_distrib_of_nonneg_of_ne_top h0 h1, ih]

/-- A sum over the keys of a block is the sum over all keys, where the terms that lie on one side only are zero. -/
theorem sum_transfer {n N : Nat} (f : Fin n → EReal) (g : Fin N → EReal) (p : Fin n → Prop) (q : Fin N → Prop)
    (φ : Fin n → Fin N) (ψ : Fin N → Fin n) (hf : ∀ k, ¬ p k → f k = 0) (hg : ∀ j, ¬ q j → g j = 0)
    (hφ : ∀ k, p k → q (φ k) ∧ g (φ k) = f k ∧ ψ (φ k) = k) (hψ : ∀ j, q j → p (ψ j) ∧ φ (ψ j) = j) :
    ∑ k, f k = ∑ j, g j := by
  classical
  rw [← Finset.sum_filter_of_ne (p := p) (fun k _ h => by_contra fun hp => h (hf k hp)),
    ← Finset.sum_filter_of_ne (s := Finset.univ) (f := g) (p := q) (fun k _ h => by_contra fun hp => h (hg k hp))]
  exact Finset.sum_bij' (fun k _ => φ k) (fun j _ => ψ j)
    (fun k hk => Finset.mem_filter.mpr ⟨Finset.mem_univ _, (hφ k (Finset.mem_filter.mp hk).2).1⟩)
    (fun j hj => Finset.mem_filter.mpr ⟨Finset.mem_univ _, (hψ j (Finset.mem_filter.mp hj).2).1⟩)
    (fun k hk => (hφ k (Finset.mem_filter.mp hk).2).2.2) (fun j hj => (hψ j (Finset.mem_filter.mp hj).2).2)
    (fun k hk => (hφ k (Finset.mem_filter.mp hk).2).2.1.symm)

variable {n N : Nat} (s v : Fin n → EReal) (s' v' : Fin N → EReal) (φ : Fin n → Fin N) (ψ : Fin N → Fin n)

/-- The two rows have the same largest score. -/
theorem sup_eq (hφ : ∀ k, s k ≠ ⊥ → s' (φ k) = s k) (hψ : ∀ j, s' j ≠ ⊥ → s (ψ j) = s' j) :
    Finset.univ.sup s = Finset.univ.sup s' := by
  refine le_antisymm (Finset.sup_le fun k _ => ?_) (Finset.sup_le fun j _ => ?_)
  · by_cases h : s k = ⊥
    · rw [h]; exact bot_le
    · rw [← hφ k h]; exact Finset.le_sup (f := s') (Finset.mem_univ _)
  · by_cases h : s' j = ⊥
    · rw [h]; exact bot_le
    · rw [← hψ j h]; exact Finset.le_sup (f := s) (Finset.mem_univ _)

/-- A masked key has weight zero. -/
theorem weight_bot {k : Fin n} (h : s k = ⊥) : weight s k = 0 := by
  unfold weight
  rw [h, sub_eq_add_neg, EReal.bot_add]
  rfl

/-- One row of attention: over a block of keys divided at the end, and over all keys divided key by key, where the keys
that are not masked on either side are the same. -/
theorem late_eq_early (htop : ∀ k, s k ≠ ⊤) (k₀ : Fin n) (h₀ : s k₀ ≠ ⊥)
    (hφ : ∀ k, s k ≠ ⊥ → s' (φ k) = s k ∧ v' (φ k) = v k ∧ ψ (φ k) = k)
    (hψ : ∀ j, s' j ≠ ⊥ → φ (ψ j) = j ∧ s (ψ j) = s' j) : late s v = early s' v' := by
  have hM : Finset.univ.sup s = Finset.univ.sup s' := sup_eq s s' φ ψ (fun k h => (hφ k h).1) (fun j h => (hψ j h).2)
  have hMt : Finset.univ.sup s ≠ ⊤ :=
    ((Finset.sup_lt_iff bot_lt_top).mpr fun k _ => lt_of_le_of_ne le_top (htop k)).ne
  have hMb : Finset.univ.sup s ≠ ⊥ := fun h =>
    h₀ (le_bot_iff.mp (h ▸ Finset.le_sup (f := s) (Finset.mem_univ k₀)))
  have hw : ∀ k, s k ≠ ⊥ → weight s' (φ k) = weight s k := fun k h => by
    unfold weight; rw [(hφ k h).1, hM]
  have hbot' : ∀ k, s k ≠ ⊥ → s' (φ k) ≠ ⊥ := fun k h => by rw [(hφ k h).1]; exact h
  have hbot : ∀ j, s' j ≠ ⊥ → s (ψ j) ≠ ⊥ := fun j h => by rw [(hψ j h).2]; exact h
  have hL : ∑ k, weight s k = ∑ j, weight s' j :=
    sum_transfer _ _ (fun k => s k ≠ ⊥) (fun j => s' j ≠ ⊥) φ ψ (fun k h => weight_bot s (not_not.mp h))
      (fun j h => weight_bot s' (not_not.mp h)) (fun k h => ⟨hbot' k h, hw k h, (hφ k h).2.2⟩)
      (fun j h => ⟨hbot j h, (hψ j h).1⟩)
  have hnt : ∀ k, weight s k ≠ ⊤ := fun k => exp_ne_top (by
    rw [sub_eq_add_neg]
    exact EReal.add_ne_top (htop k) (fun h => hMb (EReal.neg_eq_top_iff.mp h)))
  have hl0 : 0 < ∑ k, weight s k := by
    refine lt_of_lt_of_le (?_ : 0 < weight s k₀)
      (Finset.single_le_sum (f := weight s) (fun k _ => exp_nonneg _) (Finset.mem_univ k₀))
    refine exp_pos ?_
    rw [sub_eq_add_neg]
    exact EReal.add_ne_bot_iff.mpr ⟨h₀, fun h => hMt (EReal.neg_eq_bot_iff.mp h)⟩
  have hlt : ∑ k, weight s k ≠ ⊤ := sum_ne_top _ _ fun k _ => hnt k
  unfold late early
  rw [← hL]
  generalize hl : ∑ k, weight s k = l at hl0 hlt
  have hne : l ≠ 0 := hl0.ne'
  have hdiv : ∀ x, Ideal.div x l = x * l⁻¹ := fun x => by unfold Ideal.div; rw [if_neg hne]
  have hi0 : 0 ≤ l⁻¹ := EReal.inv_nonneg_of_nonneg hl0.le
  have hi1 : l⁻¹ ≠ ⊤ := by
    induction l using EReal.rec with
    | bot => simp
    | top => simp
    | coe r => rw [← EReal.coe_inv]; exact EReal.coe_ne_top _
  rw [hdiv, sum_mul _ _ _ hi0 hi1]
  refine sum_transfer _ _ (fun k => s k ≠ ⊥) (fun j => s' j ≠ ⊥) φ ψ ?_ ?_ ?_ (fun j h => ⟨hbot j h, (hψ j h).1⟩)
  · intro k h; rw [weight_bot s (not_not.mp h), zero_mul, zero_mul]
  · intro j h; rw [weight_bot s' (not_not.mp h), hdiv, zero_mul, mul_zero]
  · intro k h
    refine ⟨hbot' k h, ?_, (hφ k h).2.2⟩
    rw [hdiv, hw k h, (hφ k h).2.1, ← mul_assoc, mul_comm (v k)]

end Cert.Softmax

end
-- ==== Proof.NaBlock.lean ====
/-
  What the attention kernel's body computes from its blocks: one head of one half tile is a row of attention over 768
  keys, the head picked out by zeroing the other head's lanes of the query.
-/
module

public import proofs.«01_k».proof.Proof.Gen.KernelIdeal.Value
public import proofs.«01_k».proof.Proof.Ops
public import proofs.«01_k».proof.Proof.Softmax

@[expose] public section

set_option maxRecDepth 16384

noncomputable section

namespace Cert.Na

open Cert.KernelIdeal Cert.KernelIdeal.Gen Idealize.ShloMosaic Idealize.ShloMosaic.TcCoe Idealize.SL.Sem
open Idealize.ShloMosaic.ValueIdx

/-- The score of query row `r` against key `κ` of the block: the dot product over the lanes that `sel` keeps, and the bias. -/
def blockScore (sel : IVec S256x128 1) (q : FVec Ideal S256x128 .f32) (k : FVec Ideal S768x128 .bf16)
    (b : Vec Ideal S1x1x256x768 .f32) (r : Fin 256) (κ : Fin 768) : EReal :=
  (∑ d : Fin 128, (if sel (ix2 r d) = 1#1 then (q (ix2 r d) : EReal) else 0) * (k (ix2 κ d) : EReal)) + (b (ix4 0 0 r κ) : EReal)

/-- The scores before the softmax, as the body computes them. -/
def scores (q : FVec Ideal S256x128 .f32) (k : FVec Ideal S768x128 .bf16) (sel : IVec S256x128 1)
    (b : Vec Ideal S1x1x256x768 .f32) : FVec Ideal S256x768 .f32 :=
  addf (matmul dot_S256x128_S768x128_S256x768_1_1_0_0_n_n none
    (truncf .bf16 (select sel q (broadcast S256x128 (Scalar.ofBits .f32 0x00000000#32 : Ideal .f32))) bitsLt_bf16_f32) k
    (constant S256x768 .f32 0x00000000#32)) (shapeCast S256x768 b shapeCasts_S1x1x256x768_S256x768)

/-- The scores of one head of a half tile, read at a row and a key. -/
theorem scores_apply (q : FVec Ideal S256x128 .f32) (k : FVec Ideal S768x128 .bf16) (sel : IVec S256x128 1)
    (b : Vec Ideal S1x1x256x768 .f32) (r : Fin 256) (κ : Fin 768) :
    scores q k sel b (ix2 r κ) = blockScore sel q k b r κ := by
  unfold scores blockScore
  rw [addf_apply, Cert.Ops.shapeCast_11ab_ab_apply]
  refine congrArg (· + (b (ix4 0 0 r κ) : EReal)) ?_
  refine (Ideal.matmul_transposedRhs_apply none _ _ _ r κ).trans ?_
  rw [constant_apply, Ideal.ofBits_zero_f32, zero_add]
  refine Finset.sum_congr rfl fun d _ => ?_
  rw [truncf_apply, select_apply]
  show (if sel (ix2 r d) = 1#1 then q (ix2 r d) else Ideal.ofBits .f32 0x00000000#32) * _ = _
  rw [Ideal.ofBits_zero_f32]

/-- One head of one half tile, at query row `r` and lane `n`, is a row of attention. -/
theorem pay8_apply (q : FVec Ideal S256x128 .f32) (k v : FVec Ideal S768x128 .bf16) (sel : IVec S256x128 1)
    (b : Vec Ideal S1x1x256x768 .f32) (r : Fin 256) (n : Fin 128) :
    k0_pay8 q k v sel (Scalar.ofBits .f32 0x00000000#32 : Ideal .f32) b (ix2 r n)
      = Softmax.late (blockScore sel q k b r) (fun κ => (v (ix2 κ n) : EReal)) := by
  have hs : ∀ κ, scores q k sel b (ix2 r κ) = blockScore sel q k b r κ := scores_apply q k sel b r
  have hmax : ∀ κ, broadcastTo S256x768 (shapeCast S256x1 (multiReduction .maximumf [1] S256 (scores q k sel b) 0xFF800000#32
      reduces_S256x768_S256 (.inl rfl) rfl) shapeCasts_S256_S256x1) broadcasts_S256x1_S256x768 (ix2 r κ)
        = Finset.univ.sup (blockScore sel q k b r) := by
    intro κ
    rw [Cert.Ops.broadcastTo_col_apply, shapeCast_a_a1_apply]
    exact (Cert.Ops.rowMax_apply (scores q k sel b) _ _ _ r).trans (congrArg _ (funext hs))
  have hw : ∀ κ, exp (subf (scores q k sel b) (broadcastTo S256x768 (shapeCast S256x1 (multiReduction .maximumf [1] S256
      (scores q k sel b) 0xFF800000#32 reduces_S256x768_S256 (.inl rfl) rfl) shapeCasts_S256_S256x1)
      broadcasts_S256x1_S256x768)) (ix2 r κ) = Softmax.weight (blockScore sel q k b r) κ := by
    intro κ
    unfold Softmax.weight
    rw [← hmax κ, ← hs κ]
    rfl
  unfold k0_pay8 Softmax.late
  show Ideal.div (matmul (F := Ideal) dot_S256x768_S768x128_S256x128_1_0_0_1_n_n none _ _ _ (ix2 r n)) _ = _
  refine congrArg₂ Ideal.div ?_ ?_
  · refine (Ideal.matmul_plain_apply none _ _ _ r n).trans ?_
    rw [constant_apply, Ideal.ofBits_zero_f32, zero_add]
    exact Finset.sum_congr rfl fun κ _ => congrArg (· * (v (ix2 κ n) : EReal)) (hw κ)
  · rw [Cert.Ops.broadcastTo_col_apply, shapeCast_a_a1_apply]
    exact (Cert.Ops.rowSum_apply _ _ _ _ r).trans (Finset.sum_congr rfl fun κ _ => hw κ)

/-- The lane numbers of the tile's rows. -/
def lanes : IVec S256x128 32 := iota .tc S256x128 32 [1] iota_S256x128_d1_w32

/-- The first of the body's head masks keeps the lanes below 64, -/
theorem sel_lo (r : Fin 256) (d : Fin 128) :
    andi (cmpi .sge lanes (broadcast S256x128 0#32))
      (cmpi .slt lanes (broadcast S256x128 64#32)) (ix2 r d) = 1#1 ↔ d.val / 64 = 0 := by
  show IntOp.andi (IntOp.cmpi .sge (lanes (ix2 r d)) 0#32)
    (IntOp.cmpi .slt (lanes (ix2 r d)) 64#32) = 1#1 ↔ _
  unfold lanes; rw [iota_single_apply]
  exact (by decide +kernel : ∀ d : Fin 128, IntOp.andi (IntOp.cmpi .sge (BitVec.ofNat 32 d.val) 0#32)
    (IntOp.cmpi .slt (BitVec.ofNat 32 d.val) 64#32) = 1#1 ↔ d.val / 64 = 0) d

/-- and the second the lanes from 64 on. -/
theorem sel_hi (r : Fin 256) (d : Fin 128) :
    andi (cmpi .sge lanes (broadcast S256x128 64#32))
      (cmpi .slt lanes (broadcast S256x128 128#32)) (ix2 r d) = 1#1 ↔ d.val / 64 = 1 := by
  show IntOp.andi (IntOp.cmpi .sge (lanes (ix2 r d)) 64#32)
    (IntOp.cmpi .slt (lanes (ix2 r d)) 128#32) = 1#1 ↔ _
  unfold lanes; rw [iota_single_apply]
  exact (by decide +kernel : ∀ d : Fin 128, IntOp.andi (IntOp.cmpi .sge (BitVec.ofNat 32 d.val) 64#32)
    (IntOp.cmpi .slt (BitVec.ofNat 32 d.val) 128#32) = 1#1 ↔ d.val / 64 = 1) d

/-- The lanes below 64 take head 0's row and the others head 1's. -/
theorem pick_apply (x y : FVec Ideal S256x128 .f32) (r : Fin 256) (n : Fin 128) :
    select (cmpi .slt lanes (broadcast S256x128 64#32)) x y (ix2 r n)
      = if n.val / 64 = 0 then x (ix2 r n) else y (ix2 r n) := by
  rw [select_apply]
  show (if IntOp.cmpi .slt (lanes (ix2 r n)) 64#32 = 1#1 then _ else _) = _
  unfold lanes; rw [iota_single_apply]
  exact if_congr ((by decide +kernel : ∀ d : Fin 128, IntOp.cmpi .slt (BitVec.ofNat 32 d.val) 64#32 = 1#1 ↔ d.val / 64 = 0) n)
    rfl rfl

/-- Row `i` and lane `d` of three blocks of 256, 512 and 256 rows one under the other. -/
def stack (a : Vec Ideal S1x256x128 .f32) (b : Vec Ideal S1x512x128 .f32) (c : Vec Ideal S1x256x128 .f32)
    (i : Fin 1024) (d : Fin 128) : EReal :=
  if h : i.val < 256 then a (ix3 0 ⟨i.val, h⟩ d)
  else if h' : i.val < 768 then b (ix3 0 ⟨i.val - 256, by omega⟩ d)
  else c (ix3 0 ⟨i.val - 768, by omega⟩ d)

/-- The body's joined keys (and values) are the three blocks one under the other. -/
theorem pay2_apply (a : Vec Ideal S1x256x128 .f32) (b : Vec Ideal S1x512x128 .f32) (c : Vec Ideal S1x256x128 .f32)
    (i : Fin 1024) (d : Fin 128) : (k0_pay2 a b c (ix2 i d) : EReal) = stack a b c i d := by
  unfold k0_pay2 stack
  have hi : ∀ {m : Nat} (j : Fin m) (b : Fin 2), b.cast rfl ≠ (0 : Fin S1024x128.rank) →
      ((ix2 j d : (⟨2, ![m, 128]⟩ : Shape).Idx) b).val = ((ix2 i d : S1024x128.Idx) (b.cast rfl)).val := fun j b hb => by
    match b with
    | ⟨0, _⟩ => exact absurd rfl hb
    | ⟨1, _⟩ => rfl
  split
  · next h =>
    refine (concatenate_apply_piece 0 _ _ (ix2 i d) 0 (by show 0 < 3; omega) S256x128 _ rfl rfl 0 rfl (ix2 ⟨i.val, h⟩ d)
      (hi _) (Nat.zero_add _)).trans ?_
    rw [truncf_apply, shapeCast_1ab_ab_apply]
  · next h =>
    split
    · next h' =>
      refine (concatenate_apply_piece 0 _ _ (ix2 i d) 1 (by show 1 < 3; omega) S512x128 _ rfl rfl 256 rfl (ix2 ⟨i.val - 256, by omega⟩ d)
        (hi _) (by show 256 + (i.val - 256) = i.val; omega)).trans ?_
      rw [truncf_apply, shapeCast_1ab_ab_apply]
    · next h' =>
      refine (concatenate_apply_piece 0 _ _ (ix2 i d) 2 (by show 2 < 3; omega) S256x128 _ rfl rfl 768 rfl (ix2 ⟨i.val - 768, by omega⟩ d)
        (hi _) (by show 768 + (i.val - 768) = i.val; omega)).trans ?_
      rw [truncf_apply, shapeCast_1ab_ab_apply]

/-- The number by which the queries are scaled, an eighth. -/
def scale : EReal := Ideal.ofBits .f32 0x3E000000#32

/-- Key `κ` of the half tile that row `ρ` lies in, among the 1024 joined keys. -/
def keyOf (ρ : Fin 512) (κ : Fin 768) : Fin 1024 := ⟨κ.val + 256 * (ρ.val / 256), by omega⟩

/-- The score of row `ρ` of the tile against key `κ` of its half, of head `hh` of the two. -/
def tileScore (x0 : Vec Ideal S1x512x128 .f32) (x1 : Vec Ideal S1x256x128 .f32) (x2 : Vec Ideal S1x512x128 .f32)
    (x3 : Vec Ideal S1x256x128 .f32) (x7 : Vec Ideal S2x1x512x1024 .f32) (ρ : Fin 512) (hh : Fin 2) (κ : Fin 768) : EReal :=
  (∑ d : Fin 128, (if d.val / 64 = hh.val then (x0 (ix3 0 ρ d) : EReal) * scale else 0) * stack x1 x2 x3 (keyOf ρ κ) d)
    + (x7 (ix4 hh 0 ρ (keyOf ρ κ)) : EReal)

/-- What the body leaves at row `ρ` and lane `n` of its tile. -/
def tile (x0 : Vec Ideal S1x512x128 .f32) (x1 : Vec Ideal S1x256x128 .f32) (x2 : Vec Ideal S1x512x128 .f32)
    (x3 : Vec Ideal S1x256x128 .f32) (x4 : Vec Ideal S1x256x128 .f32) (x5 : Vec Ideal S1x512x128 .f32)
    (x6 : Vec Ideal S1x256x128 .f32) (x7 : Vec Ideal S2x1x512x1024 .f32) (ρ : Fin 512) (n : Fin 128) : EReal :=
  Softmax.late (tileScore x0 x1 x2 x3 x7 ρ ⟨n.val / 64, by omega⟩) (fun κ => stack x4 x5 x6 (keyOf ρ κ) n)

section Tile

variable (x0 : Vec Ideal S1x512x128 .f32) (x1 : Vec Ideal S1x256x128 .f32) (x2 : Vec Ideal S1x512x128 .f32)
    (x3 : Vec Ideal S1x256x128 .f32) (x4 : Vec Ideal S1x256x128 .f32) (x5 : Vec Ideal S1x512x128 .f32)
    (x6 : Vec Ideal S1x256x128 .f32) (x7 : Vec Ideal S2x1x512x1024 .f32)

/-- One head of one half of the tile, from what its operands are. -/
theorem head_eq (q : FVec Ideal S256x128 .f32) (k v : FVec Ideal S768x128 .bf16) (sel : IVec S256x128 1)
    (b : Vec Ideal S1x1x256x768 .f32) (r : Fin 256) (n : Fin 128) (ρ : Fin 512) (hh : Fin 2)
    (hsel : ∀ d : Fin 128, sel (ix2 r d) = 1#1 ↔ d.val / 64 = hh.val) (hq : ∀ d, (q (ix2 r d) : EReal) = x0 (ix3 0 ρ d) * scale)
    (hk : ∀ κ d, (k (ix2 κ d) : EReal) = stack x1 x2 x3 (keyOf ρ κ) d)
    (hv : ∀ κ d, (v (ix2 κ d) : EReal) = stack x4 x5 x6 (keyOf ρ κ) d)
    (hb : ∀ κ, (b (ix4 0 0 r κ) : EReal) = x7 (ix4 hh 0 ρ (keyOf ρ κ))) :
    k0_pay8 q k v sel (Scalar.ofBits .f32 0x00000000#32 : Ideal .f32) b (ix2 r n)
      = Softmax.late (tileScore x0 x1 x2 x3 x7 ρ hh) (fun κ => stack x4 x5 x6 (keyOf ρ κ) n) := by
  rw [pay8_apply]
  refine congrArg₂ Softmax.late (funext fun κ => ?_) (funext fun κ => hv κ n)
  unfold blockScore tileScore
  rw [hb κ]
  refine congrArg (· + _) (Finset.sum_congr rfl fun d _ => ?_)
  rw [hk κ d, hq d]
  exact congrArg (· * _) (if_congr (hsel d) rfl rfl)

/-- The query rows the body scales, of the first half -/
theorem q_apply (o : Nat) (inb) (r : Fin 256) (ρ : Fin 512) (hρ : ρ.val = o + r.val) (d : Fin 128) :
    (k0_pay4 (View.ld x0 (Rect.unit (s := S1x512x128) ![0, o, 0] S1x256x128.size inb)) (ix2 r d) : EReal) = x0 (ix3 0 ρ d) * scale := by
  unfold k0_pay4
  rw [mulf_apply, shapeCast_1ab_ab_apply, View.ld_unit]
  refine congrArg (· * scale) ?_
  exact extractStridedSlice_apply _ _ _ _ (ix3 0 ρ d) (fun a => by
    match a with
    | ⟨0, _⟩ => rfl
    | ⟨1, _⟩ => exact hρ
    | ⟨2, _⟩ => exact (Nat.zero_add _).symm)

/-- The bias rows the body loads. -/
theorem b_apply (hh : Fin 2) (o : Nat) (inb) (r : Fin 256) (ρ : Fin 512) (hρ : ρ.val = o + r.val) (ho : o = 256 * (ρ.val / 256)) (κ : Fin 768) :
    (View.ld x7 (Rect.unit (s := S2x1x512x1024) ![hh.val, 0, o, o] S1x1x256x768.size inb) (ix4 0 0 r κ) : EReal)
      = x7 (ix4 hh 0 ρ (keyOf ρ κ)) := by
  rw [View.ld_unit]
  exact extractStridedSlice_apply _ _ _ _ (ix4 hh 0 ρ (keyOf ρ κ)) (fun a => by
    match a with
    | ⟨0, _⟩ => rfl
    | ⟨1, _⟩ => rfl
    | ⟨2, _⟩ => exact hρ
    | ⟨3, _⟩ => show κ.val + 256 * (ρ.val / 256) = o + κ.val; omega)

/-- The half's keys (and values) within the joined ones. -/
theorem slice_apply (a : Vec Ideal S1x256x128 .f32) (b : Vec Ideal S1x512x128 .f32) (c : Vec Ideal S1x256x128 .f32)
    (o : Nat) (h : S1024x128.Slices ![o, 0] S768x128) (ρ : Fin 512) (ho : o = 256 * (ρ.val / 256)) (κ : Fin 768) (d : Fin 128) :
    (extractStridedSlice S768x128 ![o, 0] (k0_pay2 a b c) h (ix2 κ d) : EReal) = stack a b c (keyOf ρ κ) d :=
  (extractStridedSlice_apply _ _ _ _ (ix2 (keyOf ρ κ) d) (fun a => by
    match a with
    | ⟨0, _⟩ => show κ.val + 256 * (ρ.val / 256) = o + κ.val; omega
    | ⟨1, _⟩ => exact (Nat.zero_add _).symm)).trans (pay2_apply a b c _ d)

/-- The two heads of one half of the tile, each lane taken from its own head. -/
theorem half_eq (o : Nat) (iq : ∀ a, (![0, o, 0] : Fin 3 → Nat) a + S1x256x128.size a ≤ S1x512x128.size a)
    (ib0 : ∀ a, (![0, 0, o, o] : Fin 4 → Nat) a + S1x1x256x768.size a ≤ S2x1x512x1024.size a)
    (ib1 : ∀ a, (![1, 0, o, o] : Fin 4 → Nat) a + S1x1x256x768.size a ≤ S2x1x512x1024.size a)
    (hs : S1024x128.Slices ![o, 0] S768x128) (r : Fin 256) (n : Fin 128) (ρ : Fin 512) (hρ : ρ.val = o + r.val)
    (ho : o = 256 * (ρ.val / 256)) :
    (select (cmpi .slt lanes (broadcast S256x128 64#32))
      (k0_pay8 (k0_pay4 (View.ld x0 (Rect.unit (s := S1x512x128) ![0, o, 0] S1x256x128.size iq)))
        (extractStridedSlice S768x128 ![o, 0] (k0_pay2 x1 x2 x3) hs) (extractStridedSlice S768x128 ![o, 0] (k0_pay2 x4 x5 x6) hs)
        (andi (cmpi .sge lanes (broadcast S256x128 0#32))
          (cmpi .slt lanes (broadcast S256x128 64#32)))
        (Scalar.ofBits .f32 0x00000000#32 : Ideal .f32) (View.ld x7 (Rect.unit (s := S2x1x512x1024) ![0, 0, o, o] S1x1x256x768.size ib0)))
      (k0_pay8 (k0_pay4 (View.ld x0 (Rect.unit (s := S1x512x128) ![0, o, 0] S1x256x128.size iq)))
        (extractStridedSlice S768x128 ![o, 0] (k0_pay2 x1 x2 x3) hs) (extractStridedSlice S768x128 ![o, 0] (k0_pay2 x4 x5 x6) hs)
        (andi (cmpi .sge lanes (broadcast S256x128 64#32))
          (cmpi .slt lanes (broadcast S256x128 128#32)))
        (Scalar.ofBits .f32 0x00000000#32 : Ideal .f32) (View.ld x7 (Rect.unit (s := S2x1x512x1024) ![1, 0, o, o] S1x1x256x768.size ib1)))
      (ix2 r n) : EReal) = tile x0 x1 x2 x3 x4 x5 x6 x7 ρ n := by
  rw [pick_apply]
  unfold tile
  split
  · next h =>
    have hh : (⟨n.val / 64, by omega⟩ : Fin 2) = 0 := Fin.ext h
    rw [hh]
    exact head_eq x0 x1 x2 x3 x4 x5 x6 x7 _ _ _ _ _ r n ρ 0 (sel_lo r) (q_apply x0 o iq r ρ hρ)
      (slice_apply x1 x2 x3 o hs ρ ho) (slice_apply x4 x5 x6 o hs ρ ho) (b_apply x7 0 o ib0 r ρ hρ ho)
  · next h =>
    have hh : (⟨n.val / 64, by omega⟩ : Fin 2) = 1 := Fin.ext (by show n.val / 64 = 1; omega)
    rw [hh]
    exact head_eq x0 x1 x2 x3 x4 x5 x6 x7 _ _ _ _ _ r n ρ 1 (sel_hi r) (q_apply x0 o iq r ρ hρ)
      (slice_apply x1 x2 x3 o hs ρ ho) (slice_apply x4 x5 x6 o hs ρ ho) (b_apply x7 1 o ib1 r ρ hρ ho)

/-- What the body stores for the second half of its rows, as one pick between two heads. -/
theorem pay1_eq (q : Vec Ideal S1x256x128 .f32) (k v : FVec Ideal S1024x128 .bf16) (b0 b1 : Vec Ideal S1x1x256x768 .f32) :
    k0_pay1 lanes (k0_pay11 q) (k0_pay12 k) (k0_pay13 v) (k0_pay14 k v lanes q b0) (k0_pay15 lanes) k0_pay16 b1
      = shapeCast S1x256x128 (select (cmpi .slt lanes (broadcast S256x128 64#32))
        (k0_pay8 (k0_pay4 q) (extractStridedSlice S768x128 ![256, 0] k slices_S1024x128_o256_0_S768x128)
          (extractStridedSlice S768x128 ![256, 0] v slices_S1024x128_o256_0_S768x128)
          (andi (cmpi .sge lanes (broadcast S256x128 0#32)) (cmpi .slt lanes (broadcast S256x128 64#32)))
          (Scalar.ofBits .f32 0x00000000#32) b0)
        (k0_pay8 (k0_pay4 q) (extractStridedSlice S768x128 ![256, 0] k slices_S1024x128_o256_0_S768x128)
          (extractStridedSlice S768x128 ![256, 0] v slices_S1024x128_o256_0_S768x128)
          (andi (cmpi .sge lanes (broadcast S256x128 64#32)) (cmpi .slt lanes (broadcast S256x128 128#32)))
          (Scalar.ofBits .f32 0x00000000#32) b1)) shapeCasts_S256x128_S1x256x128 := rfl

/-- What the body stores for the first half of its rows, as one pick between two heads. -/
theorem pay10_eq (q : FVec Ideal S256x128 .f32) (k v : FVec Ideal S768x128 .bf16) (b0 b1 : Vec Ideal S1x1x256x768 .f32) :
    k0_pay10 lanes (k0_pay8 q k v k0_pay7 (Scalar.ofBits .f32 0x00000000#32) b0) (k0_pay9 lanes q k v b1)
      = shapeCast S1x256x128 (select (cmpi .slt lanes (broadcast S256x128 64#32))
        (k0_pay8 q k v
          (andi (cmpi .sge lanes (broadcast S256x128 0#32)) (cmpi .slt lanes (broadcast S256x128 64#32)))
          (Scalar.ofBits .f32 0x00000000#32) b0)
        (k0_pay8 q k v
          (andi (cmpi .sge lanes (broadcast S256x128 64#32)) (cmpi .slt lanes (broadcast S256x128 128#32)))
          (Scalar.ofBits .f32 0x00000000#32) b1)) shapeCasts_S256x128_S1x256x128 := rfl

/-- A half's rows as they are stored, with a leading axis of one. -/
theorem stored_apply (x : FVec Ideal S256x128 .f32) (r : Fin 256) (n : Fin 128) :
    (shapeCast S1x256x128 x shapeCasts_S256x128_S1x256x128 : Vec Ideal S1x256x128 .f32) (ix3 0 r n) = x (ix2 r n) :=
  shapeCast_ab_1ab_apply x shapeCasts_S256x128_S1x256x128 0 r n

/-- The tile as an array. -/
def tileArr : S1x512x128.Idx → Elt Ideal .f32 := fun y => tile x0 x1 x2 x3 x4 x5 x6 x7 (y 1) (y 2)

/-- What the body leaves in its tile, element by element. -/
theorem out_apply (y : S1x512x128.Idx) : out0_8 x0 x1 x2 x3 x4 x5 x6 x7 y = tileArr x0 x1 x2 x3 x4 x5 x6 x7 y := by
  have hz : (![0, 0, 0] : Fin 3 → Nat) = fun _ => 0 := funext fun a => by fin_cases a <;> rfl
  have e18 : k0_pay18 x0 x1 x2 x3 x4 x5 x6 x7 = k0_pay2 x1 x2 x3 := by
    unfold k0_pay18; rw [View.ld_unit_zero hz, View.ld_unit_zero hz, View.ld_unit_zero hz]
  have e19 : k0_pay19 x0 x1 x2 x3 x4 x5 x6 x7 = k0_pay2 x4 x5 x6 := by
    unfold k0_pay19; rw [View.ld_unit_zero hz, View.ld_unit_zero hz, View.ld_unit_zero hz]; rfl
  have e21 : k0_pay21 x0 x1 x2 x3 x4 x5 x6 x7 = extractStridedSlice S768x128 ![0, 0] (k0_pay2 x1 x2 x3) slices_S1024x128_o0_0_S768x128 := by
    unfold k0_pay21; rw [View.ld_unit_zero hz, View.ld_unit_zero hz, View.ld_unit_zero hz]; rfl
  have e22 : k0_pay22 x0 x1 x2 x3 x4 x5 x6 x7 = extractStridedSlice S768x128 ![0, 0] (k0_pay2 x4 x5 x6) slices_S1024x128_o0_0_S768x128 := by
    unfold k0_pay22; rw [View.ld_unit_zero hz, View.ld_unit_zero hz, View.ld_unit_zero hz]; rfl
  unfold out0_8
  have e17 : k0_pay17 x0 x1 x2 x3 x4 x5 x6 x7 = lanes := rfl
  have e20 : k0_pay20 x0 x1 x2 x3 x4 x5 x6 x7 = k0_pay4 (View.ld x0 r0_2) := rfl
  rw [e17, e18, e19, e20, e21, e22, pay1_eq, pay10_eq]
  refine View.canon_apply_of_pieces (tileArr x0 x1 x2 x3 x4 x5 x6 x7) _ ?_ y ?_
  · intro p hp
    rcases List.mem_cons.mp hp with rfl | hp
    · intro y
      obtain ⟨a, r, n, rfl⟩ : ∃ (a : Fin 1) (r : Fin 256) (n : Fin 128), y = ix3 a r n := ⟨y 0, y 1, y 2, eq_ix3 y⟩
      obtain rfl : a = 0 := Subsingleton.elim _ _
      have e1 : (r0_5.emb (ix3 0 r n)) 1 = (⟨256 + r.val, by omega⟩ : Fin 512) := Fin.ext (by show 256 + 1 * r.val = 256 + r.val; omega)
      have e2 : (r0_5.emb (ix3 0 r n)) 2 = n := Fin.ext (by show 0 + 1 * n.val = n.val; omega)
      refine Eq.trans ?_ (congrArg₂ (tile x0 x1 x2 x3 x4 x5 x6 x7) e1 e2).symm
      have h := (stored_apply _ r n).trans (half_eq x0 x1 x2 x3 x4 x5 x6 x7 256 inb_S1x512x128_S1x256x128_0_256_0
        inb_S2x1x512x1024_S1x1x256x768_0_0_256_256 inb_S2x1x512x1024_S1x1x256x768_1_0_256_256 slices_S1024x128_o256_0_S768x128
        r n ⟨256 + r.val, by omega⟩ rfl (by show 256 = 256 * ((256 + r.val) / 256); omega))
      exact h
    · obtain rfl := List.mem_singleton.mp hp
      intro y
      obtain ⟨a, r, n, rfl⟩ : ∃ (a : Fin 1) (r : Fin 256) (n : Fin 128), y = ix3 a r n := ⟨y 0, y 1, y 2, eq_ix3 y⟩
      obtain rfl : a = 0 := Subsingleton.elim _ _
      have e1 : (r0_2.emb (ix3 0 r n)) 1 = (⟨0 + r.val, by omega⟩ : Fin 512) := Fin.ext (by show 0 + 1 * r.val = 0 + r.val; omega)
      have e2 : (r0_2.emb (ix3 0 r n)) 2 = n := Fin.ext (by show 0 + 1 * n.val = n.val; omega)
      refine Eq.trans ?_ (congrArg₂ (tile x0 x1 x2 x3 x4 x5 x6 x7) e1 e2).symm
      have h := (stored_apply _ r n).trans (half_eq x0 x1 x2 x3 x4 x5 x6 x7 0 inb_S1x512x128_S1x256x128_0_0_0
        inb_S2x1x512x1024_S1x1x256x768_0_0_0_0 inb_S2x1x512x1024_S1x1x256x768_1_0_0_0 slices_S1024x128_o0_0_S768x128
        r n ⟨0 + r.val, by omega⟩ rfl (by show 0 = 256 * ((0 + r.val) / 256); omega))
      exact h
  · obtain ⟨a, ρ, n, rfl⟩ : ∃ (a : Fin 1) (ρ : Fin 512) (n : Fin 128), y = ix3 a ρ n := ⟨y 0, y 1, y 2, eq_ix3 y⟩
    obtain rfl : a = 0 := Subsingleton.elim _ _
    by_cases h : ρ.val < 256
    · refine ⟨_, List.mem_cons_of_mem _ List.mem_cons_self, ?_⟩
      show ix3 0 ρ n ∈ r0_2.set
      rw [Rect.mem_set_unit]
      intro a
      match a with
      | ⟨0, _⟩ => exact ⟨Nat.le_refl _, Nat.zero_lt_one⟩
      | ⟨1, _⟩ => exact ⟨Nat.zero_le _, by show ρ.val < 0 + 256; omega⟩
      | ⟨2, _⟩ => exact ⟨Nat.zero_le _, by show n.val < 0 + 128; omega⟩
    · refine ⟨_, List.mem_cons_self, ?_⟩
      show ix3 0 ρ n ∈ r0_5.set
      rw [Rect.mem_set_unit]
      intro a
      match a with
      | ⟨0, _⟩ => exact ⟨Nat.le_refl _, Nat.zero_lt_one⟩
      | ⟨1, _⟩ => exact ⟨by show 256 ≤ ρ.val; omega, by show ρ.val < 256 + 256; omega⟩
      | ⟨2, _⟩ => exact ⟨Nat.zero_le _, by show n.val < 0 + 128; omega⟩

end Tile

end Cert.Na

end
-- ==== Proof.NaTables.lean ====
module

public import proofs.«01_k».proof.Proof.Gen.KernelIdeal.Value

/-! The tables of the attention's bias as the kernel's program holds them, entry by entry: which key rows and key
columns a query sees, and which entry of the position bias it reads. -/

@[expose] public section

set_option maxRecDepth 16384

noncomputable section

namespace Cert.Na

open Cert.KernelIdeal Cert.KernelIdeal.Gen Idealize.ShloMosaic

/-- Key row `kr` of the 16 staged is in the window of query row `rl` of 8, in the first (`p = 0`), a middle (`p = 1`)
    or the last (`p = 2`) block of rows. -/
def rowIn (p rl kr : Nat) : Prop :=
  (if p = 0 then max rl 4 else if p = 1 then rl else min rl 4) ≤ kr
    ∧ kr < (if p = 0 then max rl 4 else if p = 1 then rl else min rl 4) + 8

/-- Key column `kc` is in the window of query column `qc`. -/
def colIn (qc kc : Nat) : Prop := min (qc - 8) 48 ≤ kc ∧ kc < min (qc - 8) 48 + 16

instance (p rl kr : Nat) : Decidable (rowIn p rl kr) := inferInstanceAs (Decidable (_ ∧ _))
instance (qc kc : Nat) : Decidable (colIn qc kc) := inferInstanceAs (Decidable (_ ∧ _))

/-- The row of the position bias, by the offset of the key row. -/
theorem lit0_eq : ∀ i : Fin 128, (lit0 i).toInt.toNat = min (i.val % 16 + 3 - i.val / 16) 14 := by decide +kernel

/-- Whether a key row is in the window. -/
theorem lit2_eq : ∀ i : Fin 384, lit2 i = 1#1 ↔ rowIn (i.val / 128) (i.val / 16 % 8) (i.val % 16) := by decide +kernel

/-- The column of the position bias, by the offset of the key column. -/
theorem lit1_eq : ∀ i : Fin 4096, (lit1 i).toInt.toNat = min (i.val % 64 + 15 - i.val / 64) 30 := by decide +kernel

/-- Whether a key column is in the window. -/
theorem lit3_eq : ∀ i : Fin 4096, lit3 i = 1#1 ↔ colIn (i.val / 64) (i.val % 64) := by decide +kernel

end Cert.Na

end
-- ==== Proof.NaBias.lean ====
module

public import proofs.«01_k».proof.Proof.Gen.KernelIdeal.Value
public import proofs.«01_k».proof.Proof.NaTables
public import Idealize.ShloMosaic.Lib.Pipeline.Value
public import Idealize.ShloMosaic.Lib.ValueIdx
public import Idealize.ShloMosaic.Lib.ValueIdxRank6
public import Idealize.ShloMosaic.Lib.ValueLayout

/-! The bias the attention kernel is handed: the position bias inside a query's window and minus infinity outside it. -/

@[expose] public section

set_option maxRecDepth 16384

noncomputable section

namespace Cert.Na

open Cert.KernelIdeal Cert.KernelIdeal.Gen Idealize.ShloMosaic Idealize.ShloMosaic.TcCoe Idealize.SL.Sem
open Idealize.ShloMosaic.ValueIdx

/-- The first gather picks a row of the position bias per pair of rows. -/
theorem gatherRows_apply (x : S12x15x31.Idx → EReal) (idx : IVec S8x16x1 32) (h : Fin 12) (rl : Fin 8) (kr : Fin 16) (j : Fin 31) :
    Host.gather gather_S12x15x31_S8x16x1_S12x8x16x31_03_1_n_n_1_2_12131 x idx (ix4 h rl kr j)
      = x (ix3 h ⟨min (idx (ix3 rl kr 0)).toInt.toNat 14, by omega⟩ j) := by
  unfold Host.gather
  refine congrArg x (funext fun a => Fin.ext ?_)
  show GatherDims.start _ _ idx a + GatherDims.batchCoord _ _ a + GatherDims.offCoord _ _ a = _
  rw [GatherDims.batchCoord_eq_zero _ _ _ List.not_mem_nil]
  match a with
  | ⟨0, _⟩ =>
    unfold GatherDims.start GatherDims.offCoord
    rw [dif_neg (by decide +revert), dif_pos (by decide +revert)]
    exact Nat.zero_add _
  | ⟨1, _⟩ =>
    rw [GatherDims.offCoord_eq_zero _ _ _ (fun h => ((GatherDims.mem_sKept _ _).mp h).1 (List.mem_singleton.mpr rfl))]
    unfold GatherDims.start
    rw [dif_pos (by decide +revert)]
    refine congrArg (fun v : BitVec 32 => min v.toInt.toNat 14) (congrArg idx (funext fun b => ?_))
    match b with
    | ⟨0, _⟩ => rfl
    | ⟨1, _⟩ => rfl
    | ⟨2, _⟩ => rfl
  | ⟨2, _⟩ =>
    unfold GatherDims.start GatherDims.offCoord
    rw [dif_neg (by decide +revert), dif_pos (by decide +revert)]
    exact Nat.zero_add _

/-- The second gather picks an entry of each such row per pair of columns. -/
theorem gatherCols_apply (x : S12x8x16x31.Idx → EReal) (idx : IVec S64x64x1 32) (h : Fin 12) (rl : Fin 8) (kr : Fin 16)
    (qc kc : Fin 64) :
    Host.gather gather_S12x8x16x31_S64x64x1_S12x8x16x64x64_012_3_n_n_3_2_128161 x idx (ix5 h rl kr qc kc)
      = x (ix4 h rl kr ⟨min (idx (ix3 qc kc 0)).toInt.toNat 30, by omega⟩) := by
  unfold Host.gather
  refine congrArg x (funext fun a => Fin.ext ?_)
  show GatherDims.start _ _ idx a + GatherDims.batchCoord _ _ a + GatherDims.offCoord _ _ a = _
  rw [GatherDims.batchCoord_eq_zero _ _ _ List.not_mem_nil]
  match a with
  | ⟨0, _⟩ =>
    unfold GatherDims.start GatherDims.offCoord
    rw [dif_neg (by decide +revert), dif_pos (by decide +revert)]
    exact Nat.zero_add _
  | ⟨1, _⟩ =>
    unfold GatherDims.start GatherDims.offCoord
    rw [dif_neg (by decide +revert), dif_pos (by decide +revert)]
    exact Nat.zero_add _
  | ⟨2, _⟩ =>
    unfold GatherDims.start GatherDims.offCoord
    rw [dif_neg (by decide +revert), dif_pos (by decide +revert)]
    exact Nat.zero_add _
  | ⟨3, _⟩ =>
    rw [GatherDims.offCoord_eq_zero _ _ _ (fun h => ((GatherDims.mem_sKept _ _).mp h).1 (List.mem_singleton.mpr rfl))]
    unfold GatherDims.start
    rw [dif_pos (by decide +revert)]
    refine congrArg (fun v : BitVec 32 => min v.toInt.toNat 30) (congrArg idx (funext fun b => ?_))
    match b with
    | ⟨0, _⟩ => rfl
    | ⟨1, _⟩ => rfl
    | ⟨2, _⟩ => rfl

/-- The row indices of the position bias the program looks up. -/
def rowIdx : IVec S8x16x1 32 :=
  broadcastInDim S8x16x1 ![0, 1] bcast_S8x16_S8x16x1_0_1 (select (constantI S8x16 1 0#1)
    (addi (fun i => lit0 (S8x16.rowMajor i)) (broadcastInDim S8x16 ![] bcast_S_S8x16 (constantI S_ 32 15#32)))
    fun i => lit0 (S8x16.rowMajor i))

/-- The column indices of the position bias the program looks up. -/
def colIdx : IVec S64x64x1 32 :=
  broadcastInDim S64x64x1 ![0, 1] bcast_S64x64_S64x64x1_0_1 (select (constantI S64x64 1 0#1)
    (addi (fun i => lit1 (S64x64.rowMajor i)) (broadcastInDim S64x64 ![] bcast_S_S64x64 (constantI S_ 32 31#32)))
    fun i => lit1 (S64x64.rowMajor i))

/-- The mask of the windows. -/
def maskArr : IVec S3x8x16x64x64 1 :=
  andi (broadcastInDim S3x8x16x64x64 ![0, 1, 2, 3, 4] bcast_S3x8x16x1x1_S3x8x16x64x64_0_1_2_3_4
      (broadcastInDim S3x8x16x1x1 ![0, 1, 2] bcast_S3x8x16_S3x8x16x1x1_0_1_2 fun i => lit2 (S3x8x16.rowMajor i)))
    (broadcastInDim S3x8x16x64x64 ![0, 1, 2, 3, 4] bcast_S1x1x1x64x64_S3x8x16x64x64_0_1_2_3_4
      (broadcastInDim S1x1x1x64x64 ![3, 4] bcast_S64x64_S1x1x1x64x64_3_4 fun i => lit3 (S64x64.rowMajor i)))

/-- The row of the bias table that a query row and a staged key row read. -/
theorem rowIdx_apply (rl : Fin 8) (kr : Fin 16) : (rowIdx (ix3 rl kr 0)).toInt.toNat = min (kr.val + 3 - rl.val) 14 := by
  unfold rowIdx
  rw [broadcastInDim_apply _ _ _ (ix3 rl kr 0) (ix2 rl kr) (fun a => by match a with | ⟨0, _⟩ => rfl | ⟨1, _⟩ => rfl)]
  show (lit0 (S8x16.rowMajor (ix2 rl kr))).toInt.toNat = _
  have h : (S8x16.rowMajor (ix2 rl kr)).val = rl.val * 16 + kr.val := Shape.rowMajor_val_two _
  refine (lit0_eq _).trans ?_
  rw [h]
  have := kr.isLt
  rw [show (rl.val * 16 + kr.val) % 16 = kr.val by omega, show (rl.val * 16 + kr.val) / 16 = rl.val by omega]

/-- The column of the bias table that a query column and a key column read. -/
theorem colIdx_apply (qc kc : Fin 64) : (colIdx (ix3 qc kc 0)).toInt.toNat = min (kc.val + 15 - qc.val) 30 := by
  unfold colIdx
  rw [broadcastInDim_apply _ _ _ (ix3 qc kc 0) (ix2 qc kc) (fun a => by match a with | ⟨0, _⟩ => rfl | ⟨1, _⟩ => rfl)]
  show (lit1 (S64x64.rowMajor (ix2 qc kc))).toInt.toNat = _
  have h : (S64x64.rowMajor (ix2 qc kc)).val = qc.val * 64 + kc.val := Shape.rowMajor_val_two _
  refine (lit1_eq _).trans ?_
  rw [h]
  have := kc.isLt
  rw [show (qc.val * 64 + kc.val) % 64 = kc.val by omega, show (qc.val * 64 + kc.val) / 64 = qc.val by omega]

/-- A conjunction of two bits is set when both are. -/
theorem andi_eq_one (a b : BitVec 1) : IntOp.andi a b = 1#1 ↔ a = 1#1 ∧ b = 1#1 := by
  revert a b; decide

/-- The mask is set where both the row and the column are inside the window. -/
theorem maskArr_apply (p : Fin 3) (rl : Fin 8) (kr : Fin 16) (qc kc : Fin 64) :
    maskArr (ix5 p rl kr qc kc) = 1#1 ↔ rowIn p.val rl.val kr.val ∧ colIn qc.val kc.val := by
  show IntOp.andi _ _ = 1#1 ↔ _
  rw [andi_eq_one]
  rw [broadcastInDim_apply _ _ _ (ix5 p rl kr qc kc) (ix5 p rl kr 0 0) (fun a => by
      match a with | ⟨0, _⟩ => rfl | ⟨1, _⟩ => rfl | ⟨2, _⟩ => rfl | ⟨3, _⟩ => rfl | ⟨4, _⟩ => rfl),
    broadcastInDim_apply _ _ _ (ix5 p rl kr 0 0) (ix3 p rl kr) (fun a => by
      match a with | ⟨0, _⟩ => rfl | ⟨1, _⟩ => rfl | ⟨2, _⟩ => rfl),
    broadcastInDim_apply _ _ _ (ix5 p rl kr qc kc) (ix5 0 0 0 qc kc) (fun a => by
      match a with | ⟨0, _⟩ => rfl | ⟨1, _⟩ => rfl | ⟨2, _⟩ => rfl | ⟨3, _⟩ => rfl | ⟨4, _⟩ => rfl),
    broadcastInDim_apply _ _ _ (ix5 0 0 0 qc kc) (ix2 qc kc) (fun a => by match a with | ⟨0, _⟩ => rfl | ⟨1, _⟩ => rfl)]
  have h2 : (S3x8x16.rowMajor (ix3 p rl kr)).val = (p.val * 8 + rl.val) * 16 + kr.val := Shape.rowMajor_val_three _
  have h3 : (S64x64.rowMajor (ix2 qc kc)).val = qc.val * 64 + kc.val := Shape.rowMajor_val_two _
  have := kc.isLt
  have := kr.isLt
  have := rl.isLt
  refine and_congr ((lit2_eq _).trans ?_) ((lit3_eq _).trans ?_)
  · rw [h2, show ((p.val * 8 + rl.val) * 16 + kr.val) / 128 = p.val by omega,
      show ((p.val * 8 + rl.val) * 16 + kr.val) / 16 % 8 = rl.val by omega,
      show ((p.val * 8 + rl.val) * 16 + kr.val) % 16 = kr.val by omega]
  · rw [h3, show (qc.val * 64 + kc.val) / 64 = qc.val by omega, show (qc.val * 64 + kc.val) % 64 = kc.val by omega]

/-- The bias of head `h`, pattern `p`, query row and column `rl`, `qc` and staged key row and column `kr`, `kc`. -/
def bias (rpb : S12x15x31.Idx → EReal) (h : Fin 12) (p : Fin 3) (rl : Fin 8) (qc : Fin 64) (kr : Fin 16) (kc : Fin 64) : EReal :=
  if rowIn p.val rl.val kr.val ∧ colIn qc.val kc.val then
    rpb (ix3 h ⟨min (kr.val + 3 - rl.val) 14, by omega⟩ ⟨min (kc.val + 15 - qc.val) 30, by omega⟩)
  else ⊥

variable (m : (ℓ : Loc nD τ sig) → Buf (Elt Ideal) ℓ)

/-- The bias array the kernel stages, read at an index. -/
theorem V_main_v19 (c : Dev nD) (h : Fin 12) (p : Fin 3) (ql : Fin 512) (kk : Fin 1024) :
    V m c main_v19 (ix4 h p ql kk)
      = bias (m ((c : Thread nD τ).loc main_arg1)) h p ⟨ql.val / 64, by omega⟩ ⟨ql.val % 64, by omega⟩
          ⟨kk.val / 64, by omega⟩ ⟨kk.val % 64, by omega⟩ := by
  show StableHlo.after (List.flatten [hostOps0 (F := Ideal), hostOps0_1, hostOps0_2]) _ (Proc.devRef .tc main_v19) (ix4 h p ql kk) = _
  simp only [hostOps0, hostOps0_1, hostOps0_2, List.flatten_cons, List.flatten_nil, List.append_nil, List.cons_append, List.nil_append]
  after_results
  show shapeCast S12x3x512x1024 (transpose S12x3x8x64x16x64 [0, 1, 2, 4, 3, 5]
    (select (broadcastInDim S12x3x8x16x64x64 ![0, 1, 2, 3, 4, 5] bcast_S1x3x8x16x64x64_S12x3x8x16x64x64_0_1_2_3_4_5
        (broadcastInDim S1x3x8x16x64x64 ![1, 2, 3, 4, 5] bcast_S3x8x16x64x64_S1x3x8x16x64x64_1_2_3_4_5 maskArr))
      (broadcastInDim S12x3x8x16x64x64 ![0, 1, 2, 3, 4, 5] bcast_S12x1x8x16x64x64_S12x3x8x16x64x64_0_1_2_3_4_5
        (broadcastInDim S12x1x8x16x64x64 ![0, 2, 3, 4, 5] bcast_S12x8x16x64x64_S12x1x8x16x64x64_0_2_3_4_5
          (Host.gather gather_S12x8x16x31_S64x64x1_S12x8x16x64x64_012_3_n_n_3_2_128161
            (Host.gather gather_S12x15x31_S8x16x1_S12x8x16x31_03_1_n_n_1_2_12131 (m ((c : Thread nD τ).loc main_arg1)) rowIdx) colIdx)))
      (broadcastInDim S12x3x8x16x64x64 ![] bcast_S_S12x3x8x16x64x64 (constant (F := Ideal) S_ .f32 0xFF800000#32)))
    transposes_S12x3x8x16x64x64_S12x3x8x64x16x64_0_1_2_4_3_5) shapeCasts_S12x3x8x64x16x64_S12x3x512x1024 (ix4 h p ql kk) = _
  have hq := ql.isLt
  have hk := kk.isLt
  generalize hrl : (⟨ql.val / 64, by omega⟩ : Fin 8) = rl
  generalize hqc : (⟨ql.val % 64, by omega⟩ : Fin 64) = qc
  generalize hkr : (⟨kk.val / 64, by omega⟩ : Fin 16) = kr
  generalize hkc : (⟨kk.val % 64, by omega⟩ : Fin 64) = kc
  have erl : ql.val / 64 = rl.val := congrArg Fin.val hrl
  have eqc : ql.val % 64 = qc.val := congrArg Fin.val hqc
  have ekr : kk.val / 64 = kr.val := congrArg Fin.val hkr
  have ekc : kk.val % 64 = kc.val := congrArg Fin.val hkc
  rw [shapeCast_apply _ _ (ix4 h p ql kk) (ix6 h p rl qc kr kc) (by
      rw [Shape.rowMajor_val_six, Shape.rowMajor_val_four]
      show ((((h.val * 3 + p.val) * 8 + rl.val) * 64 + qc.val) * 16 + kr.val) * 64 + kc.val
        = ((h.val * 3 + p.val) * 512 + ql.val) * 1024 + kk.val
      omega),
    transpose_apply [0, 1, 2, 4, 3, 5] _ _ (ix6 h p rl qc kr kc) (ix6 h p rl kr qc kc) (fun b => by
      match b with | ⟨0, _⟩ => rfl | ⟨1, _⟩ => rfl | ⟨2, _⟩ => rfl | ⟨3, _⟩ => rfl | ⟨4, _⟩ => rfl | ⟨5, _⟩ => rfl),
    select_apply]
  rw [broadcastInDim_apply _ _ _ (ix6 h p rl kr qc kc) (ix6 0 p rl kr qc kc) (fun a => by
      match a with | ⟨0, _⟩ => rfl | ⟨1, _⟩ => rfl | ⟨2, _⟩ => rfl | ⟨3, _⟩ => rfl | ⟨4, _⟩ => rfl | ⟨5, _⟩ => rfl),
    broadcastInDim_apply _ _ _ (ix6 0 p rl kr qc kc) (ix5 p rl kr qc kc) (fun a => by
      match a with | ⟨0, _⟩ => rfl | ⟨1, _⟩ => rfl | ⟨2, _⟩ => rfl | ⟨3, _⟩ => rfl | ⟨4, _⟩ => rfl),
    broadcastInDim_apply _ _ _ (ix6 h p rl kr qc kc) (ix6 h 0 rl kr qc kc) (fun a => by
      match a with | ⟨0, _⟩ => rfl | ⟨1, _⟩ => rfl | ⟨2, _⟩ => rfl | ⟨3, _⟩ => rfl | ⟨4, _⟩ => rfl | ⟨5, _⟩ => rfl),
    broadcastInDim_apply _ _ _ (ix6 h 0 rl kr qc kc) (ix5 h rl kr qc kc) (fun a => by
      match a with | ⟨0, _⟩ => rfl | ⟨1, _⟩ => rfl | ⟨2, _⟩ => rfl | ⟨3, _⟩ => rfl | ⟨4, _⟩ => rfl),
    gatherCols_apply, gatherRows_apply]
  unfold bias
  refine if_congr (maskArr_apply p rl kr qc kc) (congrArg _ ?_) ?_
  · refine congrArg₂ (ix3 h) (Fin.ext ?_) (Fin.ext ?_)
    · show min (rowIdx (ix3 rl kr 0)).toInt.toNat 14 = min (kr.val + 3 - rl.val) 14
      rw [rowIdx_apply]; omega
    · show min (colIdx (ix3 qc kc 0)).toInt.toNat 30 = min (kc.val + 15 - qc.val) 30
      rw [colIdx_apply]; omega
  · show Ideal.ofBits .f32 0xFF800000#32 = ⊥
    simp [Ideal.ofBits, Ideal.ieee]

end Cert.Na

end
-- ==== Proof.NaWindows.lean ====
module

public import proofs.«01_k».proof.Proof.Gen.ReferenceIdeal.Read
public import proofs.«01_k».proof.Proof.Softmax
public import proofs.«01_k».proof.Proof.NaTables
public import Idealize.ShloMosaic.Lib.Pipeline.Value
public import Idealize.ShloMosaic.Lib.KernelVsHost
public import Idealize.ShloMosaic.Lib.ValueIdx
public import Idealize.ShloMosaic.Lib.ValueLayout

/-! The windows of the attention reference: its masks and its offsets into the position bias, read at a pair of rows or columns. -/

@[expose] public section

set_option maxRecDepth 16384

noncomputable section

namespace Cert.NaRef

open Cert.ReferenceIdeal Cert.ReferenceIdeal.Gen Cert.ReferenceIdeal.Read Idealize.ShloMosaic Idealize.ShloMosaic.TcCoe
open Idealize.ShloMosaic.ValueIdx

/-- Key row `j` of the grid lies in the window of query row `r`. -/
abbrev rowWin (r j : Nat) : Prop := min (r - 4) 24 ≤ j ∧ j < min (r - 4) 24 + 8

/-- Key column `k` of the grid lies in the window of query column `q`. -/
abbrev colWin (q k : Nat) : Prop := min (q - 8) 48 ≤ k ∧ k < min (q - 8) 48 + 16

/-- The reference's row mask is the row window. -/
theorem rowMask_eq : ∀ r j : Fin 32, val_main_v28 (F := Ideal) (ix2 r j) = 1#1 ↔ rowWin r.val j.val := by
  decide +kernel

/-- The reference's column mask is the column window. -/
theorem colMask_eq : ∀ q k : Fin 64, val_main_v39 (F := Ideal) (ix2 q k) = 1#1 ↔ colWin q.val k.val := by
  decide +kernel

/-- The reference's row offset into the position bias. -/
theorem rowOffset_eq : ∀ r j : Fin 32, (val_main_v53 (F := Ideal) (ix2 r j)).toInt.toNat = min (j.val + 7 - r.val) 14 := by
  decide +kernel

/-- The reference's column offset into the position bias. -/
theorem colOffset_eq : ∀ q k : Fin 64, (val_main_v61 (F := Ideal) (ix2 q k)).toInt.toNat = min (k.val + 15 - q.val) 30 := by
  decide +kernel

end Cert.NaRef

end
-- ==== Proof.NaReference.lean ====
module

public import proofs.«01_k».proof.Proof.NaWindows

/-! What the attention reference computes at one position, head and lane: one row of masked attention over all keys. -/

@[expose] public section

set_option maxRecDepth 16384

noncomputable section

namespace Cert.NaRef

open Cert.ReferenceIdeal Cert.ReferenceIdeal.Gen Cert.ReferenceIdeal.Read Idealize.ShloMosaic Idealize.ShloMosaic.TcCoe
open Idealize.ShloMosaic.ValueIdx

/-- The first gather picks a row of the position bias per pair of rows. -/
theorem gatherRows_apply (x : S12x15x31.Idx → EReal) (idx : IVec S32x32x1 32) (h : Fin 12) (rl : Fin 32) (kr : Fin 32) (j : Fin 31) :
    Host.gather gather_S12x15x31_S32x32x1_S12x32x32x31_03_1_n_n_1_2_12131 x idx (ix4 h rl kr j)
      = x (ix3 h ⟨min (idx (ix3 rl kr 0)).toInt.toNat 14, by omega⟩ j) := by
  unfold Host.gather
  refine congrArg x (funext fun a => Fin.ext ?_)
  show GatherDims.start _ _ idx a + GatherDims.batchCoord _ _ a + GatherDims.offCoord _ _ a = _
  rw [GatherDims.batchCoord_eq_zero _ _ _ List.not_mem_nil]
  match a with
  | ⟨0, _⟩ =>
    unfold GatherDims.start GatherDims.offCoord
    rw [dif_neg (by decide +revert), dif_pos (by decide +revert)]
    exact Nat.zero_add _
  | ⟨1, _⟩ =>
    rw [GatherDims.offCoord_eq_zero _ _ _ (fun h => ((GatherDims.mem_sKept _ _).mp h).1 (List.mem_singleton.mpr rfl))]
    unfold GatherDims.start
    rw [dif_pos (by decide +revert)]
    refine congrArg (fun v : BitVec 32 => min v.toInt.toNat 14) (congrArg idx (funext fun b => ?_))
    match b with
    | ⟨0, _⟩ => rfl
    | ⟨1, _⟩ => rfl
    | ⟨2, _⟩ => rfl
  | ⟨2, _⟩ =>
    unfold GatherDims.start GatherDims.offCoord
    rw [dif_neg (by decide +revert), dif_pos (by decide +revert)]
    exact Nat.zero_add _

/-- The second gather picks an entry of each such row per pair of columns. -/
theorem gatherCols_apply (x : S12x32x32x31.Idx → EReal) (idx : IVec S64x64x1 32) (h : Fin 12) (rl : Fin 32) (kr : Fin 32)
    (qc kc : Fin 64) :
    Host.gather gather_S12x32x32x31_S64x64x1_S12x32x32x64x64_012_3_n_n_3_2_1232321 x idx (ix5 h rl kr qc kc)
      = x (ix4 h rl kr ⟨min (idx (ix3 qc kc 0)).toInt.toNat 30, by omega⟩) := by
  unfold Host.gather
  refine congrArg x (funext fun a => Fin.ext ?_)
  show GatherDims.start _ _ idx a + GatherDims.batchCoord _ _ a + GatherDims.offCoord _ _ a = _
  rw [GatherDims.batchCoord_eq_zero _ _ _ List.not_mem_nil]
  match a with
  | ⟨0, _⟩ =>
    unfold GatherDims.start GatherDims.offCoord
    rw [dif_neg (by decide +revert), dif_pos (by decide +revert)]
    exact Nat.zero_add _
  | ⟨1, _⟩ =>
    unfold GatherDims.start GatherDims.offCoord
    rw [dif_neg (by decide +revert), dif_pos (by decide +revert)]
    exact Nat.zero_add _
  | ⟨2, _⟩ =>
    unfold GatherDims.start GatherDims.offCoord
    rw [dif_neg (by decide +revert), dif_pos (by decide +revert)]
    exact Nat.zero_add _
  | ⟨3, _⟩ =>
    rw [GatherDims.offCoord_eq_zero _ _ _ (fun h => ((GatherDims.mem_sKept _ _).mp h).1 (List.mem_singleton.mpr rfl))]
    unfold GatherDims.start
    rw [dif_pos (by decide +revert)]
    refine congrArg (fun v : BitVec 32 => min v.toInt.toNat 30) (congrArg idx (funext fun b => ?_))
    match b with
    | ⟨0, _⟩ => rfl
    | ⟨1, _⟩ => rfl
    | ⟨2, _⟩ => rfl

variable (x0 : S16x2048x4352.Idx → EReal) (x1 : S12x15x31.Idx → EReal)

/-- The position of row `r` and column `q` of the grid. -/
def pos (r : Fin 32) (q : Fin 64) : Fin 2048 := ⟨r.val * 64 + q.val, by omega⟩

/-- Lane `d` of head `h` of the part of the projection that starts at column `o`. -/
def lane (o : Nat) (ho : o ≤ 3072) (h : Fin 12) (d : Fin 64) : Fin 4352 := ⟨o + (h.val * 64 + d.val), by omega⟩

/-- The masked score of key `j` for the query at row `r` and column `q`, in head `h` of image `b`. -/
def score (b : Fin 16) (h : Fin 12) (r : Fin 32) (q : Fin 64) (j : Fin 2048) : EReal :=
  if rowWin r.val (j.val / 64) ∧ colWin q.val (j.val % 64) then
    (∑ d : Fin 64, (x0 (ix3 b (pos r q) (lane 1536 (by decide) h d)) * Ideal.ofBits .f32 0x3E000000#32)
        * x0 (ix3 b j (lane 2304 (by decide) h d)))
      + x1 (ix3 h ⟨min (j.val / 64 + 7 - r.val) 14, by omega⟩ ⟨min (j.val % 64 + 15 - q.val) 30, by omega⟩)
  else ⊥

/-- The value of key `j` in lane `d` of head `h` of image `b`. -/
def value (b : Fin 16) (h : Fin 12) (d : Fin 64) (j : Fin 2048) : EReal := x0 (ix3 b j (lane 3072 (by decide) h d))

/-- A conjunction of two bits is set when both are. -/
theorem andi_one (a b : BitVec 1) : IntOp.andi a b = 1#1 ↔ a = 1#1 ∧ b = 1#1 := by
  revert a b; decide

/-- The mask at a query and a key is set when the key lies in the query's window. -/
theorem mask_apply (b : Fin 16) (h : Fin 12) (r : Fin 32) (q : Fin 64) (j : Fin 2048) :
    val_main_call6_v1 (F := Ideal) (ix5 b h r q j) = 1#1 ↔ rowWin r.val (j.val / 64) ∧ colWin q.val (j.val % 64) := by
  have hj := j.isLt
  have e : val_main_call6_v1 (F := Ideal) (ix5 b h r q j)
      = val_main_v44 (F := Ideal) (ix4 r q (⟨j.val / 64, by omega⟩ : Fin 32) (⟨j.val % 64, by omega⟩ : Fin 64)) := by
    rw [val_main_call6_v1_apply, val_main_v67_apply, val_main_v45_apply]
    refine congrArg _ (funext fun a => Fin.ext ?_)
    match a with
    | ⟨0, _⟩ => show ((r.val * 64 + q.val) * 2048 + j.val) / 131072 = r.val; omega
    | ⟨1, _⟩ => show ((r.val * 64 + q.val) * 2048 + j.val) / 2048 % 64 = q.val; omega
    | ⟨2, _⟩ => show ((r.val * 64 + q.val) * 2048 + j.val) / 64 % 32 = j.val / 64; omega
    | ⟨3, _⟩ => show ((r.val * 64 + q.val) * 2048 + j.val) % 64 = j.val % 64; omega
  rw [e, val_main_v44_apply, andi_one, val_main_v42_apply, val_main_v40_apply, val_main_v43_apply, val_main_v41_apply]
  refine and_congr (Iff.trans (Eq.congr_left (congrArg _ ?_)) (rowMask_eq r ⟨j.val / 64, by omega⟩))
    (Iff.trans (Eq.congr_left (congrArg _ ?_)) (colMask_eq q ⟨j.val % 64, by omega⟩))
  · exact funext fun a => by match a with | ⟨0, _⟩ => rfl | ⟨1, _⟩ => rfl
  · exact funext fun a => by match a with | ⟨0, _⟩ => rfl | ⟨1, _⟩ => rfl

/-- The position bias at a query and a key. -/
theorem bias_apply (b : Fin 16) (h : Fin 12) (r : Fin 32) (q : Fin 64) (j : Fin 2048) :
    val_main_v69 (F := Ideal) x1 (ix5 b h r q j)
      = x1 (ix3 h ⟨min (j.val / 64 + 7 - r.val) 14, by omega⟩ ⟨min (j.val % 64 + 15 - q.val) 30, by omega⟩) := by
  have hj := j.isLt
  have e : val_main_v69 (F := Ideal) x1 (ix5 b h r q j)
      = val_main_v63 (F := Ideal) x1 (ix5 h r (⟨j.val / 64, by omega⟩ : Fin 32) q (⟨j.val % 64, by omega⟩ : Fin 64)) := by
    rw [val_main_v69_apply, val_main_v68_apply, val_main_v65_apply, val_main_v64_apply]
    refine congrArg _ (funext fun a => Fin.ext ?_)
    match a with
    | ⟨0, _⟩ => show (((h.val * 32 + r.val) * 64 + q.val) * 2048 + j.val) / 4194304 = h.val; omega
    | ⟨1, _⟩ => show (((h.val * 32 + r.val) * 64 + q.val) * 2048 + j.val) / 131072 % 32 = r.val; omega
    | ⟨2, _⟩ => show (((h.val * 32 + r.val) * 64 + q.val) * 2048 + j.val) / 64 % 32 = j.val / 64; omega
    | ⟨3, _⟩ => show (((h.val * 32 + r.val) * 64 + q.val) * 2048 + j.val) / 2048 % 64 = q.val; omega
    | ⟨4, _⟩ => show (((h.val * 32 + r.val) * 64 + q.val) * 2048 + j.val) % 64 = j.val % 64; omega
  rw [e]
  unfold val_main_v63 val_main_v62
  rw [gatherCols_apply, gatherRows_apply]
  refine congrArg x1 (congrArg₂ (ix3 h) (Fin.ext ?_) (Fin.ext ?_))
  · show min (val_main_call4_v0 (F := Ideal) (ix3 r (⟨j.val / 64, by omega⟩ : Fin 32) 0)).toInt.toNat 14 = min (j.val / 64 + 7 - r.val) 14
    have e1 : val_main_call4_v0 (F := Ideal) (ix3 r (⟨j.val / 64, by omega⟩ : Fin 32) 0)
        = val_main_v53 (F := Ideal) (ix2 r (⟨j.val / 64, by omega⟩ : Fin 32)) := by
      rw [val_main_call4_v0_apply]
      exact congrArg _ (funext fun a => by match a with | ⟨0, _⟩ => rfl | ⟨1, _⟩ => rfl)
    rw [e1, rowOffset_eq]
    show min (min (j.val / 64 + 7 - r.val) 14) 14 = min (j.val / 64 + 7 - r.val) 14
    omega
  · show min (val_main_call5_v0 (F := Ideal) (ix3 q (⟨j.val % 64, by omega⟩ : Fin 64) 0)).toInt.toNat 30 = min (j.val % 64 + 15 - q.val) 30
    have e1 : val_main_call5_v0 (F := Ideal) (ix3 q (⟨j.val % 64, by omega⟩ : Fin 64) 0)
        = val_main_v61 (F := Ideal) (ix2 q (⟨j.val % 64, by omega⟩ : Fin 64)) := by
      rw [val_main_call5_v0_apply]
      exact congrArg _ (funext fun a => by match a with | ⟨0, _⟩ => rfl | ⟨1, _⟩ => rfl)
    rw [e1, colOffset_eq]
    show min (min (j.val % 64 + 15 - q.val) 30) 30 = min (j.val % 64 + 15 - q.val) 30
    omega

/-- The unmasked product of a query and a key. -/
theorem product_apply (b : Fin 16) (h : Fin 12) (r : Fin 32) (q : Fin 64) (j : Fin 2048) :
    val_main_v66 (F := Ideal) x0 (ix5 b h r q j)
      = ∑ d : Fin 64, (x0 (ix3 b (pos r q) (lane 1536 (by decide) h d)) * Ideal.ofBits .f32 0x3E000000#32)
        * x0 (ix3 b j (lane 2304 (by decide) h d)) := by
  rw [val_main_v66_apply]
  refine Finset.sum_congr rfl fun d _ => ?_
  have hd := d.isLt
  have hj := j.isLt
  refine congrArg₂ (· * ·) ?_ ?_
  · rw [val_main_v5_apply, val_main_v2_apply, val_main_v0_apply]
    refine congrArg (· * Ideal.ofBits .f32 0x3E000000#32) (congrArg x0 (funext fun a => Fin.ext ?_))
    match a with
    | ⟨0, _⟩ => show ((((b.val * 32 + r.val) * 64 + q.val) * 12 + h.val) * 64 + d.val) / 1572864 = b.val; omega
    | ⟨1, _⟩ => show ((((b.val * 32 + r.val) * 64 + q.val) * 12 + h.val) * 64 + d.val) / 768 % 2048 = r.val * 64 + q.val; omega
    | ⟨2, _⟩ => show 1536 + ((((b.val * 32 + r.val) * 64 + q.val) * 12 + h.val) * 64 + d.val) % 768 = 1536 + (h.val * 64 + d.val); omega
  · rw [val_main_v6_apply, val_main_v3_apply]
    refine congrArg x0 (funext fun a => Fin.ext ?_)
    match a with
    | ⟨0, _⟩ => show (((b.val * 2048 + j.val) * 12 + h.val) * 64 + d.val) / 1572864 = b.val; omega
    | ⟨1, _⟩ => show (((b.val * 2048 + j.val) * 12 + h.val) * 64 + d.val) / 768 % 2048 = j.val; omega
    | ⟨2, _⟩ => show 2304 + (((b.val * 2048 + j.val) * 12 + h.val) * 64 + d.val) % 768 = 2304 + (h.val * 64 + d.val); omega

/-- The word of minus infinity. -/
theorem ofBits_neg_inf : Ideal.ofBits .f32 0xFF800000#32 = (⊥ : EReal) := by
  simp [Ideal.ofBits, Ideal.ieee]

/-- The masked scores. -/
theorem score_apply (b : Fin 16) (h : Fin 12) (r : Fin 32) (q : Fin 64) (j : Fin 2048) :
    val_main_v71 (F := Ideal) x0 x1 (ix5 b h r q j) = score x0 x1 b h r q j := by
  rw [val_main_v71_apply]
  unfold score
  refine if_congr (mask_apply b h r q j) ?_ ?_
  · rw [val_main_v70_apply, product_apply, bias_apply]
    rfl
  · exact ofBits_neg_inf

/-- The last axis can be reduced away. -/
theorem reduces : S16x12x32x64x2048.Reduces [4] S16x12x32x64 := by decide

/-- Minus infinity is where a maximum starts. -/
theorem neutral : (0xFF800000#32 : BitVec 32) = FKind.maximumf.neutral .f32 (.inl rfl) := rfl

/-- A maximum along the last axis, as a fold over that axis. -/
theorem reduceMax_eq (y : FVec Ideal S16x12x32x64x2048 .f32) (i : S16x12x32x64.Idx) :
    Host.reduce FloatOps.maximumf y (constant S_ .f32 0xFF800000#32) reducesTo_S16x12x32x64x2048_S16x12x32x64_d4 h_S_ i
      = (Finset.univ : Finset (Fin 2048)).fold max (FloatOps.ofBits (F := Ideal) .f32 0xFF800000#32) (y ∘ reduces.lift i) :=
  (congrFun (hostReduce_maximumf_eq_multiReduction y 0xFF800000#32 reducesTo_S16x12x32x64x2048_S16x12x32x64_d4 h_S_ reduces
    (.inl rfl) neutral) i).trans (Ideal.multiReduction_maximumf_single y _ reduces (.inl rfl) neutral i)

/-- The largest score of a query. -/
theorem max_apply (b : Fin 16) (h : Fin 12) (r : Fin 32) (q : Fin 64) :
    val_main_v72 (F := Ideal) x0 x1 (ix4 b h r q) = Finset.univ.sup (score x0 x1 b h r q) := by
  refine (reduceMax_eq (val_main_v71 (F := Ideal) x0 x1) (ix4 b h r q)).trans ?_
  have hb : FloatOps.ofBits (F := Ideal) .f32 0xFF800000#32 = (⊥ : EReal) := ofBits_neg_inf
  rw [hb]
  show Finset.fold max (⊥ : EReal) _ _ = Finset.fold max ⊥ _ _
  refine Finset.fold_congr fun k _ => ?_
  have ei : reduces.lift (ix4 b h r q) k = ix5 b h r q k :=
    funext fun a => Fin.ext (by match a with | ⟨0, _⟩ => rfl | ⟨1, _⟩ => rfl | ⟨2, _⟩ => rfl | ⟨3, _⟩ => rfl | ⟨4, _⟩ => rfl)
  show val_main_v71 (F := Ideal) x0 x1 (reduces.lift (ix4 b h r q) k) = _
  rw [ei]
  exact score_apply x0 x1 b h r q k

/-- The weight of a key before the division. -/
theorem weight_apply (b : Fin 16) (h : Fin 12) (r : Fin 32) (q : Fin 64) (j : Fin 2048) :
    val_main_v78 (F := Ideal) x0 x1 (ix5 b h r q j) = Softmax.weight (score x0 x1 b h r q) j := by
  have e : val_main_v76 (F := Ideal) x0 x1 (ix5 b h r q j) = Finset.univ.sup (score x0 x1 b h r q) := by
    rw [val_main_v76_apply, val_main_v75_apply, val_main_v74_apply, val_main_v73_apply]
    show max (Ideal.ofBits .f32 0xFF800000#32) _ = _
    rw [ofBits_neg_inf, max_bot_left]
    refine Eq.trans (congrArg _ ?_) (max_apply x0 x1 b h r q)
    exact funext fun a => by match a with | ⟨0, _⟩ => rfl | ⟨1, _⟩ => rfl | ⟨2, _⟩ => rfl | ⟨3, _⟩ => rfl
  rw [val_main_v78_apply, val_main_v77_apply, e, score_apply]
  rfl

/-- The sum of a query's weights. -/
theorem total_apply (b : Fin 16) (h : Fin 12) (r : Fin 32) (q : Fin 64) (j : Fin 2048) :
    val_main_v81 (F := Ideal) x0 x1 (ix5 b h r q j) = ∑ k, Softmax.weight (score x0 x1 b h r q) k := by
  rw [val_main_v81_apply, val_main_v80_apply, val_main_v79_apply]
  have hz : val_main_cst_16 (F := Ideal) (Shape.Idx.first h_S_) = (0 : EReal) := Ideal.ofBits_zero_f32
  rw [hz, zero_add]
  refine Finset.sum_congr rfl fun k _ => ?_
  refine Eq.trans (congrArg _ ?_) (weight_apply x0 x1 b h r q k)
  exact funext fun a => by match a with | ⟨0, _⟩ => rfl | ⟨1, _⟩ => rfl | ⟨2, _⟩ => rfl | ⟨3, _⟩ => rfl | ⟨4, _⟩ => rfl

/-- The reference's result, at image `b`, the query at row `r` and column `q`, and lane `d` of head `h`, is a row of attention. -/
theorem result_apply (b : Fin 16) (h : Fin 12) (r : Fin 32) (q : Fin 64) (d : Fin 64) :
    val_main_v85 (F := Ideal) x0 x1 (ix3 b (pos r q) (⟨h.val * 64 + d.val, by omega⟩ : Fin 768))
      = Softmax.early (score x0 x1 b h r q) (value x0 b h d) := by
  have hd := d.isLt
  have hh := h.isLt
  have e : val_main_v85 (F := Ideal) x0 x1 (ix3 b (pos r q) (⟨h.val * 64 + d.val, by omega⟩ : Fin 768))
      = val_main_v83 (F := Ideal) x0 x1 (ix5 b h d r q) := by
    rw [val_main_v85_apply, val_main_v84_apply]
    refine congrArg _ (funext fun a => Fin.ext ?_)
    match a with
    | ⟨0, _⟩ => show ((b.val * 2048 + (r.val * 64 + q.val)) * 768 + (h.val * 64 + d.val)) / 1572864 = b.val; omega
    | ⟨1, _⟩ => show ((b.val * 2048 + (r.val * 64 + q.val)) * 768 + (h.val * 64 + d.val)) / 64 % 12 = h.val; omega
    | ⟨2, _⟩ => show ((b.val * 2048 + (r.val * 64 + q.val)) * 768 + (h.val * 64 + d.val)) % 64 = d.val; omega
    | ⟨3, _⟩ => show ((b.val * 2048 + (r.val * 64 + q.val)) * 768 + (h.val * 64 + d.val)) / 49152 % 32 = r.val; omega
    | ⟨4, _⟩ => show ((b.val * 2048 + (r.val * 64 + q.val)) * 768 + (h.val * 64 + d.val)) / 768 % 64 = q.val; omega
  rw [e, val_main_v83_apply]
  unfold Softmax.early
  refine Finset.sum_congr rfl fun j _ => ?_
  have hj := j.isLt
  refine congrArg₂ (· * ·) ?_ ?_
  · rw [val_main_v7_apply, val_main_v4_apply]
    refine congrArg x0 (funext fun a => Fin.ext ?_)
    match a with
    | ⟨0, _⟩ => show (((b.val * 2048 + j.val) * 12 + h.val) * 64 + d.val) / 1572864 = b.val; omega
    | ⟨1, _⟩ => show (((b.val * 2048 + j.val) * 12 + h.val) * 64 + d.val) / 768 % 2048 = j.val; omega
    | ⟨2, _⟩ => show 3072 + (((b.val * 2048 + j.val) * 12 + h.val) * 64 + d.val) % 768 = 3072 + (h.val * 64 + d.val); omega
  · have ei : ridx_main_v83 (ix5 b h d r q) j = ix5 b h r q j :=
      funext fun a => by match a with | ⟨0, _⟩ => rfl | ⟨1, _⟩ => rfl | ⟨2, _⟩ => rfl | ⟨3, _⟩ => rfl | ⟨4, _⟩ => rfl
    rw [ei, val_main_v82_apply, weight_apply, total_apply]
    rfl

end Cert.NaRef

end
-- ==== Proof.NaRow.lean ====
module

public import proofs.«01_k».proof.Proof.NaBlock
public import proofs.«01_k».proof.Proof.NaBias
public import proofs.«01_k».proof.Proof.NaReference

/-! One row of the attention tile is the reference's row: the keys the tile stages are, inside the query's window, the keys
of the whole grid, with the same scores and values, and outside the window both sides are masked. -/

@[expose] public section

noncomputable section

namespace Cert.Na

open Cert.KernelIdeal Cert.KernelIdeal.Gen Idealize.ShloMosaic Idealize.ShloMosaic.ValueIdx

/-- The token that staged key `kk` of row block `rb` is. -/
def tok (rb : Fin 4) (kk : Fin 1024) : Fin 2048 :=
  ⟨if kk.val < 256 then (2 * rb.val - 1) * 256 + kk.val
    else if kk.val < 768 then rb.val * 512 + (kk.val - 256)
    else min (2 * rb.val + 2) 7 * 256 + (kk.val - 768), by split_ifs <;> omega⟩

/-- The bias pattern of row block `rb`. -/
def pat (rb : Fin 4) : Fin 3 := ⟨if rb.val = 0 then 0 else if rb.val = 3 then 2 else 1, by split_ifs <;> omega⟩

/-- The staged key that token `j` is, for row `ρ` of row block `rb`. -/
def keyAt (rb : Fin 4) (ρ : Fin 512) (j : Fin 2048) : Fin 768 :=
  ⟨(j.val + 256 - (512 * rb.val + 256 * (ρ.val / 256))) % 768, Nat.mod_lt _ (by decide)⟩

/-- Inside the window the staged key is the token it stands for. -/
theorem tok_eq (rb : Fin 4) (ρ : Fin 512) (κ : Fin 768)
    (h : rowIn (pat rb).val (ρ.val / 64) ((keyOf ρ κ).val / 64)) :
    (tok rb (keyOf ρ κ)).val + 256 = 512 * rb.val + (κ.val + 256 * (ρ.val / 256)) := by
  have h1 := rb.isLt
  have h2 := ρ.isLt
  have h3 := κ.isLt
  have ekk : (keyOf ρ κ).val = κ.val + 256 * (ρ.val / 256) := rfl
  have hc : (rb.val = 0 → 256 ≤ (keyOf ρ κ).val) ∧ (rb.val = 3 → (keyOf ρ κ).val < 768) := by
    obtain ⟨ha, hb⟩ := h
    simp only [pat] at ha hb
    refine ⟨fun h0 => ?_, fun h9 => ?_⟩
    · simp only [h0, if_true] at ha hb; omega
    · simp only [h9] at ha hb; norm_num at ha hb; omega
  obtain ⟨hc0, hc3⟩ := hc
  have et : (tok rb (keyOf ρ κ)).val = if (keyOf ρ κ).val < 256 then (2 * rb.val - 1) * 256 + (keyOf ρ κ).val
    else if (keyOf ρ κ).val < 768 then rb.val * 512 + ((keyOf ρ κ).val - 256)
    else min (2 * rb.val + 2) 7 * 256 + ((keyOf ρ κ).val - 768) := rfl
  by_cases a : (keyOf ρ κ).val < 256
  · rw [if_pos a] at et; omega
  · by_cases b : (keyOf ρ κ).val < 768
    · rw [if_neg a, if_pos b] at et; omega
    · rw [if_neg a, if_neg b] at et; omega

/-- Inside the window of the tile is inside the window of the grid. -/
theorem window_of (rb : Fin 4) (ρ : Fin 512) (κ : Fin 768)
    (h : rowIn (pat rb).val (ρ.val / 64) ((keyOf ρ κ).val / 64)) :
    NaRef.rowWin (8 * rb.val + ρ.val / 64) ((tok rb (keyOf ρ κ)).val / 64) := by
  have e := tok_eq rb ρ κ h
  have h1 := rb.isLt
  have h2 := ρ.isLt
  have h3 := κ.isLt
  simp only [rowIn, pat, keyOf] at h
  generalize (tok rb (keyOf ρ κ)).val = T at e
  obtain ⟨ha, hb⟩ := h
  by_cases h0 : rb.val = 0
  · simp only [h0, if_true] at ha hb
    constructor <;> omega
  · by_cases h9 : rb.val = 3
    · simp only [h9] at ha hb
      norm_num at ha hb
      constructor <;> omega
    · simp only [h0, h9, if_false] at ha hb
      norm_num at ha hb
      constructor <;> omega

/-- Inside the window of the grid, the token is staged, inside the window of the tile. -/
theorem window_at (rb : Fin 4) (ρ : Fin 512) (j : Fin 2048) (h : NaRef.rowWin (8 * rb.val + ρ.val / 64) (j.val / 64)) :
    rowIn (pat rb).val (ρ.val / 64) ((keyOf ρ (keyAt rb ρ j)).val / 64)
      ∧ (keyOf ρ (keyAt rb ρ j)).val + 512 * rb.val = j.val + 256 := by
  have h1 := rb.isLt
  have h2 := ρ.isLt
  have h3 := j.isLt
  obtain ⟨ha, hb⟩ := h
  have hr : (keyOf ρ (keyAt rb ρ j)).val + 512 * rb.val = j.val + 256 := by
    show (j.val + 256 - (512 * rb.val + 256 * (ρ.val / 256))) % 768 + 256 * (ρ.val / 256) + 512 * rb.val = j.val + 256
    omega
  refine ⟨?_, hr⟩
  generalize (keyOf ρ (keyAt rb ρ j)).val = T at hr
  simp only [rowIn, pat]
  by_cases h0 : rb.val = 0
  · simp only [h0, if_true]
    constructor <;> omega
  · by_cases h9 : rb.val = 3
    · simp only [h9]
      norm_num
      constructor <;> omega
    · simp only [h0, h9, if_false]
      norm_num
      constructor <;> omega

/-- A number that is neither infinity. -/
def IsFinite (x : EReal) : Prop := x ≠ ⊤ ∧ x ≠ ⊥

/-- A product of finite numbers is finite. -/
theorem IsFinite.mul {x y : EReal} (hx : IsFinite x) (hy : IsFinite y) : IsFinite (x * y) := by
  lift x to ℝ using hx
  lift y to ℝ using hy
  rw [← EReal.coe_mul]
  exact ⟨EReal.coe_ne_top _, EReal.coe_ne_bot _⟩

/-- A sum of two finite numbers is finite. -/
theorem IsFinite.add {x y : EReal} (hx : IsFinite x) (hy : IsFinite y) : IsFinite (x + y) := by
  lift x to ℝ using hx
  lift y to ℝ using hy
  rw [← EReal.coe_add]
  exact ⟨EReal.coe_ne_top _, EReal.coe_ne_bot _⟩

/-- A finite sum of finite numbers is finite. -/
theorem IsFinite.sum {ι : Type} (t : Finset ι) (f : ι → EReal) (h : ∀ i, IsFinite (f i)) : IsFinite (∑ i ∈ t, f i) :=
  ⟨Softmax.sum_ne_top t f fun i _ => (h i).1, Softmax.sum_ne_bot t f fun i _ => (h i).2⟩

/-- The scale of the queries is finite. -/
theorem scale_fin : IsFinite scale := by
  unfold scale
  have e : Ideal.ofBits .f32 0x3E000000#32 = (((1 / 8 : ℝ)) : EReal) := by
    simp [Ideal.ofBits, Ideal.ieee, -EReal.coe_mul]; norm_num
  rw [e]
  exact ⟨EReal.coe_ne_top _, EReal.coe_ne_bot _⟩

/-- A product over 128 lanes of which only one head's 64 are kept. -/
theorem sum_lanes (hh : Fin 2) (f g : Fin 128 → EReal) :
    ∑ d : Fin 128, (if d.val / 64 = hh.val then f d else 0) * g d
      = ∑ e : Fin 64, f ⟨64 * hh.val + e.val, by omega⟩ * g ⟨64 * hh.val + e.val, by omega⟩ := by
  refine (Softmax.sum_transfer (fun e : Fin 64 => f ⟨64 * hh.val + e.val, by omega⟩ * g ⟨64 * hh.val + e.val, by omega⟩) _
    (fun _ => True) (fun d : Fin 128 => d.val / 64 = hh.val) (fun e => ⟨64 * hh.val + e.val, by omega⟩)
    (fun d => ⟨d.val % 64, Nat.mod_lt _ (by decide)⟩) (fun k h => absurd trivial h) (fun d h => ?_) (fun e _ => ?_) (fun d h => ?_)).symm
  · show (if d.val / 64 = hh.val then f d else 0) * g d = 0
    rw [if_neg h, zero_mul]
  · have he := e.isLt
    have hd : (64 * hh.val + e.val) / 64 = hh.val := by omega
    refine ⟨hd, ?_, Fin.ext ?_⟩
    · show (if (64 * hh.val + e.val) / 64 = hh.val then _ else _) * _ = _
      rw [if_pos hd]
    · show (64 * hh.val + e.val) % 64 = e.val
      omega
  · refine ⟨trivial, Fin.ext ?_⟩
    show 64 * hh.val + d.val % 64 = d.val
    have h' : d.val / 64 = hh.val := h
    omega

variable (X : S16x2048x4352.Idx → EReal) (P : S12x15x31.Idx → EReal)
  (x0 : Vec Ideal S1x512x128 .f32) (x1 : Vec Ideal S1x256x128 .f32) (x2 : Vec Ideal S1x512x128 .f32)
  (x3 x4 : Vec Ideal S1x256x128 .f32) (x5 : Vec Ideal S1x512x128 .f32) (x6 : Vec Ideal S1x256x128 .f32)
  (x7 : Vec Ideal S2x1x512x1024 .f32)

/-- Token `ρ` of row block `rb`. -/
def tokenOf (rb : Fin 4) (ρ : Fin 512) : Fin 2048 := ⟨512 * rb.val + ρ.val, by omega⟩

/-- Lane `d` of head pair `hp` of the part of the projection that starts at column `o`. -/
def col (o : Nat) (ho : o ≤ 3072) (hp : Fin 6) (d : Fin 128) : Fin 4352 := ⟨o + (128 * hp.val + d.val), by omega⟩

/-- Head `hh` of head pair `hp`. -/
def headOf (hp : Fin 6) (hh : Fin 2) : Fin 12 := ⟨2 * hp.val + hh.val, by omega⟩

/-- Row `ρ` of the tile of head pair `hp`, row block `rb` and image `b` is the reference's row, when the numbers the scores are
made of are finite. -/
theorem row_eq (hp : Fin 6) (rb : Fin 4) (b : Fin 16) (ρ : Fin 512) (n : Fin 128)
    (hq : ∀ ρ d, (x0 (ix3 0 ρ d) : EReal) = X (ix3 b (tokenOf rb ρ) (col 1536 (by decide) hp d)))
    (hk : ∀ kk d, stack x1 x2 x3 kk d = X (ix3 b (tok rb kk) (col 2304 (by decide) hp d)))
    (hv : ∀ kk d, stack x4 x5 x6 kk d = X (ix3 b (tok rb kk) (col 3072 (by decide) hp d)))
    (hb : ∀ (hh : Fin 2) (ρ : Fin 512) (kk : Fin 1024), (x7 (ix4 hh 0 ρ kk) : EReal)
      = bias P (headOf hp hh) (pat rb) ⟨ρ.val / 64, by omega⟩ ⟨ρ.val % 64, by omega⟩ ⟨kk.val / 64, by omega⟩ ⟨kk.val % 64, by omega⟩)
    (hX : ∀ (l : Fin 2048) (c : Fin 4352), 1536 ≤ c.val → c.val < 3072 → IsFinite (X (ix3 b l c))) (hP : ∀ i, IsFinite (P i)) :
    tile x0 x1 x2 x3 x4 x5 x6 x7 ρ n
      = Softmax.early
        (NaRef.score X P b (headOf hp ⟨n.val / 64, by omega⟩) ⟨8 * rb.val + ρ.val / 64, by omega⟩ ⟨ρ.val % 64, by omega⟩)
        (NaRef.value X b (headOf hp ⟨n.val / 64, by omega⟩) ⟨n.val % 64, by omega⟩) := by
  have hn := n.isLt
  have hρ := ρ.isLt
  have hrb := rb.isLt
  unfold tile
  generalize hhe : (⟨n.val / 64, by omega⟩ : Fin 2) = hh
  have hhv : n.val / 64 = hh.val := congrArg Fin.val hhe
  -- the unmasked product of the row's query and a token's key
  let A : Fin 2048 → EReal := fun j => ∑ e : Fin 64,
    (X (ix3 b (tokenOf rb ρ) (col 1536 (by decide) hp ⟨64 * hh.val + e.val, by omega⟩)) * scale)
      * X (ix3 b j (col 2304 (by decide) hp ⟨64 * hh.val + e.val, by omega⟩))
  have hA : ∀ j, IsFinite (A j) := fun j => IsFinite.sum _ _ fun e =>
    ((hX _ _ (by show 1536 ≤ 1536 + _; omega) (by show 1536 + (128 * hp.val + (64 * hh.val + e.val)) < 3072; omega)).mul scale_fin).mul
      (hX _ _ (by show 1536 ≤ 2304 + _; omega) (by show 2304 + (128 * hp.val + (64 * hh.val + e.val)) < 3072; omega))
  let W : Fin 768 → Prop := fun κ => rowIn (pat rb).val (ρ.val / 64) ((keyOf ρ κ).val / 64) ∧ colIn (ρ.val % 64) ((keyOf ρ κ).val % 64)
  let B : Fin 768 → EReal := fun κ => P (ix3 (headOf hp hh) ⟨min ((keyOf ρ κ).val / 64 + 3 - ρ.val / 64) 14, by omega⟩
    ⟨min ((keyOf ρ κ).val % 64 + 15 - ρ.val % 64) 30, by omega⟩)
  have hs : ∀ κ, tileScore x0 x1 x2 x3 x7 ρ hh κ = A (tok rb (keyOf ρ κ))
      + bias P (headOf hp hh) (pat rb) ⟨ρ.val / 64, by omega⟩ ⟨ρ.val % 64, by omega⟩ ⟨(keyOf ρ κ).val / 64, by omega⟩
        ⟨(keyOf ρ κ).val % 64, by omega⟩ := fun κ => by
    unfold tileScore
    rw [hb]
    refine congrArg (· + _) ?_
    refine (sum_lanes hh (fun d => (x0 (ix3 0 ρ d) : EReal) * scale) (fun d => stack x1 x2 x3 (keyOf ρ κ) d)).trans ?_
    exact Finset.sum_congr rfl fun e _ => by rw [hq, hk]
  have hin : ∀ κ, W κ → tileScore x0 x1 x2 x3 x7 ρ hh κ = A (tok rb (keyOf ρ κ)) + B κ := fun κ h => by
    rw [hs]
    unfold bias
    rw [if_pos h]
  have hout : ∀ κ, ¬ W κ → tileScore x0 x1 x2 x3 x7 ρ hh κ = ⊥ := fun κ h => by
    rw [hs]
    unfold bias
    rw [if_neg h, EReal.add_bot]
  have hfin : ∀ κ, W κ → IsFinite (tileScore x0 x1 x2 x3 x7 ρ hh κ) := fun κ h => by
    rw [hin κ h]; exact (hA _).add (hP _)
  have hW : ∀ κ, tileScore x0 x1 x2 x3 x7 ρ hh κ ≠ ⊥ → W κ := fun κ h => by_contra fun hc => h (hout κ hc)
  -- inside the window the two scores agree
  have hagree : ∀ κ, W κ → NaRef.score X P b (headOf hp hh) ⟨8 * rb.val + ρ.val / 64, by omega⟩ ⟨ρ.val % 64, by omega⟩
      (tok rb (keyOf ρ κ)) = tileScore x0 x1 x2 x3 x7 ρ hh κ := fun κ h => by
    have hκ := κ.isLt
    have e := tok_eq rb ρ κ h.1
    have hw := window_of rb ρ κ h.1
    have ekk : (keyOf ρ κ).val = κ.val + 256 * (ρ.val / 256) := rfl
    have hm : (tok rb (keyOf ρ κ)).val % 64 = (keyOf ρ κ).val % 64 := by omega
    have hc : NaRef.colWin (ρ.val % 64) ((tok rb (keyOf ρ κ)).val % 64) := by rw [hm]; exact h.2
    rw [hin κ h]
    unfold NaRef.score
    rw [if_pos ⟨hw, hc⟩]
    refine congrArg₂ (· + ·) (Finset.sum_congr rfl fun d _ => congrArg₂ (· * ·) (congrArg (· * scale) (congrArg X ?_)) (congrArg X ?_))
      (congrArg P (congrArg₂ (ix3 (headOf hp hh)) (Fin.ext ?_) (Fin.ext ?_)))
    · refine congrArg₂ (ix3 b) (Fin.ext ?_) (Fin.ext ?_)
      · show (8 * rb.val + ρ.val / 64) * 64 + ρ.val % 64 = 512 * rb.val + ρ.val
        omega
      · show 1536 + ((2 * hp.val + hh.val) * 64 + d.val) = 1536 + (128 * hp.val + (64 * hh.val + d.val))
        omega
    · refine congrArg₂ (ix3 b) rfl (Fin.ext ?_)
      show 2304 + ((2 * hp.val + hh.val) * 64 + d.val) = 2304 + (128 * hp.val + (64 * hh.val + d.val))
      omega
    · show min ((tok rb (keyOf ρ κ)).val / 64 + 7 - (8 * rb.val + ρ.val / 64)) 14 = min ((keyOf ρ κ).val / 64 + 3 - ρ.val / 64) 14
      omega
    · show min ((tok rb (keyOf ρ κ)).val % 64 + 15 - ρ.val % 64) 30 = min ((keyOf ρ κ).val % 64 + 15 - ρ.val % 64) 30
      rw [hm]
  -- the query's own token is a key inside the window
  have hself : W ⟨ρ.val % 256 + 256, by omega⟩ := by
    have ekk : (keyOf ρ ⟨ρ.val % 256 + 256, by omega⟩).val = ρ.val % 256 + 256 + 256 * (ρ.val / 256) := rfl
    have e1 : (keyOf ρ ⟨ρ.val % 256 + 256, by omega⟩).val / 64 = ρ.val / 64 + 4 := by omega
    have e2 : (keyOf ρ ⟨ρ.val % 256 + 256, by omega⟩).val % 64 = ρ.val % 64 := by omega
    show rowIn _ _ _ ∧ colIn _ _
    rw [e1, e2]
    unfold rowIn colIn
    refine ⟨?_, by omega⟩
    split_ifs <;> omega
  refine Softmax.late_eq_early _ _ _ _ (fun κ => tok rb (keyOf ρ κ)) (keyAt rb ρ) (fun κ => ?_) ⟨ρ.val % 256 + 256, by omega⟩
    (hfin _ hself).2 (fun κ h => ?_) (fun j h => ?_)
  · by_cases h : W κ
    · exact (hfin κ h).1
    · rw [hout κ h]; exact bot_ne_top
  · have hw := hW κ h
    refine ⟨hagree κ hw, ?_, Fin.ext ?_⟩
    · rw [hv]
      unfold NaRef.value
      refine congrArg X (congrArg₂ (ix3 b) rfl (Fin.ext ?_))
      show 3072 + ((2 * hp.val + hh.val) * 64 + n.val % 64) = 3072 + (128 * hp.val + n.val)
      omega
    · have e := tok_eq rb ρ κ hw.1
      have hκ := κ.isLt
      show ((tok rb (keyOf ρ κ)).val + 256 - (512 * rb.val + 256 * (ρ.val / 256))) % 768 = κ.val
      omega
  · have hw : NaRef.rowWin (8 * rb.val + ρ.val / 64) (j.val / 64) ∧ NaRef.colWin (ρ.val % 64) (j.val % 64) := by_contra fun hc => h (if_neg hc)
    obtain ⟨hr, ej⟩ := window_at rb ρ j hw.1
    have e := tok_eq rb ρ (keyAt rb ρ j) hr
    have ekk : (keyOf ρ (keyAt rb ρ j)).val = (keyAt rb ρ j).val + 256 * (ρ.val / 256) := rfl
    have et : tok rb (keyOf ρ (keyAt rb ρ j)) = j := Fin.ext (by omega)
    have hm : (keyOf ρ (keyAt rb ρ j)).val % 64 = j.val % 64 := by omega
    have hWj : W (keyAt rb ρ j) := ⟨hr, by rw [hm]; exact hw.2⟩
    refine ⟨et, ?_⟩
    rw [← hagree _ hWj, et]

end Cert.Na

end
-- ==== Proof.Na.lean ====
module

public import proofs.«01_k».proof.Defs
public import proofs.«01_k».proof.Proof.Gen.Pre_finite
public import proofs.«01_k».proof.Proof.NaIndex
public import proofs.«01_k».proof.Proof.NaRow
public import Idealize.ShloMosaic.Lib.ReduceAll

/-! The attention kernel computes the array the reference computes, when the queries, the keys and the position bias are
finite. -/

@[expose] public section

set_option maxRecDepth 16384

noncomputable section

namespace Cert.Na

open Cert.KernelIdeal Cert.KernelIdeal.Gen Idealize.ShloMosaic Idealize.ShloMosaic.TcCoe Idealize.SL.Sem
open Idealize.ShloMosaic.ValueIdx

/-! ## The precondition -/

/-- A number whose absolute value is below infinity is finite. -/
theorem finite_of_abs (x : EReal) (h : Ideal.cmp .olt (max x (-x)) (Ideal.ofBits .f32 0x7F800000#32) = 1#1) : IsFinite x := by
  have htop : Ideal.ofBits .f32 0x7F800000#32 = ⊤ := by simp [Ideal.ofBits, Ideal.ieee]
  rw [htop] at h
  refine ⟨fun hx => ?_, fun hx => ?_⟩ <;> subst hx <;> simp [Ideal.cmp] at h

/-- What the precondition says of the two arguments. -/
theorem pre_finite (X : S16x2048x4352.Idx → EReal) (P : S12x15x31.Idx → EReal)
    (h : Cert.Pre_finite.fn (F := Ideal) X P = fun _ => 1#1) :
    (∀ (b : Fin 16) (l : Fin 2048) (c : Fin 4352), 1536 ≤ c.val → c.val < 3072 → IsFinite (X (ix3 b l c))) ∧ ∀ i, IsFinite (P i) := by
  have hsub : Subsingleton Cert.Pre_finite.S_.Idx := ⟨fun a b => funext fun i => i.elim0⟩
  have h0 := congrFun h (fun a => a.elim0)
  obtain ⟨h1, h2⟩ := (andi_eq_one _ _).mp h0
  refine ⟨fun b l c hc hc' => ?_, fun i => ?_⟩
  · have e := Host.reduce_andi_all _ _ _ _ _ h1 (ix3 b l (⟨c.val - 1536, by omega⟩ : Fin 1536))
    refine (finite_of_abs _ e).imp ?_ ?_ <;> intro hx hy <;> refine hx (Eq.trans ?_ hy) <;>
      refine extractStridedSlice_apply _ _ _ _ (ix3 b l c) (fun a => ?_) <;>
      match a with
      | ⟨0, _⟩ => exact (Nat.zero_add _).symm
      | ⟨1, _⟩ => exact (Nat.zero_add _).symm
      | ⟨2, _⟩ => show c.val = 1536 + (c.val - 1536); omega
  · exact finite_of_abs _ (Host.reduce_andi_all _ _ _ _ _ h2 i)

/-! ## The blocks of a grid point -/

/-- The head pair of a grid point. -/
def hpOf (t : Fin 384) : Fin 6 := ⟨t.val / 64, by omega⟩
/-- The row block of a grid point. -/
def rbOf (t : Fin 384) : Fin 4 := ⟨t.val / 16 % 4, by omega⟩
/-- The image of a grid point. -/
def imgOf (t : Fin 384) : Fin 16 := ⟨t.val % 16, by omega⟩

variable (m : (ℓ : Loc nD τ sig) → Buf (Elt Ideal) ℓ)

/-- Window 0 at a grid point. -/
theorem blk0 (c : Dev nD) (t : Fin cfg0.N) (ht : t.val < 384) (i : Fin 512) (d : Fin 128) (l : Fin 2048)
    (hl : l.val = (t.val / 16 % 4) * 512 + i.val) :
    (iblk m c 0 t (ix3 0 i d) : EReal)
      = m ((c : Thread nD τ).loc main_arg0) (ix3 (imgOf ⟨t.val, ht⟩) l (col 1536 (by decide) (hpOf ⟨t.val, ht⟩) d)) := by
  obtain ⟨e0, e1, e2⟩ := idx0 t
  show V m c main_arg0 ((win0_0.rect t).emb (ix3 0 i d)) = _
  rw [V_main_arg0]
  refine congrArg (m ((c : Thread nD τ).loc main_arg0)) (funext fun a => Fin.ext ?_)
  match a with
  | ⟨0, _⟩ => exact (Pipeline.Window.rect_emb_val win0_0 t _ 0).trans (by
      rw [e0]; show t.val % 16 * 1 + 0 = t.val % 16; omega)
  | ⟨1, _⟩ => exact (Pipeline.Window.rect_emb_val win0_0 t _ 1).trans (by
      rw [e1]; exact hl.symm)
  | ⟨2, _⟩ => exact (Pipeline.Window.rect_emb_val win0_0 t _ 2).trans (by
      rw [e2]; show (12 + t.val / 64) * 128 + d.val = 1536 + (128 * (t.val / 64) + d.val); omega)

/-- Window 1 at a grid point. -/
theorem blk1 (c : Dev nD) (t : Fin cfg0.N) (ht : t.val < 384) (i : Fin 256) (d : Fin 128) (l : Fin 2048)
    (hl : l.val = (2 * (t.val / 16 % 4) - 1) * 256 + i.val) :
    (iblk m c 1 t (ix3 0 i d) : EReal)
      = m ((c : Thread nD τ).loc main_arg0) (ix3 (imgOf ⟨t.val, ht⟩) l (col 2304 (by decide) (hpOf ⟨t.val, ht⟩) d)) := by
  obtain ⟨e0, e1, e2⟩ := idx1 t
  show V m c main_arg0 ((win0_1.rect t).emb (ix3 0 i d)) = _
  rw [V_main_arg0]
  refine congrArg (m ((c : Thread nD τ).loc main_arg0)) (funext fun a => Fin.ext ?_)
  match a with
  | ⟨0, _⟩ => exact (Pipeline.Window.rect_emb_val win0_1 t _ 0).trans (by
      rw [e0]; show t.val % 16 * 1 + 0 = t.val % 16; omega)
  | ⟨1, _⟩ => exact (Pipeline.Window.rect_emb_val win0_1 t _ 1).trans (by
      rw [e1]; exact hl.symm)
  | ⟨2, _⟩ => exact (Pipeline.Window.rect_emb_val win0_1 t _ 2).trans (by
      rw [e2]; show (18 + t.val / 64) * 128 + d.val = 2304 + (128 * (t.val / 64) + d.val); omega)

/-- Window 2 at a grid point. -/
theorem blk2 (c : Dev nD) (t : Fin cfg0.N) (ht : t.val < 384) (i : Fin 512) (d : Fin 128) (l : Fin 2048)
    (hl : l.val = (t.val / 16 % 4) * 512 + i.val) :
    (iblk m c 2 t (ix3 0 i d) : EReal)
      = m ((c : Thread nD τ).loc main_arg0) (ix3 (imgOf ⟨t.val, ht⟩) l (col 2304 (by decide) (hpOf ⟨t.val, ht⟩) d)) := by
  obtain ⟨e0, e1, e2⟩ := idx2 t
  show V m c main_arg0 ((win0_2.rect t).emb (ix3 0 i d)) = _
  rw [V_main_arg0]
  refine congrArg (m ((c : Thread nD τ).loc main_arg0)) (funext fun a => Fin.ext ?_)
  match a with
  | ⟨0, _⟩ => exact (Pipeline.Window.rect_emb_val win0_2 t _ 0).trans (by
      rw [e0]; show t.val % 16 * 1 + 0 = t.val % 16; omega)
  | ⟨1, _⟩ => exact (Pipeline.Window.rect_emb_val win0_2 t _ 1).trans (by
      rw [e1]; exact hl.symm)
  | ⟨2, _⟩ => exact (Pipeline.Window.rect_emb_val win0_2 t _ 2).trans (by
      rw [e2]; show (18 + t.val / 64) * 128 + d.val = 2304 + (128 * (t.val / 64) + d.val); omega)

/-- Window 3 at a grid point. -/
theorem blk3 (c : Dev nD) (t : Fin cfg0.N) (ht : t.val < 384) (i : Fin 256) (d : Fin 128) (l : Fin 2048)
    (hl : l.val = (min (2 * (t.val / 16 % 4) + 2) 7) * 256 + i.val) :
    (iblk m c 3 t (ix3 0 i d) : EReal)
      = m ((c : Thread nD τ).loc main_arg0) (ix3 (imgOf ⟨t.val, ht⟩) l (col 2304 (by decide) (hpOf ⟨t.val, ht⟩) d)) := by
  obtain ⟨e0, e1, e2⟩ := idx3 t
  show V m c main_arg0 ((win0_3.rect t).emb (ix3 0 i d)) = _
  rw [V_main_arg0]
  refine congrArg (m ((c : Thread nD τ).loc main_arg0)) (funext fun a => Fin.ext ?_)
  match a with
  | ⟨0, _⟩ => exact (Pipeline.Window.rect_emb_val win0_3 t _ 0).trans (by
      rw [e0]; show t.val % 16 * 1 + 0 = t.val % 16; omega)
  | ⟨1, _⟩ => exact (Pipeline.Window.rect_emb_val win0_3 t _ 1).trans (by
      rw [e1]; exact hl.symm)
  | ⟨2, _⟩ => exact (Pipeline.Window.rect_emb_val win0_3 t _ 2).trans (by
      rw [e2]; show (18 + t.val / 64) * 128 + d.val = 2304 + (128 * (t.val / 64) + d.val); omega)

/-- Window 4 at a grid point. -/
theorem blk4 (c : Dev nD) (t : Fin cfg0.N) (ht : t.val < 384) (i : Fin 256) (d : Fin 128) (l : Fin 2048)
    (hl : l.val = (2 * (t.val / 16 % 4) - 1) * 256 + i.val) :
    (iblk m c 4 t (ix3 0 i d) : EReal)
      = m ((c : Thread nD τ).loc main_arg0) (ix3 (imgOf ⟨t.val, ht⟩) l (col 3072 (by decide) (hpOf ⟨t.val, ht⟩) d)) := by
  obtain ⟨e0, e1, e2⟩ := idx4 t
  show V m c main_arg0 ((win0_4.rect t).emb (ix3 0 i d)) = _
  rw [V_main_arg0]
  refine congrArg (m ((c : Thread nD τ).loc main_arg0)) (funext fun a => Fin.ext ?_)
  match a with
  | ⟨0, _⟩ => exact (Pipeline.Window.rect_emb_val win0_4 t _ 0).trans (by
      rw [e0]; show t.val % 16 * 1 + 0 = t.val % 16; omega)
  | ⟨1, _⟩ => exact (Pipeline.Window.rect_emb_val win0_4 t _ 1).trans (by
      rw [e1]; exact hl.symm)
  | ⟨2, _⟩ => exact (Pipeline.Window.rect_emb_val win0_4 t _ 2).trans (by
      rw [e2]; show (24 + t.val / 64) * 128 + d.val = 3072 + (128 * (t.val / 64) + d.val); omega)

/-- Window 5 at a grid point. -/
theorem blk5 (c : Dev nD) (t : Fin cfg0.N) (ht : t.val < 384) (i : Fin 512) (d : Fin 128) (l : Fin 2048)
    (hl : l.val = (t.val / 16 % 4) * 512 + i.val) :
    (iblk m c 5 t (ix3 0 i d) : EReal)
      = m ((c : Thread nD τ).loc main_arg0) (ix3 (imgOf ⟨t.val, ht⟩) l (col 3072 (by decide) (hpOf ⟨t.val, ht⟩) d)) := by
  obtain ⟨e0, e1, e2⟩ := idx5 t
  show V m c main_arg0 ((win0_5.rect t).emb (ix3 0 i d)) = _
  rw [V_main_arg0]
  refine congrArg (m ((c : Thread nD τ).loc main_arg0)) (funext fun a => Fin.ext ?_)
  match a with
  | ⟨0, _⟩ => exact (Pipeline.Window.rect_emb_val win0_5 t _ 0).trans (by
      rw [e0]; show t.val % 16 * 1 + 0 = t.val % 16; omega)
  | ⟨1, _⟩ => exact (Pipeline.Window.rect_emb_val win0_5 t _ 1).trans (by
      rw [e1]; exact hl.symm)
  | ⟨2, _⟩ => exact (Pipeline.Window.rect_emb_val win0_5 t _ 2).trans (by
      rw [e2]; show (24 + t.val / 64) * 128 + d.val = 3072 + (128 * (t.val / 64) + d.val); omega)

/-- Window 6 at a grid point. -/
theorem blk6 (c : Dev nD) (t : Fin cfg0.N) (ht : t.val < 384) (i : Fin 256) (d : Fin 128) (l : Fin 2048)
    (hl : l.val = (min (2 * (t.val / 16 % 4) + 2) 7) * 256 + i.val) :
    (iblk m c 6 t (ix3 0 i d) : EReal)
      = m ((c : Thread nD τ).loc main_arg0) (ix3 (imgOf ⟨t.val, ht⟩) l (col 3072 (by decide) (hpOf ⟨t.val, ht⟩) d)) := by
  obtain ⟨e0, e1, e2⟩ := idx6 t
  show V m c main_arg0 ((win0_6.rect t).emb (ix3 0 i d)) = _
  rw [V_main_arg0]
  refine congrArg (m ((c : Thread nD τ).loc main_arg0)) (funext fun a => Fin.ext ?_)
  match a with
  | ⟨0, _⟩ => exact (Pipeline.Window.rect_emb_val win0_6 t _ 0).trans (by
      rw [e0]; show t.val % 16 * 1 + 0 = t.val % 16; omega)
  | ⟨1, _⟩ => exact (Pipeline.Window.rect_emb_val win0_6 t _ 1).trans (by
      rw [e1]; exact hl.symm)
  | ⟨2, _⟩ => exact (Pipeline.Window.rect_emb_val win0_6 t _ 2).trans (by
      rw [e2]; show (24 + t.val / 64) * 128 + d.val = 3072 + (128 * (t.val / 64) + d.val); omega)

/-- The bias window at a grid point. -/
theorem blk7 (c : Dev nD) (t : Fin cfg0.N) (ht : t.val < 384) (hh : Fin 2) (ρ : Fin 512) (kk : Fin 1024) :
    (iblk m c 7 t (ix4 hh 0 ρ kk) : EReal)
      = bias (m ((c : Thread nD τ).loc main_arg1)) (headOf (hpOf ⟨t.val, ht⟩) hh) (pat (rbOf ⟨t.val, ht⟩)) ⟨ρ.val / 64, by omega⟩
        ⟨ρ.val % 64, by omega⟩ ⟨kk.val / 64, by omega⟩ ⟨kk.val % 64, by omega⟩ := by
  obtain ⟨e0, e1, e2, e3⟩ := idx7 t
  refine Eq.trans ?_ (V_main_v19 m c (headOf (hpOf ⟨t.val, ht⟩) hh) (pat (rbOf ⟨t.val, ht⟩)) ρ kk)
  show V m c main_v19 ((win0_7.rect t).emb (ix4 hh 0 ρ kk)) = _
  refine congrArg (V m c main_v19) (funext fun a => Fin.ext ?_)
  match a with
  | ⟨0, _⟩ => exact (Pipeline.Window.rect_emb_val win0_7 t _ 0).trans (by
      rw [e0]; show t.val / 64 * 2 + hh.val = 2 * (t.val / 64) + hh.val; omega)
  | ⟨1, _⟩ => exact (Pipeline.Window.rect_emb_val win0_7 t _ 1).trans (by
      rw [e1]; exact (Nat.add_zero _).trans (Nat.mul_one _))
  | ⟨2, _⟩ => exact Pipeline.Window.rect_emb_val_of_index_zero win0_7 t 2 e2 (ix4 hh 0 ρ kk)
  | ⟨3, _⟩ => exact Pipeline.Window.rect_emb_val_of_index_zero win0_7 t 3 e3 (ix4 hh 0 ρ kk)

/-- The keys a grid point stages. -/
theorem keys_eq (c : Dev nD) (t : Fin cfg0.N) (ht : t.val < 384) (kk : Fin 1024) (d : Fin 128) :
    stack (iblk m c 1 t) (iblk m c 2 t) (iblk m c 3 t) kk d
      = m ((c : Thread nD τ).loc main_arg0) (ix3 (imgOf ⟨t.val, ht⟩) (tok (rbOf ⟨t.val, ht⟩) kk) (col 2304 (by decide) (hpOf ⟨t.val, ht⟩) d)) := by
  have et : (tok (rbOf ⟨t.val, ht⟩) kk).val = if kk.val < 256 then (2 * (t.val / 16 % 4) - 1) * 256 + kk.val
    else if kk.val < 768 then t.val / 16 % 4 * 512 + (kk.val - 256)
    else min (2 * (t.val / 16 % 4) + 2) 7 * 256 + (kk.val - 768) := rfl
  unfold stack
  by_cases ha : kk.val < 256
  · rw [dif_pos ha]
    rw [if_pos ha] at et
    exact blk1 m c t ht _ d _ et
  · by_cases hb : kk.val < 768
    · rw [dif_neg ha, dif_pos hb]
      rw [if_neg ha, if_pos hb] at et
      exact blk2 m c t ht _ d _ et
    · rw [dif_neg ha, dif_neg hb]
      rw [if_neg ha, if_neg hb] at et
      exact blk3 m c t ht _ d _ et

/-- The values a grid point stages. -/
theorem values_eq (c : Dev nD) (t : Fin cfg0.N) (ht : t.val < 384) (kk : Fin 1024) (d : Fin 128) :
    stack (iblk m c 4 t) (iblk m c 5 t) (iblk m c 6 t) kk d
      = m ((c : Thread nD τ).loc main_arg0) (ix3 (imgOf ⟨t.val, ht⟩) (tok (rbOf ⟨t.val, ht⟩) kk) (col 3072 (by decide) (hpOf ⟨t.val, ht⟩) d)) := by
  have et : (tok (rbOf ⟨t.val, ht⟩) kk).val = if kk.val < 256 then (2 * (t.val / 16 % 4) - 1) * 256 + kk.val
    else if kk.val < 768 then t.val / 16 % 4 * 512 + (kk.val - 256)
    else min (2 * (t.val / 16 % 4) + 2) 7 * 256 + (kk.val - 768) := rfl
  unfold stack
  by_cases ha : kk.val < 256
  · rw [dif_pos ha]
    rw [if_pos ha] at et
    exact blk4 m c t ht _ d _ et
  · by_cases hb : kk.val < 768
    · rw [dif_neg ha, dif_pos hb]
      rw [if_neg ha, if_pos hb] at et
      exact blk5 m c t ht _ d _ et
    · rw [dif_neg ha, dif_neg hb]
      rw [if_neg ha, if_neg hb] at et
      exact blk6 m c t ht _ d _ et

/-! ## The result -/

/-- The result array: the reference's, at every index. -/
def result (X : S16x2048x4352.Idx → EReal) (P : S12x15x31.Idx → EReal) : S16x2048x768.Idx → EReal :=
  Cert.ReferenceIdeal.Read.val_main_v85 (F := Ideal) X P

/-- Every grid point writes its tile of the result. -/
theorem flushed_eq (c : Dev nD) (t : Fin cfg0.N)
    (hX : ∀ (b : Fin 16) (l : Fin 2048) (k : Fin 4352), 1536 ≤ k.val → k.val < 3072 →
      IsFinite (m ((c : Thread nD τ).loc main_arg0) (ix3 b l k)))
    (hP : ∀ i, IsFinite (m ((c : Thread nD τ).loc main_arg1) i)) :
    (dats m 0 c).flushed 8 t = ((cfg0.win 8).blk t).view.read (Elt Ideal)
      (result (m ((c : Thread nD τ).loc main_arg0)) (m ((c : Thread nD τ).loc main_arg1))) := by
  have hN : cfg0.N = 384 := N_0
  have ht : t.val < 384 := by have := t.isLt; omega
  rw [Value.flushed8]
  funext y
  obtain ⟨e0, e1, e2⟩ := idx8 t
  obtain ⟨z, ρ, n, rfl⟩ : ∃ (z : Fin 1) (ρ : Fin 512) (n : Fin 128), y = ix3 z ρ n := ⟨y 0, y 1, y 2, eq_ix3 y⟩
  obtain rfl : z = 0 := Subsingleton.elim _ _
  have hρ := ρ.isLt
  have hn := n.isLt
  show out0_8 (iblk m c 0 t) (iblk m c 1 t) (iblk m c 2 t) (iblk m c 3 t) (iblk m c 4 t) (iblk m c 5 t) (iblk m c 6 t) (iblk m c 7 t)
      (ix3 0 ρ n)
    = result (m ((c : Thread nD τ).loc main_arg0)) (m ((c : Thread nD τ).loc main_arg1)) ((win0_8.rect t).emb (ix3 0 ρ n))
  refine (out_apply _ _ _ _ _ _ _ _ (ix3 0 ρ n)).trans ?_
  show tile (iblk m c 0 t) (iblk m c 1 t) (iblk m c 2 t) (iblk m c 3 t) (iblk m c 4 t) (iblk m c 5 t) (iblk m c 6 t) (iblk m c 7 t) ρ n = _
  refine (row_eq (m ((c : Thread nD τ).loc main_arg0)) (m ((c : Thread nD τ).loc main_arg1)) _ _ _ _ _ _ _ _
    (hpOf ⟨t.val, ht⟩) (rbOf ⟨t.val, ht⟩) (imgOf ⟨t.val, ht⟩) ρ n
    (fun ρ d => blk0 m c t ht ρ d _ (by show 512 * (t.val / 16 % 4) + ρ.val = t.val / 16 % 4 * 512 + ρ.val; omega))
    (keys_eq m c t ht) (values_eq m c t ht) (blk7 m c t ht) (hX _) hP).trans ?_
  refine (Cert.NaRef.result_apply _ _ _ _ _ _ _).symm.trans ?_
  unfold result
  refine congrArg _ (funext fun a => Fin.ext ?_)
  match a with
  | ⟨0, _⟩ => exact ((Pipeline.Window.rect_emb_val win0_8 t _ 0).trans (by
      rw [e0]; show t.val % 16 * 1 + 0 = t.val % 16; omega)).symm
  | ⟨1, _⟩ => exact ((Pipeline.Window.rect_emb_val win0_8 t _ 1).trans (by
      rw [e1]; show t.val / 16 % 4 * 512 + ρ.val = (8 * (t.val / 16 % 4) + ρ.val / 64) * 64 + ρ.val % 64; omega)).symm
  | ⟨2, _⟩ => exact ((Pipeline.Window.rect_emb_val win0_8 t _ 2).trans (by
      rw [e2]; show t.val / 64 * 128 + n.val = (2 * (t.val / 64) + n.val / 64) * 64 + n.val % 64; omega)).symm

/-- An index of the result array is in point `t`'s tile when its image, row block and head pair are the point's. -/
theorem mem_blk (t : Fin cfg0.N) (i : S16x2048x768.Idx) (h0 : (i 0).val = t.val % 16) (h1 : (i 1).val / 512 = t.val / 16 % 4)
    (h2 : (i 2).val / 128 = t.val / 64) : i ∈ ((cfg0.win 8).blk t).view.set := by
  show i ∈ ((View.whole main_v20).slice (win0_8.rect t)).set
  rw [View.set_slice_whole, Rect.mem_set_unit]
  obtain ⟨e0, e1, e2⟩ := idx8 t
  intro a
  match a with
  | ⟨0, _⟩ =>
    show win0_8.index t 0 * 1 ≤ (i 0).val ∧ (i 0).val < win0_8.index t 0 * 1 + 1
    rw [e0]; omega
  | ⟨1, _⟩ =>
    show win0_8.index t 1 * 512 ≤ (i 1).val ∧ (i 1).val < win0_8.index t 1 * 512 + 512
    rw [e1]; omega
  | ⟨2, _⟩ =>
    show win0_8.index t 2 * 128 ≤ (i 2).val ∧ (i 2).val < win0_8.index t 2 * 128 + 128
    rw [e2]; omega

/-- The tiles fill the result array. -/
theorem cover (i : S16x2048x768.Idx) : ∃ t : Fin cfg0.N, (cfg0.win 8).flush t = true ∧ i ∈ ((cfg0.win 8).blk t).view.set := by
  have h0 : (i 0).val < 16 := (i 0).isLt
  have h1 : (i 1).val < 2048 := (i 1).isLt
  have h2 : (i 2).val < 768 := (i 2).isLt
  have hN : cfg0.N = 384 := N_0
  refine ⟨⟨((i 2).val / 128 * 4 + (i 1).val / 512) * 16 + (i 0).val, by omega⟩, flush0_8 _, mem_blk _ i ?_ ?_ ?_⟩
  · show _ = (((i 2).val / 128 * 4 + (i 1).val / 512) * 16 + (i 0).val) % 16; omega
  · show _ = (((i 2).val / 128 * 4 + (i 1).val / 512) * 16 + (i 0).val) / 16 % 4; omega
  · show _ = (((i 2).val / 128 * 4 + (i 1).val / 512) * 16 + (i 0).val) / 64; omega

/-- The attention kernel computes the array the reference computes, on every input whose queries, keys and position bias are
finite. -/
theorem algebraic : Cert.algebraic_KernelIdeal_ReferenceIdeal_pre_finite := by
  intro m ρ m' ρ' hpre hag
  refine ⟨fun c => result (m ((c : Thread nD τ).loc main_arg0)) (m ((c : Thread nD τ).loc main_arg1)),
    (θ_run _ _ _).mono (fun r h c => ⟨(h c).1.trans ?_, (h c).2⟩) (Value.run_blocks m ρ),
    (θ_run _ _ _).mono (fun r h c => ⟨(h c).1.trans ?_, (h c).2⟩) (Cert.ReferenceIdeal.Value.run m' ρ')⟩
  · obtain ⟨hX, hP⟩ := pre_finite _ _ (hpre c)
    exact (dats m 0 c).arrAt_eq_of_cover 8 _ (fun t _ => flushed_eq m c t hX hP) cover
  · refine (Cert.ReferenceIdeal.Read.val_main_v85_eq m' c).trans ?_
    rw [(hag c).1, (hag c).2]
    rfl

end Cert.Na

end
-- ==== Proof.Ffn.lean ====
/-
  What the expert feed-forward kernel computes.  The grid walks (expert, token tile, hidden
  block); the eight hidden blocks of one token tile accumulate in the output's staging buffer, and the last one scales the
  sum by the expert's gate.  Over the extended reals the eight partial sums are one sum over the 4096 hidden units, which is
  what the reference writes.  The routing (the top-k choice and the gather of the chosen tokens) is the same on both sides.
-/
module

public import proofs.«01_k».proof.Defs
public import proofs.«01_k».proof.Proof.Gen.Kernel2Ideal.Value
public import proofs.«01_k».proof.Proof.Gen.Reference2Ideal.Run
public import proofs.«01_k».proof.Proof.Gen.Reference2Ideal.Read
public import proofs.«01_k».proof.Proof.Ops
public import Idealize.ShloMosaic.Lib.Pipeline.Value
public import Idealize.ShloMosaic.Lib.MatmulPlain
public import Idealize.ShloMosaic.Lib.ValueIdx
public import Idealize.ShloMosaic.Lib.ValueLayout
public import Idealize.ShloMosaic.Lib.ValueLayoutCasts

@[expose] public section

set_option maxRecDepth 16384

noncomputable section

namespace Cert.Ffn

open Cert.Kernel2Ideal Cert.Kernel2Ideal.Gen Idealize.ShloMosaic Idealize.ShloMosaic.TcCoe Idealize.SL.Sem
open Idealize.ShloMosaic.ValueIdx
open Idealize.ShloMosaic.Pipeline (Dat)

/-- One hidden unit of one token: `silu` of the gate projection times the up projection. -/
def hidden (x wg wu : Fin 2048 → EReal) : EReal :=
  (∑ d, x d * wg d) * Ideal.logistic (∑ d, x d * wg d) * ∑ d, x d * wu d

/-- What one grid point adds to its tile, at row `r` and column `n`: the contribution of 512 hidden units. -/
theorem pay1_apply (x : Vec Ideal S1x1024x2048 .bf16) (wg wu : Vec Ideal S1x1x2048x512 .bf16) (wd : Vec Ideal S1x1x512x2048 .bf16)
    (r : Fin 1024) (n : Fin 2048) :
    k0_pay1 x wg wu wd (ix2 r n) = ∑ k : Fin 512, hidden (fun d => x (ix3 0 r d)) (fun d => wg (ix4 0 0 d k))
      (fun d => wu (ix4 0 0 d k)) * wd (ix4 0 0 k n) := by
  unfold k0_pay1 hidden
  refine (Ideal.matmul_plain_apply none _ _ _ r n).trans ?_
  rw [constant_apply, Ideal.ofBits_zero_f32, zero_add]
  refine Finset.sum_congr rfl fun k _ => ?_
  rw [truncf_apply, mulf_apply, mulf_apply, Cert.Ops.shapeCast_11ab_ab_apply]
  have hdot : ∀ w : Vec Ideal S1x1x2048x512 .bf16,
      matmul dot_S1024x2048_S2048x512_S1024x512_1_0_0_1_n_n none
        (shapeCast S1024x2048 x shapeCasts_S1x1024x2048_S1024x2048 : FVec Ideal S1024x2048 .bf16)
        (shapeCast S2048x512 w shapeCasts_S1x1x2048x512_S2048x512 : FVec Ideal S2048x512 .bf16)
        (constant S1024x512 .f32 0x00000000#32) (ix2 r k) = ∑ d, x (ix3 0 r d) * w (ix4 0 0 d k) := fun w => by
    refine (Ideal.matmul_plain_apply none _ _ _ r k).trans ?_
    rw [constant_apply, Ideal.ofBits_zero_f32, zero_add]
    refine Finset.sum_congr rfl fun d _ => ?_
    rw [shapeCast_1ab_ab_apply, Cert.Ops.shapeCast_11ab_ab_apply]
  show _ * Ideal.logistic _ * _ * _ = _
  rw [hdot, hdot]

/-- The zero offsets of a stack of matrices. -/
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The first hidden block of a tile leaves its own contribution. -/
theorem out_A (c : Dev nD) (i : grid0.Coords) (a3 : Memref sig .tc .vmem S1x1024x2048 .bf16) (h3 : a3.IsWhole) (a4 : Memref sig .tc .vmem S1x1x2048x512 .bf16) (h4 : a4.IsWhole) (a5 : Memref sig .tc .vmem S1x1x2048x512 .bf16) (h5 : a5.IsWhole) (a6 : Memref sig .tc .vmem S1x1x512x2048 .bf16) (h6 : a6.IsWhole) (a7 : Memref sig .tc .vmem S1x1024x1 .f32) (h7 : a7.IsWhole) (a8 : Memref sig .tc .vmem S1x1024x2048 .f32) (h8 : a8.IsWhole) (hc0 : cond0_0 i) (hc1 : ¬cond0_1 i) (hc2 : ¬cond0_2 i)
    (x0 : Vec Ideal S1x1024x2048 .bf16) (x1 x2 : Vec Ideal S1x1x2048x512 .bf16) (x3 : Vec Ideal S1x1x512x2048 .bf16) (x4 : Vec Ideal S1x1024x1 .f32) :
    out0_A_5 c i a3 h3 a4 h4 a5 h5 a6 h6 a7 h7 a8 h8 hc0 hc1 hc2 x0 x1 x2 x3 x4 = k0_pay2 x0 x1 x2 x3 := by
  unfold out0_A_5
  rw [View.read_writes_eq_canon _ _ _ (cover0_A_5 c i a3 h3 a4 h4 a5 h5 a6 h6 a7 h7 a8 h8 hc0 hc1 hc2 x0 x1 x2 x3 x4)]
  unfold kernelRun0_A
  dsimp only
  rw [View.canon_unit_zero hz3]
  simp only [View.readAt_eq_ld, h3.read_unread, h4.read_unread, h5.read_unread, h6.read_unread,
    View.ld_unit_zero (S := S1x1024x2048) hz3, View.ld_unit_zero (S := S1x1x2048x512) hz4, View.ld_unit_zero (S := S1x1x512x2048) hz4]

/-- A later hidden block adds its contribution to what the tile held. -/
theorem out_B (c : Dev nD) (i : grid0.Coords) (a3 : Memref sig .tc .vmem S1x1024x2048 .bf16) (h3 : a3.IsWhole) (a4 : Memref sig .tc .vmem S1x1x2048x512 .bf16) (h4 : a4.IsWhole) (a5 : Memref sig .tc .vmem S1x1x2048x512 .bf16) (h5 : a5.IsWhole) (a6 : Memref sig .tc .vmem S1x1x512x2048 .bf16) (h6 : a6.IsWhole) (a7 : Memref sig .tc .vmem S1x1024x1 .f32) (h7 : a7.IsWhole) (a8 : Memref sig .tc .vmem S1x1024x2048 .f32) (h8 : a8.IsWhole) (hc0 : ¬cond0_0 i) (hc1 : cond0_1 i) (hc2 : ¬cond0_2 i)
    (x0 : Vec Ideal S1x1024x2048 .bf16) (x1 x2 : Vec Ideal S1x1x2048x512 .bf16) (x3 : Vec Ideal S1x1x512x2048 .bf16) (x4 : Vec Ideal S1x1024x1 .f32) (xo : Vec Ideal S1x1024x2048 .f32) :
    out0_B_5 c i a3 h3 a4 h4 a5 h5 a6 h6 a7 h7 a8 h8 hc0 hc1 hc2 x0 x1 x2 x3 x4 xo = k0_pay3 x0 x1 x2 x3 xo := by
  unfold out0_B_5
  rw [View.read_writes_eq_canon _ _ _ (cover0_B_5 c i a3 h3 a4 h4 a5 h5 a6 h6 a7 h7 a8 h8 hc0 hc1 hc2 x0 x1 x2 x3 x4 xo)]
  unfold kernelRun0_B
  dsimp only
  rw [View.canon_unit_zero hz3]
  simp only [View.readAt_eq_ld, h3.read_unread, h4.read_unread, h5.read_unread, h6.read_unread, h8.read_unread,
    View.ld_unit_zero (S := S1x1024x2048) hz3, View.ld_unit_zero (S := S1x1x2048x512) hz4, View.ld_unit_zero (S := S1x1x512x2048) hz4]

/-- The last hidden block adds its contribution and scales the tile by the gate. -/
theorem out_C (c : Dev nD) (i : grid0.Coords) (a3 : Memref sig .tc .vmem S1x1024x2048 .bf16) (h3 : a3.IsWhole) (a4 : Memref sig .tc .vmem S1x1x2048x512 .bf16) (h4 : a4.IsWhole) (a5 : Memref sig .tc .vmem S1x1x2048x512 .bf16) (h5 : a5.IsWhole) (a6 : Memref sig .tc .vmem S1x1x512x2048 .bf16) (h6 : a6.IsWhole) (a7 : Memref sig .tc .vmem S1x1024x1 .f32) (h7 : a7.IsWhole) (a8 : Memref sig .tc .vmem S1x1024x2048 .f32) (h8 : a8.IsWhole) (hc0 : ¬cond0_0 i) (hc1 : cond0_1 i) (hc2 : cond0_2 i)
    (x0 : Vec Ideal S1x1024x2048 .bf16) (x1 x2 : Vec Ideal S1x1x2048x512 .bf16) (x3 : Vec Ideal S1x1x512x2048 .bf16) (x4 : Vec Ideal S1x1024x1 .f32) (xo : Vec Ideal S1x1024x2048 .f32) :
    out0_C_5 c i a3 h3 a4 h4 a5 h5 a6 h6 a7 h7 a8 h8 hc0 hc1 hc2 x0 x1 x2 x3 x4 xo = k0_pay4 (k0_pay3 x0 x1 x2 x3 xo) x4 := by
  unfold out0_C_5
  rw [View.read_writes_eq_canon _ _ _ (cover0_C_5 c i a3 h3 a4 h4 a5 h5 a6 h6 a7 h7 a8 h8 hc0 hc1 hc2 x0 x1 x2 x3 x4 xo)]
  unfold kernelRun0_C
  dsimp only
  sl_unfold_words
  rw [View.canon_cons_unit_zero (S := S1x1024x2048) hz3, View.readCov_unit_zero (S := S1x1024x2048) _ hz3]
  simp only [View.readAt_eq_ld, h3.read_unread, h4.read_unread, h5.read_unread, h6.read_unread, h7.read_unread, h8.read_unread,
    View.ld_unit_zero (S := S1x1024x2048) hz3, View.ld_unit_zero (S := S1x1024x1) hz3, View.ld_unit_zero (S := S1x1x2048x512) hz4,
    View.ld_unit_zero (S := S1x1x512x2048) hz4]

/-- The first hidden block is stored as it is. -/
theorem pay2_apply (x : Vec Ideal S1x1024x2048 .bf16) (wg wu : Vec Ideal S1x1x2048x512 .bf16) (wd : Vec Ideal S1x1x512x2048 .bf16)
    (r : Fin 1024) (n : Fin 2048) : k0_pay2 x wg wu wd (ix3 0 r n) = k0_pay1 x wg wu wd (ix2 r n) := by
  unfold k0_pay2
  rw [shapeCast_ab_1ab_apply]

/-- A later hidden block is added to what is stored. -/
theorem pay3_apply (x : Vec Ideal S1x1024x2048 .bf16) (wg wu : Vec Ideal S1x1x2048x512 .bf16) (wd : Vec Ideal S1x1x512x2048 .bf16)
    (xo : Vec Ideal S1x1024x2048 .f32) (r : Fin 1024) (n : Fin 2048) :
    k0_pay3 x wg wu wd xo (ix3 0 r n) = xo (ix3 0 r n) + k0_pay1 x wg wu wd (ix2 r n) := by
  unfold k0_pay3
  rw [shapeCast_ab_1ab_apply, addf_apply, shapeCast_1ab_ab_apply]

/-- The last step weights each row by its affinity. -/
theorem pay4_apply (a : Vec Ideal S1x1024x2048 .f32) (g : Vec Ideal S1x1024x1 .f32) (r : Fin 1024) (n : Fin 2048) :
    k0_pay4 a g (ix3 0 r n) = a (ix3 0 r n) * g (ix3 0 r 0) := by
  unfold k0_pay4
  rw [shapeCast_ab_1ab_apply, mulf_apply, shapeCast_1ab_ab_apply, Cert.Ops.broadcastTo_col_apply, shapeCast_1ab_ab_apply]

variable (m : (ℓ : Loc nD τ sig) → Buf (Elt Ideal) ℓ) (ρ : Dev nD → PrngReg)

/-- The chosen tokens the kernel stages are the ones the reference gathers. -/
theorem V_main_v10 (c : Dev nD) : V m c main_v10
    = Cert.Reference2Ideal.Read.val_main_v8 (F := Ideal) (m ((c : Thread nD τ).loc main_arg0)) (m ((c : Thread nD τ).loc main_arg1)) := by
  show StableHlo.after hostOps0 _ (Proc.devRef .tc main_v10) = _
  after_results
  rfl

/-- The gates the kernel stages are the reference's. -/
theorem V_main_v11 (c : Dev nD) : V m c main_v11
    = Cert.Reference2Ideal.Read.val_main_v20 (F := Ideal) (m ((c : Thread nD τ).loc main_arg1)) := by
  show StableHlo.after hostOps0 _ (Proc.devRef .tc main_v11) = _
  after_results
  rfl

/-- The staged gate weights are the argument. -/
theorem V_main_v0 (c : Dev nD) (i : S4x16x2048x4096.Idx) : V m c main_v0 i = m ((c : Thread nD τ).loc main_arg2) i := by
  show StableHlo.after hostOps0 _ (Proc.devRef .tc main_v0) i = _
  after_results
  rfl

/-- The staged up weights are the argument. -/
theorem V_main_v1 (c : Dev nD) (i : S4x16x2048x4096.Idx) : V m c main_v1 i = m ((c : Thread nD τ).loc main_arg3) i := by
  show StableHlo.after hostOps0 _ (Proc.devRef .tc main_v1) i = _
  after_results
  rfl

/-- The staged down weights are the argument. -/
theorem V_main_v2 (c : Dev nD) (i : S4x16x4096x2048.Idx) : V m c main_v2 i = m ((c : Thread nD τ).loc main_arg4) i := by
  show StableHlo.after hostOps0 _ (Proc.devRef .tc main_v2) i = _
  after_results
  rfl

/-- What hidden unit `k` adds to element `(e, i, n)` (nothing past the last unit). -/
def contrib (X : S16x4096x2048.Idx → EReal) (wg wu : S4x16x2048x4096.Idx → EReal) (wd : S4x16x4096x2048.Idx → EReal)
    (e : Fin 16) (i : Fin 4096) (n : Fin 2048) (k : ℕ) : EReal :=
  if h : k < 4096 then hidden (fun d => X (ix3 e i d)) (fun d => wg (ix4 0 e d ⟨k, h⟩)) (fun d => wu (ix4 0 e d ⟨k, h⟩))
    * wd (ix4 0 e ⟨k, h⟩ n) else 0

/-- The result array: for each chosen token of each expert, the sum over the hidden units, scaled by the gate. -/
def result (X : S16x4096x2048.Idx → EReal) (wg wu : S4x16x2048x4096.Idx → EReal) (wd : S4x16x4096x2048.Idx → EReal)
    (g : S16x4096x1.Idx → EReal) : S16x4096x2048.Idx → EReal :=
  fun j => (∑ k ∈ Finset.range 4096, contrib X wg wu wd (j 0) (j 1) (j 2) k) * g (ix3 (j 0) (j 1) 0)

/-- The index maps of the six windows, as numbers. -/
theorem idx_eq : ∀ t : Fin cfg0.N,
    (win0_0.index t 0 = t.val / 32 ∧ win0_0.index t 1 = t.val / 8 % 4 ∧ win0_0.index t 2 = 0)
    ∧ (win0_1.index t 0 = 0 ∧ win0_1.index t 1 = t.val / 32 ∧ win0_1.index t 2 = 0 ∧ win0_1.index t 3 = t.val % 8)
    ∧ (win0_2.index t 0 = 0 ∧ win0_2.index t 1 = t.val / 32 ∧ win0_2.index t 2 = 0 ∧ win0_2.index t 3 = t.val % 8)
    ∧ (win0_3.index t 0 = 0 ∧ win0_3.index t 1 = t.val / 32 ∧ win0_3.index t 2 = t.val % 8 ∧ win0_3.index t 3 = 0)
    ∧ (win0_4.index t 0 = t.val / 32 ∧ win0_4.index t 1 = t.val / 8 % 4 ∧ win0_4.index t 2 = 0)
    ∧ (win0_5.index t 0 = t.val / 32 ∧ win0_5.index t 1 = t.val / 8 % 4 ∧ win0_5.index t 2 = 0) :=
  (by decide +kernel : ∀ t : Fin grid0.N,
    (win0_0.index t 0 = t.val / 32 ∧ win0_0.index t 1 = t.val / 8 % 4 ∧ win0_0.index t 2 = 0)
    ∧ (win0_1.index t 0 = 0 ∧ win0_1.index t 1 = t.val / 32 ∧ win0_1.index t 2 = 0 ∧ win0_1.index t 3 = t.val % 8)
    ∧ (win0_2.index t 0 = 0 ∧ win0_2.index t 1 = t.val / 32 ∧ win0_2.index t 2 = 0 ∧ win0_2.index t 3 = t.val % 8)
    ∧ (win0_3.index t 0 = 0 ∧ win0_3.index t 1 = t.val / 32 ∧ win0_3.index t 2 = t.val % 8 ∧ win0_3.index t 3 = 0)
    ∧ (win0_4.index t 0 = t.val / 32 ∧ win0_4.index t 1 = t.val / 8 % 4 ∧ win0_4.index t 2 = 0)
    ∧ (win0_5.index t 0 = t.val / 32 ∧ win0_5.index t 1 = t.val / 8 % 4 ∧ win0_5.index t 2 = 0))

/-- There are 512 grid points. -/
theorem lt_N (t : Fin cfg0.N) : t.val < 512 := lt_of_lt_of_eq t.isLt (show cfg0.N = 512 from N_0)

/-- The expert of grid point `t`. -/
def ex (t : Fin cfg0.N) : Fin 16 := ⟨t.val / 32, by have := lt_N t; omega⟩
/-- The token that row `r` of point `t`'s tile is. -/
def tok (t : Fin cfg0.N) (r : Fin 1024) : Fin 4096 := ⟨t.val / 8 % 4 * 1024 + r.val, by have := r.isLt; omega⟩

/-- What a hidden unit adds, at the arrays the kernel stages. -/
abbrev con (c : Dev nD) := contrib (V m c main_v10) (m ((c : Thread nD τ).loc main_arg2)) (m ((c : Thread nD τ).loc main_arg3))
  (m ((c : Thread nD τ).loc main_arg4))

/-- The contribution of point `t`, in the arrays' coordinates. -/
theorem point_eq (c : Dev nD) (t : Fin cfg0.N) (r : Fin 1024) (n : Fin 2048) :
    k0_pay1 (iblk m c 0 t) (iblk m c 1 t) (iblk m c 2 t) (iblk m c 3 t) (ix2 r n)
      = ∑ k ∈ Finset.range 512, con m c (ex t) (tok t r) n (512 * (t.val % 8) + k) := by
  refine (pay1_apply (iblk m c 0 t) (iblk m c 1 t) (iblk m c 2 t) (iblk m c 3 t) r n).trans ?_
  rw [Finset.sum_range]
  refine Finset.sum_congr rfl fun k _ => ?_
  obtain ⟨⟨a0, a1, a2⟩, ⟨b0, b1, b2, b3⟩, ⟨d0, d1, d2, d3⟩, ⟨e0, e1, e2, e3⟩, -, -⟩ := idx_eq t
  have hk := k.isLt
  have ht := lt_N t
  have hlt : 512 * (t.val % 8) + k.val < 4096 := by omega
  unfold con contrib
  rw [dif_pos hlt]
  have hx : ∀ d : Fin 2048, iblk m c 0 t (ix3 0 r d) = V m c main_v10 (ix3 (ex t) (tok t r) d) := fun d => by
    show V m c main_v10 ((win0_0.rect t).emb (ix3 0 r d)) = _
    refine congrArg (V m c main_v10) (funext fun a => Fin.ext ?_)
    match a with
    | ⟨0, _⟩ => exact (Pipeline.Window.rect_emb_val win0_0 t _ 0).trans (by rw [a0]; exact Nat.mul_one _)
    | ⟨1, _⟩ => exact (Pipeline.Window.rect_emb_val win0_0 t _ 1).trans (by rw [a1]; rfl)
    | ⟨2, _⟩ => exact Pipeline.Window.rect_emb_val_of_index_zero win0_0 t 2 a2 (ix3 0 r d)
  have hg : ∀ d : Fin 2048, iblk m c 1 t (ix4 0 0 d k) = m ((c : Thread nD τ).loc main_arg2) (ix4 0 (ex t) d ⟨_, hlt⟩) := fun d => by
    show V m c main_v0 ((win0_1.rect t).emb (ix4 0 0 d k)) = _
    rw [V_main_v0]
    refine congrArg (m ((c : Thread nD τ).loc main_arg2)) (funext fun a => Fin.ext ?_)
    match a with
    | ⟨0, _⟩ => exact Pipeline.Window.rect_emb_val_of_index_zero win0_1 t 0 b0 (ix4 0 0 d k)
    | ⟨1, _⟩ => exact (Pipeline.Window.rect_emb_val win0_1 t _ 1).trans (by rw [b1]; exact Nat.mul_one _)
    | ⟨2, _⟩ => exact Pipeline.Window.rect_emb_val_of_index_zero win0_1 t 2 b2 (ix4 0 0 d k)
    | ⟨3, _⟩ => exact (Pipeline.Window.rect_emb_val win0_1 t _ 3).trans (by
        rw [b3]; exact congrArg (· + k.val) (Nat.mul_comm _ _))
  have hu : ∀ d : Fin 2048, iblk m c 2 t (ix4 0 0 d k) = m ((c : Thread nD τ).loc main_arg3) (ix4 0 (ex t) d ⟨_, hlt⟩) := fun d => by
    show V m c main_v1 ((win0_2.rect t).emb (ix4 0 0 d k)) = _
    rw [V_main_v1]
    refine congrArg (m ((c : Thread nD τ).loc main_arg3)) (funext fun a => Fin.ext ?_)
    match a with
    | ⟨0, _⟩ => exact Pipeline.Window.rect_emb_val_of_index_zero win0_2 t 0 d0 (ix4 0 0 d k)
    | ⟨1, _⟩ => exact (Pipeline.Window.rect_emb_val win0_2 t _ 1).trans (by rw [d1]; exact Nat.mul_one _)
    | ⟨2, _⟩ => exact Pipeline.Window.rect_emb_val_of_index_zero win0_2 t 2 d2 (ix4 0 0 d k)
    | ⟨3, _⟩ => exact (Pipeline.Window.rect_emb_val win0_2 t _ 3).trans (by
        rw [d3]; exact congrArg (· + k.val) (Nat.mul_comm _ _))
  have hd : iblk m c 3 t (ix4 0 0 k n) = m ((c : Thread nD τ).loc main_arg4) (ix4 0 (ex t) ⟨_, hlt⟩ n) := by
    show V m c main_v2 ((win0_3.rect t).emb (ix4 0 0 k n)) = _
    rw [V_main_v2]
    refine congrArg (m ((c : Thread nD τ).loc main_arg4)) (funext fun a => Fin.ext ?_)
    match a with
    | ⟨0, _⟩ => exact Pipeline.Window.rect_emb_val_of_index_zero win0_3 t 0 e0 (ix4 0 0 k n)
    | ⟨1, _⟩ => exact (Pipeline.Window.rect_emb_val win0_3 t _ 1).trans (by rw [e1]; exact Nat.mul_one _)
    | ⟨2, _⟩ => exact (Pipeline.Window.rect_emb_val win0_3 t _ 2).trans (by
        rw [e2]; exact congrArg (· + k.val) (Nat.mul_comm _ _))
    | ⟨3, _⟩ => exact Pipeline.Window.rect_emb_val_of_index_zero win0_3 t 3 e3 (ix4 0 0 k n)
  rw [hd, funext hx, funext hg, funext hu]

/-- The sum after one more hidden block. -/
theorem sum_step (f : ℕ → EReal) (b : ℕ) :
    ∑ k ∈ Finset.range (512 * b), f k + ∑ k ∈ Finset.range 512, f (512 * b + k) = ∑ k ∈ Finset.range (512 * (b + 1)), f k := by
  rw [Nat.mul_succ, Finset.sum_range_add]

/-- What the staging buffer holds after a point that is not its tile's last: the sum over the hidden blocks so far. -/
theorem outs_eq (c : Dev nD) : ∀ (b : ℕ) (t : Fin cfg0.N), t.val % 8 = b → b ≠ 7 → ∀ (r : Fin 1024) (n : Fin 2048),
    outsAt0 m c t.val t.isLt (ix3 0 r n) = ∑ k ∈ Finset.range (512 * (b + 1)), con m c (ex t) (tok t r) n k
  | 0, t, hb, _, r, n => by
    rw [outsAt0_A m c t hb (by omega) (by omega), out_A, pay2_apply, point_eq, hb, ← sum_step]
    rw [Nat.mul_zero, Finset.range_zero, Finset.sum_empty, zero_add]
  | b + 1, t, hb, h7, r, n => by
    have ht := lt_N t
    rw [outsAt0_B m c t (by omega) (by omega) (by omega), out_B, pay3_apply, point_eq, hb, ← sum_step]
    have hp := outs_eq c b ⟨t.val - 1, Nat.lt_of_le_of_lt (Nat.sub_le _ _) t.isLt⟩ (by show (t.val - 1) % 8 = b; omega) (by omega) r n
    have he : ex ⟨t.val - 1, Nat.lt_of_le_of_lt (Nat.sub_le _ _) t.isLt⟩ = ex t := Fin.ext (by
      show (t.val - 1) / 32 = t.val / 32; omega)
    have hk : tok ⟨t.val - 1, Nat.lt_of_le_of_lt (Nat.sub_le _ _) t.isLt⟩ r = tok t r := Fin.ext (by
      show (t.val - 1) / 8 % 4 * 1024 + r.val = t.val / 8 % 4 * 1024 + r.val
      rw [show (t.val - 1) / 8 = t.val / 8 by omega])
    rw [he, hk] at hp
    exact congrArg (· + _) hp

/-- What the staging buffer holds after a tile's last point: the whole sum, scaled by the gate. -/
theorem outs_last (c : Dev nD) (t : Fin cfg0.N) (h : t.val % 8 = 7) (r : Fin 1024) (n : Fin 2048) :
    outsAt0 m c t.val t.isLt (ix3 0 r n)
      = (∑ k ∈ Finset.range 4096, con m c (ex t) (tok t r) n k) * V m c main_v11 (ix3 (ex t) (tok t r) 0) := by
  have ht := lt_N t
  rw [outsAt0_C m c t (by omega) (by omega) h, out_C, pay4_apply, pay3_apply, point_eq, h]
  refine Eq.trans ?_ (congrArg (· * V m c main_v11 (ix3 (ex t) (tok t r) 0)) (sum_step (con m c (ex t) (tok t r) n) 7))
  have hp := outs_eq m c 6 ⟨t.val - 1, Nat.lt_of_le_of_lt (Nat.sub_le _ _) t.isLt⟩ (by show (t.val - 1) % 8 = 6; omega) (by omega) r n
  have he : ex ⟨t.val - 1, Nat.lt_of_le_of_lt (Nat.sub_le _ _) t.isLt⟩ = ex t := Fin.ext (by
    show (t.val - 1) / 32 = t.val / 32; omega)
  have hk : tok ⟨t.val - 1, Nat.lt_of_le_of_lt (Nat.sub_le _ _) t.isLt⟩ r = tok t r := Fin.ext (by
    show (t.val - 1) / 8 % 4 * 1024 + r.val = t.val / 8 % 4 * 1024 + r.val
    rw [show (t.val - 1) / 8 = t.val / 8 by omega])
  rw [he, hk] at hp
  obtain ⟨-, -, -, -, ⟨g0, g1, g2⟩, -⟩ := idx_eq t
  have hg : iblk m c 4 t (ix3 0 r 0) = V m c main_v11 (ix3 (ex t) (tok t r) 0) := by
    show V m c main_v11 ((win0_4.rect t).emb (ix3 0 r 0)) = _
    refine congrArg (V m c main_v11) (funext fun a => Fin.ext ?_)
    match a with
    | ⟨0, _⟩ => exact (Pipeline.Window.rect_emb_val win0_4 t _ 0).trans (by rw [g0]; exact Nat.mul_one _)
    | ⟨1, _⟩ => exact (Pipeline.Window.rect_emb_val win0_4 t _ 1).trans (by rw [g1]; rfl)
    | ⟨2, _⟩ => exact Pipeline.Window.rect_emb_val_of_index_zero win0_4 t 2 g2 (ix3 0 r 0)
  exact congrArg₂ (fun a b => (a + _) * b) hp hg

/-- The result array at the arguments of `m`. -/
abbrev res (c : Dev nD) := result (V m c main_v10) (m ((c : Thread nD τ).loc main_arg2)) (m ((c : Thread nD τ).loc main_arg3))
  (m ((c : Thread nD τ).loc main_arg4)) (V m c main_v11)

/-- What a tile's last point writes back is the tile of the result array. -/
theorem flushed_eq (c : Dev nD) (t : Fin cfg0.N) (hf : (cfg0.win 5).flush t = true) :
    (dats m 0 c).flushed 5 t = ((cfg0.win 5).blk t).view.read (Elt Ideal) (res m c) := by
  have h := (flush0_5 t).mp hf
  rw [Value.flushed5]
  funext y
  obtain ⟨-, -, -, -, -, ⟨o0, o1, o2⟩⟩ := idx_eq t
  obtain ⟨u, r, n, rfl⟩ : ∃ (u : Fin 1) (r : Fin 1024) (n : Fin 2048), y = ix3 u r n := ⟨y 0, y 1, y 2, eq_ix3 y⟩
  obtain rfl : u = 0 := Subsingleton.elim _ _
  show outsAt0 m c t.val t.isLt (ix3 0 r n) = result _ _ _ _ _ ((win0_5.rect t).emb (ix3 0 r n))
  rw [outs_last m c t h r n]
  have hi : (win0_5.rect t).emb (ix3 0 r n) = ix3 (ex t) (tok t r) n := funext fun a => Fin.ext (by
    match a with
    | ⟨0, _⟩ => exact (Pipeline.Window.rect_emb_val win0_5 t _ 0).trans (by rw [o0]; exact Nat.mul_one _)
    | ⟨1, _⟩ => exact (Pipeline.Window.rect_emb_val win0_5 t _ 1).trans (by rw [o1]; rfl)
    | ⟨2, _⟩ => exact Pipeline.Window.rect_emb_val_of_index_zero win0_5 t 2 o2 (ix3 0 r n))
  rw [hi]
  rfl

/-- The tiles fill the result array. -/
theorem cover (i : S16x4096x2048.Idx) : ∃ t : Fin cfg0.N, (cfg0.win 5).flush t = true ∧ i ∈ ((cfg0.win 5).blk t).view.set := by
  have h0 : (i 0).val < 16 := (i 0).isLt
  have h1 : (i 1).val < 4096 := (i 1).isLt
  have h2 : (i 2).val < 2048 := (i 2).isLt
  have hN : cfg0.N = 512 := N_0
  refine ⟨⟨(i 0).val * 32 + (i 1).val / 1024 * 8 + 7, by omega⟩, (flush0_5 _).mpr (by
    show ((i 0).val * 32 + (i 1).val / 1024 * 8 + 7) % 8 = 7; omega), ?_⟩
  generalize ht : (⟨(i 0).val * 32 + (i 1).val / 1024 * 8 + 7, by omega⟩ : Fin cfg0.N) = t
  have hv : t.val = (i 0).val * 32 + (i 1).val / 1024 * 8 + 7 := by rw [← ht]
  show i ∈ ((View.whole main_v12).slice (win0_5.rect t)).set
  rw [View.set_slice_whole, Rect.mem_set_unit]
  obtain ⟨-, -, -, -, -, ⟨o0, o1, o2⟩⟩ := idx_eq t
  intro a
  match a with
  | ⟨0, _⟩ =>
    show win0_5.index t 0 * 1 ≤ (i 0).val ∧ (i 0).val < win0_5.index t 0 * 1 + 1
    rw [o0]; omega
  | ⟨1, _⟩ =>
    show win0_5.index t 1 * 1024 ≤ (i 1).val ∧ (i 1).val < win0_5.index t 1 * 1024 + 1024
    rw [o1]; omega
  | ⟨2, _⟩ =>
    show win0_5.index t 2 * 2048 ≤ (i 2).val ∧ (i 2).val < win0_5.index t 2 * 2048 + 2048
    rw [o2]; omega

/-- The reference computes the result array. -/
theorem reference_eq (x0 : (⟨S32768x2048, .bf16⟩ : BufTy).Contents (Elt Ideal)) (x1 : (⟨S32768x16, .f32⟩ : BufTy).Contents (Elt Ideal))
    (x2 x3 : (⟨S4x16x2048x4096, .f32⟩ : BufTy).Contents (Elt Ideal)) (x4 : (⟨S4x16x4096x2048, .f32⟩ : BufTy).Contents (Elt Ideal)) :
    Cert.Reference2Ideal.Read.val_main_v22 (F := Ideal) x0 x1 x2 x3 x4
      = result (Cert.Reference2Ideal.Read.val_main_v8 (F := Ideal) x0 x1) x2 x3 x4 (Cert.Reference2Ideal.Read.val_main_v20 (F := Ideal) x1) := by
  funext i
  unfold result
  have hi0 : (i 0).val < 16 := (i 0).isLt
  have hi1 : (i 1).val < 4096 := (i 1).isLt
  have hi2 : (i 2).val < 2048 := (i 2).isLt
  rw [Finset.sum_range]
  unfold contrib
  open Cert.Reference2Ideal.Read in
  rw [val_main_v22_apply, val_main_v21_apply, val_main_v19_apply]
  refine congrArg₂ (fun a b : EReal => a * b) (Finset.sum_congr rfl fun k _ => ?_)
    (congrArg (Cert.Reference2Ideal.Read.val_main_v20 (F := Ideal) x1) ?_)
  · have hk := k.isLt
    rw [dif_pos hk]
    open Cert.Reference2Ideal.Read in
    simp only [val_main_v16_apply, val_main_v12_apply, val_main_call0_v5_apply, val_main_call0_v4_apply, val_main_call0_v3_apply,
      val_main_call0_v2_apply, val_main_call0_v1_apply, val_main_call0_v0_apply, val_main_call0_cst_apply, val_main_call0_cst_0_apply]
    open Cert.Reference2Ideal.Read in
    rw [val_main_v15_apply, val_main_v11_apply, val_main_v18_apply, val_main_v17_apply]
    open Cert.Reference2Ideal.Read in
    simp only [val_main_v14_apply, val_main_v13_apply, val_main_v10_apply, val_main_v9_apply]
    have hX : ∀ d : Fin 2048, Cert.Reference2Ideal.Read.lidx_main_v11 (Cert.Reference2Ideal.Read.lidx_main_v19 i k) d
        = ix3 (i 0) (i 1) d := fun d => funext fun a => by match a with | ⟨0, _⟩ => rfl | ⟨1, _⟩ => rfl | ⟨2, _⟩ => rfl
    have hX' : ∀ d : Fin 2048, Cert.Reference2Ideal.Read.lidx_main_v15 (Cert.Reference2Ideal.Read.lidx_main_v19 i k) d
        = ix3 (i 0) (i 1) d := fun d => funext fun a => by match a with | ⟨0, _⟩ => rfl | ⟨1, _⟩ => rfl | ⟨2, _⟩ => rfl
    have hG : ∀ d : Fin 2048, Cert.Reference2Ideal.Read.idx_main_v9 (Cert.Reference2Ideal.Read.idx_main_v10
        (Cert.Reference2Ideal.Read.ridx_main_v11 (Cert.Reference2Ideal.Read.lidx_main_v19 i k) d)) = ix4 0 (i 0) d k := fun d => by
      have hd := d.isLt
      funext a
      match a with
      | ⟨0, _⟩ => rfl
      | ⟨1, _⟩ => exact Fin.ext (by show (((i 0).val * 2048 + d.val) * 4096 + k.val) / 8388608 % 16 = (i 0).val; omega)
      | ⟨2, _⟩ => exact Fin.ext (by show (((i 0).val * 2048 + d.val) * 4096 + k.val) / 4096 % 2048 = d.val; omega)
      | ⟨3, _⟩ => exact Fin.ext (by show (((i 0).val * 2048 + d.val) * 4096 + k.val) % 4096 = k.val; omega)
    have hU : ∀ d : Fin 2048, Cert.Reference2Ideal.Read.idx_main_v13 (Cert.Reference2Ideal.Read.idx_main_v14
        (Cert.Reference2Ideal.Read.ridx_main_v15 (Cert.Reference2Ideal.Read.lidx_main_v19 i k) d)) = ix4 0 (i 0) d k := hG
    have hD : Cert.Reference2Ideal.Read.idx_main_v17 (Cert.Reference2Ideal.Read.idx_main_v18
        (Cert.Reference2Ideal.Read.ridx_main_v19 i k)) = ix4 0 (i 0) k (i 2) := by
      funext a
      match a with
      | ⟨0, _⟩ => rfl
      | ⟨1, _⟩ => exact Fin.ext (by show (((i 0).val * 4096 + k.val) * 2048 + (i 2).val) / 8388608 % 16 = (i 0).val; omega)
      | ⟨2, _⟩ => exact Fin.ext (by show (((i 0).val * 4096 + k.val) * 2048 + (i 2).val) / 2048 % 4096 = k.val; omega)
      | ⟨3, _⟩ => exact Fin.ext (by show (((i 0).val * 4096 + k.val) * 2048 + (i 2).val) % 2048 = (i 2).val; omega)
    simp only [hX, hX', hG, hU, hD]
    unfold hidden Ideal.logistic
    show _ * Ideal.div (Ideal.ofBits .f32 0x3F800000#32) (Ideal.ofBits .f32 0x3F800000#32 + Ideal.exp (-_)) * _ * _ = _
    rw [Cert.Ops.ofBits_one]
    rfl
  · exact funext fun a => by match a with | ⟨0, _⟩ => rfl | ⟨1, _⟩ => rfl | ⟨2, _⟩ => rfl

/-- The expert kernel, with the routing before it, computes the array the reference computes, on every input. -/
theorem algebraic : Cert.algebraic_Kernel2Ideal_Reference2Ideal := by
  intro m ρ m' ρ' _ hag
  refine ⟨fun c => res m c,
    (θ_run _ _ _).mono (fun r h c => ⟨(h c).1.trans ?_, (h c).2⟩) (Value.run_blocks m ρ),
    (θ_run _ _ _).mono (fun r h c => ⟨(h c).1.trans ?_, (h c).2⟩) (Cert.Reference2Ideal.Value.run m' ρ')⟩
  · exact (dats m 0 c).arrAt_eq_of_cover 5 _ (flushed_eq m c) cover
  · refine (Cert.Reference2Ideal.Read.val_main_v22_eq _ _).trans ((reference_eq _ _ _ _ _).trans ?_)
    show _ = res m c
    unfold res
    rw [V_main_v10, V_main_v11]
    rw [(hag c).1, (hag c).2.1, (hag c).2.2.1, (hag c).2.2.2.1, (hag c).2.2.2.2]

end Cert.Ffn

end
-- ==== Proof.InProj.lean ====
/-
  What the input projection kernel computes: the product of the normalised rows with the weights, tile by tile.
-/
module

public import proofs.«01_k».proof.Defs
public import proofs.«01_k».proof.Proof.Gen.Kernel3Ideal.Value
public import proofs.«01_k».proof.Proof.Gen.Reference3Ideal.Run
public import proofs.«01_k».proof.Proof.Gen.Reference3Ideal.Read
public import proofs.«01_k».proof.Proof.Ops
public import Idealize.ShloMosaic.Lib.Pipeline.Value
public import Idealize.ShloMosaic.Lib.MatmulPlain
public import Idealize.ShloMosaic.Lib.ValueIdx
public import Idealize.ShloMosaic.Lib.ValueLayout
public import Idealize.ShloMosaic.Lib.ValueLayoutCasts

@[expose] public section

set_option maxRecDepth 16384

noncomputable section

namespace Cert.InProj

open Cert.Kernel3Ideal Cert.Kernel3Ideal.Gen Idealize.ShloMosaic Idealize.ShloMosaic.TcCoe Idealize.SL.Sem
open Idealize.ShloMosaic.ValueIdx
open Idealize.ShloMosaic.Pipeline (Dat)

/-- One element of the projection: row `xr` normalised by its root mean square, scaled by `g`, against the column `wc`. -/
def rowDot (xr g wc : Fin 2048 → EReal) : EReal :=
  ∑ k, xr k * Ideal.rsqrt (Ideal.div (∑ k', xr k' * xr k') (Ideal.ofBits .f32 0x45000000#32)
    + Ideal.ofBits .f32 0x358637BD#32) * g k * wc k

/-- What the kernel body computes from its three loaded blocks, at row `r` and column `n` of the tile. -/
theorem pay_apply (x : Vec Ideal S512x2048 .f32) (g : Vec Ideal S1x2048 .f32) (w : Vec Ideal S1x2048x2176 .bf16)
    (r : Fin 512) (n : Fin 2176) :
    k0_pay1 x g w (ix2 r n) = rowDot (fun k => x (ix2 r k)) (fun k => g (ix2 0 k)) (fun k => w (ix3 0 k n)) := by
  unfold k0_pay1 rowDot
  refine (Ideal.matmul_plain_apply none _ _ _ r n).trans ?_
  rw [constant_apply, Ideal.ofBits_zero_f32, zero_add]
  refine Finset.sum_congr rfl fun k _ => ?_
  rw [truncf_apply, mulf_apply, mulf_apply, broadcastTo_1b_ab_apply, shapeCast_self, shapeCast_1ab_ab_apply]
  rw [Cert.Ops.broadcastTo_col_apply]
  show _ * Ideal.rsqrt (Ideal.div (shapeCast S512x1 _ _ (ix2 r 0)) _ + _) * _ * _ = _
  rw [shapeCast_a_a1_apply]
  exact congrArg (fun s => x (ix2 r k) * Ideal.rsqrt (Ideal.div s _ + _) * g (ix2 0 k) * w (ix3 0 k n))
    (Cert.Ops.rowSum_apply (mulf x x) _ _ _ r)

variable (m : (ℓ : Loc nD τ sig) → Buf (Elt Ideal) ℓ) (ρ : Dev nD → PrngReg)

/-- The layer's weight slice the kernel stages, read at an index: the whole array of the argument. -/
theorem V_main_v2 (c : Dev nD) (i : S4x2048x4352.Idx) :
    V m c main_v2 i = m ((c : Thread nD τ).loc main_arg2) i := by
  show StableHlo.after hostOps0 _ (Proc.devRef .tc main_v2) i = _
  after_results
  rfl

/-- The gain the kernel stages is row 0 of the argument. -/
theorem V_main_v3 (c : Dev nD) (k : Fin 2048) :
    V m c main_v3 (ix2 0 k) = m ((c : Thread nD τ).loc main_arg1) (ix2 0 k) := by
  show StableHlo.after hostOps0 _ (Proc.devRef .tc main_v3) (ix2 0 k) = _
  after_results
  show shapeCast S1x2048 (shapeCast S2048 (extractStridedSlice S1x2048 ![0, 0] (m ((c : Thread nD τ).loc main_arg1))
    slices_S4x2048_S1x2048_0_0) shapeCasts_S1x2048_S2048) shapeCasts_S2048_S1x2048 (ix2 0 k) = _
  rw [shapeCast_a_1a_apply, shapeCast_1a_a_apply]
  exact extractStridedSlice_apply _ _ _ _ (ix2 0 k) (fun a => by
    match a with
    | ⟨0, _⟩ => rfl
    | ⟨1, _⟩ => exact (Nat.zero_add _).symm)

/-- The whole array the projection leaves: element `(i, n)` is row `i` of the stream, normalised, against column `n`. -/
def result (x : S32768x2048.Idx → EReal) (g : S4x2048.Idx → EReal) (w : S4x2048x4352.Idx → EReal) :
    S32768x4352.Idx → EReal :=
  fun i => rowDot (fun k => x (ix2 (i 0) k)) (fun k => g (ix2 0 k)) (fun k => w (ix3 0 k (i 1)))

/-- The reference computes that array. -/
theorem reference_eq (x : S32768x2048.Idx → EReal) (g : S4x2048.Idx → EReal) (w : S4x2048x4352.Idx → EReal) :
    Cert.Reference3Ideal.Read.val_main_v17 (F := Ideal) x g w = result x g w := by
  funext i
  unfold result rowDot
  open Cert.Reference3Ideal.Read in
  rw [val_main_v17_apply]
  refine Finset.sum_congr rfl fun k _ => ?_
  open Cert.Reference3Ideal.Read in
  simp only [val_main_v14_apply, val_main_v9_apply, val_main_v8_apply, val_main_v7_apply, val_main_v6_apply, val_main_v4_apply,
    val_main_v2_apply, val_main_v1_apply, val_main_v0_apply, val_main_v16_apply, val_main_v15_apply, val_main_v13_apply,
    val_main_v12_apply, val_main_v11_apply, val_main_v10_apply, val_main_v5_apply, val_main_v3_apply]
  have hl : Cert.Reference3Ideal.Read.lidx_main_v17 i k = ix2 (i 0) k :=
    funext fun a => by match a with | ⟨0, _⟩ => rfl | ⟨1, _⟩ => rfl
  have hg : Cert.Reference3Ideal.Read.idx_main_v10 (Cert.Reference3Ideal.Read.idx_main_v11
      (Cert.Reference3Ideal.Read.idx_main_v12 (Cert.Reference3Ideal.Read.idx_main_v13
        (Cert.Reference3Ideal.Read.lidx_main_v17 i k)))) = ix2 0 k :=
    funext fun a => by match a with | ⟨0, _⟩ => rfl | ⟨1, _⟩ => exact Fin.ext (Nat.mod_eq_of_lt k.isLt)
  have hw : Cert.Reference3Ideal.Read.idx_main_v15 (Cert.Reference3Ideal.Read.idx_main_v16
      (Cert.Reference3Ideal.Read.ridx_main_v17 i k)) = ix3 0 k (i 1) := by
    have hk := k.isLt
    have hi : (i 1).val < 4352 := (i 1).isLt
    funext a
    match a with
    | ⟨0, _⟩ => rfl
    | ⟨1, _⟩ => exact Fin.ext (by show (k.val * 4352 + (i 1).val) / 4352 % 2048 = k.val; omega)
    | ⟨2, _⟩ => exact Fin.ext (by show (k.val * 4352 + (i 1).val) % 4352 = (i 1).val; omega)
  have hs : ∀ k' : Fin 2048, Cert.Reference3Ideal.Read.idx_main_v1 (Cert.Reference3Ideal.Read.idx_main_v2
      (Cert.Reference3Ideal.Read.idx_main_v8 (Cert.Reference3Ideal.Read.lidx_main_v17 i k))) k' = ix2 (i 0) k' :=
    fun k' => funext fun a => by match a with | ⟨0, _⟩ => rfl | ⟨1, _⟩ => rfl
  simp only [hs]
  rw [hg, hw, hl]
  show x (ix2 (i 0) k) * Ideal.rsqrt (Ideal.div (Ideal.ofBits .f32 0x00000000#32
    + ∑ k' : Fin 2048, x (ix2 (i 0) k') * x (ix2 (i 0) k')) _ + _) * _ * _ = _
  rw [Ideal.ofBits_zero_f32, zero_add]
  rfl

/-- The index maps of the four windows, as numbers. -/
theorem idx_eq : ∀ t : Fin cfg0.N,
    win0_0.index t 0 = t.val % 64 ∧ win0_0.index t 1 = 0 ∧ win0_1.index t 0 = 0 ∧ win0_1.index t 1 = 0
    ∧ win0_2.index t 0 = 0 ∧ win0_2.index t 1 = 0 ∧ win0_2.index t 2 = t.val / 64
    ∧ win0_3.index t 0 = t.val % 64 ∧ win0_3.index t 1 = t.val / 64 :=
  (by decide +kernel : ∀ t : Fin grid0.N,
    win0_0.index t 0 = t.val % 64 ∧ win0_0.index t 1 = 0 ∧ win0_1.index t 0 = 0 ∧ win0_1.index t 1 = 0
    ∧ win0_2.index t 0 = 0 ∧ win0_2.index t 1 = 0 ∧ win0_2.index t 2 = t.val / 64
    ∧ win0_3.index t 0 = t.val % 64 ∧ win0_3.index t 1 = t.val / 64)

/-- The zero offsets of a matrix. -/
theorem hz2 : (![0, 0] : Fin 2 → Nat) = fun _ => 0 := funext fun a => by fin_cases a <;> rfl
/-- The zero offsets of a stack of matrices. -/
theorem hz3 : (![0, 0, 0] : Fin 3 → Nat) = fun _ => 0 := funext fun a => by fin_cases a <;> rfl

/-- Every grid point writes its tile of the result. -/
theorem flushed_eq (c : Dev nD) (t : Fin cfg0.N) :
    (dats m 0 c).flushed 3 t = ((cfg0.win 3).blk t).view.read (Elt Ideal)
      (result (m ((c : Thread nD τ).loc main_arg0)) (m ((c : Thread nD τ).loc main_arg1)) (m ((c : Thread nD τ).loc main_arg2))) := by
  rw [Value.flushed3]
  unfold out0_3
  rw [View.canon_unit_zero hz2, View.ld_unit_zero hz2, View.ld_unit_zero hz2, View.ld_unit_zero hz3]
  funext y
  obtain ⟨e0, e1, e2, e3, e4, e5, e6, e7, e8⟩ := idx_eq t
  obtain ⟨r, n, rfl⟩ : ∃ (r : Fin 512) (n : Fin 2176), y = ix2 r n := ⟨y 0, y 1, eq_ix2 y⟩
  show k0_pay1 (iblk m c 0 t) (iblk m c 1 t) (iblk m c 2 t) (ix2 r n) = result _ _ _ ((win0_3.rect t).emb (ix2 r n))
  rw [pay_apply]
  unfold result
  have hr := r.isLt
  have hn := n.isLt
  congr 1 <;> funext k
  · show V m c main_arg0 ((win0_0.rect t).emb (ix2 r k)) = _
    rw [V_main_arg0]
    refine congrArg (m ((c : Thread nD τ).loc main_arg0)) (funext fun a => Fin.ext ?_)
    match a with
    | ⟨0, _⟩ => exact (Pipeline.Window.rect_emb_val win0_0 t _ 0).trans (by
        rw [e0]; refine Eq.trans ?_ (Pipeline.Window.rect_emb_val win0_3 t _ 0).symm; rw [e7]; rfl)
    | ⟨1, _⟩ => exact Pipeline.Window.rect_emb_val_of_index_zero win0_0 t 1 e1 (ix2 r k)
  · show V m c main_v3 ((win0_1.rect t).emb (ix2 0 k)) = _
    refine Eq.trans ?_ (V_main_v3 m c k)
    refine congrArg (V m c main_v3) (funext fun a => Fin.ext ?_)
    match a with
    | ⟨0, _⟩ => exact Pipeline.Window.rect_emb_val_of_index_zero win0_1 t 0 e2 (ix2 0 k)
    | ⟨1, _⟩ => exact Pipeline.Window.rect_emb_val_of_index_zero win0_1 t 1 e3 (ix2 0 k)
  · show V m c main_v2 ((win0_2.rect t).emb (ix3 0 k n)) = _
    rw [V_main_v2]
    refine congrArg (m ((c : Thread nD τ).loc main_arg2)) (funext fun a => Fin.ext ?_)
    match a with
    | ⟨0, _⟩ => exact Pipeline.Window.rect_emb_val_of_index_zero win0_2 t 0 e4 (ix3 0 k n)
    | ⟨1, _⟩ => exact Pipeline.Window.rect_emb_val_of_index_zero win0_2 t 1 e5 (ix3 0 k n)
    | ⟨2, _⟩ => exact (Pipeline.Window.rect_emb_val win0_2 t _ 2).trans (by
        rw [e6]; refine Eq.trans ?_ (Pipeline.Window.rect_emb_val win0_3 t _ 1).symm; rw [e8]; rfl)

/-- An index of the result array is in point `t`'s tile when its row and column are in the tile's ranges. -/
theorem mem_blk (t : Fin cfg0.N) (i : S32768x4352.Idx) (h0 : (i 0).val / 512 = t.val % 64) (h1 : (i 1).val / 2176 = t.val / 64) :
    i ∈ ((cfg0.win 3).blk t).view.set := by
  show i ∈ ((View.whole main_v4).slice (win0_3.rect t)).set
  rw [View.set_slice_whole, Rect.mem_set_unit]
  obtain ⟨-, -, -, -, -, -, -, e7, e8⟩ := idx_eq t
  intro a
  match a with
  | ⟨0, _⟩ =>
    show win0_3.index t 0 * 512 ≤ (i 0).val ∧ (i 0).val < win0_3.index t 0 * 512 + 512
    rw [e7]; omega
  | ⟨1, _⟩ =>
    show win0_3.index t 1 * 2176 ≤ (i 1).val ∧ (i 1).val < win0_3.index t 1 * 2176 + 2176
    rw [e8]; omega

/-- The tiles fill the result array. -/
theorem cover (i : S32768x4352.Idx) : ∃ t : Fin cfg0.N, (cfg0.win 3).flush t = true ∧ i ∈ ((cfg0.win 3).blk t).view.set := by
  have h0 : (i 0).val < 32768 := (i 0).isLt
  have h1 : (i 1).val < 4352 := (i 1).isLt
  have hN : cfg0.N = 128 := N_0
  refine ⟨⟨(i 1).val / 2176 * 64 + (i 0).val / 512, by omega⟩, flush0_3 _, mem_blk _ i ?_ ?_⟩
  · show _ = ((i 1).val / 2176 * 64 + (i 0).val / 512) % 64; omega
  · show _ = ((i 1).val / 2176 * 64 + (i 0).val / 512) / 64; omega

/-- The projection kernel computes the array the reference computes, on every input. -/
theorem algebraic : Cert.algebraic_Kernel3Ideal_Reference3Ideal := by
  intro m ρ m' ρ' _ hag
  refine ⟨fun c => result (m ((c : Thread nD τ).loc main_arg0)) (m ((c : Thread nD τ).loc main_arg1))
    (m ((c : Thread nD τ).loc main_arg2)),
    (θ_run _ _ _).mono (fun r h c => ⟨(h c).1.trans ?_, (h c).2⟩) (Value.run_blocks m ρ),
    (θ_run _ _ _).mono (fun r h c => ⟨(h c).1.trans ?_, (h c).2⟩) (Cert.Reference3Ideal.Value.run m' ρ')⟩
  · exact (dats m 0 c).arrAt_eq_of_cover 3 _ (fun t _ => flushed_eq m c t) cover
  · rw [(hag c).1, (hag c).2.1, (hag c).2.2]
    exact (Cert.Reference3Ideal.Read.val_main_v17_eq _ _ _).trans (reference_eq _ _ _)

end Cert.InProj

end
-- ==== Proof.RmsNorm.lean ====
/-
  The normalisation of a row by its root mean square, and the kernels' form of it read at an element.
-/
module

public import proofs.«01_k».proof.Proof.Ops
public import Idealize.ShloMosaic.Lib.ValueIdx
public import Idealize.ShloMosaic.Lib.ValueLayout
public import Idealize.ShloMosaic.Lib.ValueLayoutCasts

@[expose] public section

set_option maxRecDepth 16384

noncomputable section

namespace Cert.RmsNorm

open Idealize.ShloMosaic Idealize.ShloMosaic.ValueIdx

/-- Element `k` of the row `v` divided by its root mean square (`c` its length, `e` the number added to the mean of the
    squares) and scaled by the gain `g`. -/
def normed {N : Nat} (c e : EReal) (v g : Fin N → EReal) (k : Fin N) : EReal :=
  v k * Ideal.rsqrt (Ideal.div (∑ k', v k' * v k') c + e) * g k

/-- The kernels' form of the normalisation of a block's rows, read at row `r` and column `k`. -/
theorem block_apply {M N : Nat} (x : FVec Ideal ⟨2, ![M, N]⟩ .f32) (g : FVec Ideal ⟨2, ![1, N]⟩ .f32) (c e : Ideal .f32)
    (h : Shape.Reduces ⟨2, ![M, N]⟩ [1] ⟨1, ![M]⟩) (hφ : FKind.Formats .f32) (hacc : (0#32 : BitVec 32) = FKind.add.neutral .f32 hφ)
    (hc : (⟨1, ![M]⟩ : Shape).ShapeCasts ⟨2, ![M, 1]⟩) (hb : (⟨2, ![M, 1]⟩ : Shape).Broadcasts ⟨2, ![M, N]⟩)
    (hg : (⟨2, ![1, N]⟩ : Shape).Broadcasts ⟨2, ![M, N]⟩) (r : Fin M) (k : Fin N) :
    mulf (mulf x (broadcastTo ⟨2, ![M, N]⟩ (rsqrt (addf (divf (shapeCast ⟨2, ![M, 1]⟩
        (multiReduction .add [1] ⟨1, ![M]⟩ (mulf x x) 0#32 h hφ hacc) hc) (broadcast ⟨2, ![M, 1]⟩ c))
        (broadcast ⟨2, ![M, 1]⟩ e))) hb)) (broadcastTo ⟨2, ![M, N]⟩ g hg) (ix2 r k)
      = normed c e (fun k => x (ix2 r k)) (fun k => g (ix2 0 k)) k := by
  rw [mulf_apply, mulf_apply, broadcastTo_1b_ab_apply, Cert.Ops.broadcastTo_col_apply]
  show _ * Ideal.rsqrt (Ideal.div (shapeCast ⟨2, ![M, 1]⟩ _ _ (ix2 r 0)) _ + _) * _ = _
  rw [shapeCast_a_a1_apply]
  exact congrArg (fun s => x (ix2 r k) * Ideal.rsqrt (Ideal.div s _ + _) * g (ix2 0 k)) (Cert.Ops.rowSum_apply (mulf x x) _ _ _ r)

end Cert.RmsNorm

end
-- ==== Proof.Router.lean ====
/-
  The router's affinities: the softmax over sixteen experts, and the same softmax over 128 lanes of which all but sixteen
  are masked.
-/
module

public import proofs.«01_k».proof.Proof.NaRow
public import proofs.«01_k».proof.Proof.RmsNorm

@[expose] public section

noncomputable section

namespace Cert.Router

open Idealize.ShloMosaic
open Cert.Na (IsFinite)
open Cert.RmsNorm (normed)

/-- A square is not negative. -/
theorem square_nonneg (x : EReal) : 0 ≤ x * x := by
  induction x using EReal.rec with
  | bot => rw [EReal.bot_mul_bot]; exact le_top
  | top => rw [EReal.top_mul_top]; exact le_top
  | coe r => rw [← EReal.coe_mul]; exact EReal.coe_nonneg.mpr (mul_self_nonneg r)

/-- The square of a number that is not finite is infinite. -/
theorem square_top {x : EReal} (h : ¬ IsFinite x) : x * x = ⊤ := by
  induction x using EReal.rec with
  | bot => exact EReal.bot_mul_bot
  | top => exact EReal.top_mul_top
  | coe r => exact absurd ⟨EReal.coe_ne_top _, EReal.coe_ne_bot _⟩ h

/-- A normalised row is finite wherever its gain is, whatever the row: an infinite entry makes the mean of the squares
    infinite, and its inverse root zero. -/
theorem normed_finite {N : Nat} {c e : EReal} {c' e' : ℝ} (hc : c = (c' : EReal)) (hc' : 0 < c') (he : e = (e' : EReal)) (he' : 0 < e')
    (v g : Fin N → EReal) (k : Fin N) (hg : IsFinite (g k)) : IsFinite (normed c e v g k) := by
  unfold normed
  by_cases h : ∀ k, IsFinite (v k)
  · have hS : IsFinite (∑ k', v k' * v k') := IsFinite.sum _ _ fun k => (h k).mul (h k)
    have h0 : 0 ≤ ∑ k', v k' * v k' := Finset.sum_nonneg fun k _ => square_nonneg (v k)
    refine ((h k).mul ?_).mul hg
    generalize (∑ k', v k' * v k') = S at hS h0 ⊢
    lift S to ℝ using hS
    have hs : 0 ≤ S := EReal.coe_nonneg.mp h0
    have hp : 0 < S * (1 / c') + e' := by positivity
    rw [hc, he, Ideal.div_coe hc'.ne', ← EReal.coe_mul, ← EReal.coe_add, Ideal.rsqrt_coe, if_neg (not_lt.mpr hp.le), if_neg hp.ne']
    exact ⟨EReal.coe_ne_top _, EReal.coe_ne_bot _⟩
  · obtain ⟨k₀, hk⟩ := not_forall.mp h
    have hS : ∑ k', v k' * v k' = ⊤ := top_le_iff.mp ((square_top hk).ge.trans
      (Finset.single_le_sum (f := fun k' => v k' * v k') (fun k _ => square_nonneg (v k)) (Finset.mem_univ k₀)))
    have hr : Ideal.rsqrt (Ideal.div (∑ k', v k' * v k') c + e) = 0 := by
      rw [hS, hc, he, Ideal.div_coe hc'.ne', EReal.top_mul_coe_of_pos (by positivity), EReal.top_add_coe, Ideal.rsqrt_top]
    rw [hr, mul_zero, zero_mul]
    exact ⟨EReal.zero_ne_top, EReal.zero_ne_bot⟩

/-- A finite number less itself. -/
theorem sub_self_finite {x : EReal} (h : IsFinite x) : x - x = 0 := EReal.sub_self h.1 h.2

/-- An affinity: expert `e`'s share of a token, from the token's score `s` of every expert. -/
def share {n : Nat} (s : Fin n → EReal) (e : Fin n) : EReal := Ideal.div (Softmax.weight s e) (∑ k, Softmax.weight s k)

/-- The lane an expert's score is in. -/
def lane (e : Fin 16) : Fin 128 := ⟨e.val, by omega⟩

/-- The affinities over 128 lanes: lane `l` has expert `l`'s share, and zero past the experts. -/
def shares (s : Fin 16 → EReal) (l : Fin 128) : EReal := if h : l.val < 16 then share s ⟨l.val, h⟩ else 0

/-- The softmax over 128 lanes, minus infinity in each lane past the experts, gives every expert its share and zero to
    every other lane, when the experts' scores are finite. -/
theorem share_masked (s : Fin 16 → EReal) (hs : ∀ e, IsFinite (s e)) (t : Fin 128 → EReal) (hin : ∀ e, t (lane e) = s e)
    (hout : ∀ l : Fin 128, ¬ l.val < 16 → t l = ⊥) (l : Fin 128) : share t l = shares s l := by
  let ψ : Fin 128 → Fin 16 := fun l => ⟨l.val % 16, Nat.mod_lt _ (by decide)⟩
  have hψ : ∀ l : Fin 128, l.val < 16 → lane (ψ l) = l := fun l h => Fin.ext (Nat.mod_eq_of_lt h)
  have hlt : ∀ l : Fin 128, t l ≠ ⊥ → l.val < 16 := fun l h => by_contra fun h' => h (hout l h')
  have hM : Finset.univ.sup t = Finset.univ.sup s :=
    Softmax.sup_eq t s ψ lane (fun l h => by rw [← hin, hψ l (hlt l h)]) (fun e _ => hin e)
  have hw : ∀ e, Softmax.weight t (lane e) = Softmax.weight s e := fun e => by
    unfold Softmax.weight; rw [hM, hin]
  have hT : ∑ l, Softmax.weight t l = ∑ e, Softmax.weight s e :=
    Softmax.sum_transfer _ _ (fun l => l.val < 16) (fun _ => True) ψ lane
      (fun l h => Softmax.weight_bot t (hout l h)) (fun _ h => absurd trivial h)
      (fun l h => ⟨trivial, by rw [← hw, hψ l h], hψ l h⟩)
      (fun e _ => ⟨e.isLt, Fin.ext (Nat.mod_eq_of_lt e.isLt)⟩)
  unfold shares
  by_cases h : l.val < 16
  · rw [dif_pos h]
    unfold share
    rw [hT]
    exact congrArg (Ideal.div · _) (hw ⟨l.val, h⟩)
  · rw [dif_neg h]
    unfold share
    have hMt : Finset.univ.sup s ≠ ⊤ :=
      ((Finset.sup_lt_iff bot_lt_top).mpr fun k _ => lt_of_le_of_ne le_top (hs k).1).ne
    have h0 : 0 < Softmax.weight s 0 := Softmax.exp_pos fun hb => by
      rw [sub_eq_add_neg, EReal.add_eq_bot_iff, EReal.neg_eq_bot_iff] at hb
      exact hb.elim (hs 0).2 hMt
    have hpos : 0 < ∑ e, Softmax.weight s e := h0.trans_le
      (Finset.single_le_sum (f := Softmax.weight s) (fun k _ => Softmax.exp_nonneg _) (Finset.mem_univ 0))
    rw [Softmax.weight_bot t (hout l h), hT, Ideal.div, if_neg hpos.ne', zero_mul]

end Cert.Router

end
-- ==== Proof.OutProjBody.lean ====
/-
  What the body of the output projection and router kernel computes, read at an element of its three blocks.
-/
module

public import proofs.«01_k».proof.Defs
public import proofs.«01_k».proof.Proof.Gen.Kernel4Ideal.Value
public import proofs.«01_k».proof.Proof.Router
public import Idealize.ShloMosaic.Lib.Pipeline.Value
public import Idealize.ShloMosaic.Lib.Pipeline.ValueKit.Tiles
public import Idealize.ShloMosaic.Lib.MatmulPlain
public import Idealize.ShloMosaic.Lib.ValueIdx
public import Idealize.ShloMosaic.Lib.ValueLayout
public import Idealize.ShloMosaic.Lib.ValueLayoutCasts

@[expose] public section

set_option maxRecDepth 16384

noncomputable section

namespace Cert.OutProj

open Cert.Kernel4Ideal Cert.Kernel4Ideal.Gen Idealize.ShloMosaic Idealize.ShloMosaic.TcCoe Idealize.SL.Sem
open Idealize.ShloMosaic.ValueIdx
open Cert.RmsNorm (normed)
open Cert.Router (share)

/-- The length of the first two branches, -/
abbrev len768 : EReal := Ideal.ofBits .f32 0x44400000#32
/-- of the third, -/
abbrev len512 : EReal := Ideal.ofBits .f32 0x44000000#32
/-- and of the stream, as the programs print them. -/
abbrev len2048 : EReal := Ideal.ofBits .f32 0x45000000#32
/-- The number added to the mean of the squares. -/
abbrev eps : EReal := Ideal.ofBits .f32 0x358637BD#32

/-- The channel of the mix that channel `k` of the first branch is, -/
def lo (k : Fin 768) : Fin 2048 := ⟨k.val, by omega⟩
/-- of the second, -/
def mid (k : Fin 768) : Fin 2048 := ⟨768 + k.val, by omega⟩
/-- and of the third. -/
def hi (k : Fin 512) : Fin 2048 := ⟨1536 + k.val, by omega⟩

/-- A sum over the channels of the mix, branch by branch. -/
theorem sum_branches (f : Fin 2048 → EReal) : ∑ k, f k = ∑ k, f (lo k) + ∑ k, f (mid k) + ∑ k, f (hi k) := by
  have h1 : ∑ k : Fin 2048, f k = ∑ k : Fin 1536, f ⟨k.val, by omega⟩ + ∑ k : Fin 512, f (hi k) :=
    Fin.sum_univ_add (a := 1536) (b := 512) f
  have h2 : ∑ k : Fin 1536, f ⟨k.val, by omega⟩ = ∑ k : Fin 768, f (lo k) + ∑ k : Fin 768, f (mid k) :=
    Fin.sum_univ_add (a := 768) (b := 768) fun k : Fin 1536 => f ⟨k.val, by omega⟩
  rw [h1, h2]

/-- One element of the stream after the projection: the token's own `x`, and its three branches `a`, `b` and `c`, normalised
    with their parts of the gain `g`, against the column `w`. -/
def outRow (a b : Fin 768 → EReal) (c : Fin 512 → EReal) (g w : Fin 2048 → EReal) (x : EReal) : EReal :=
  x + ∑ k, normed len768 eps a (fun k => g (lo k)) k * w (lo k)
    + ∑ k, normed len768 eps b (fun k => g (mid k)) k * w (mid k)
    + ∑ k, normed len512 eps c (fun k => g (hi k)) k * w (hi k)

/-- The first branch normalised, -/
theorem pay3_apply (x : Vec Ideal S256x768 .f32) (g : Vec Ideal S1x768 .f32) (r : Fin 256) (k : Fin 768) :
    k0_pay3 x g (ix2 r k) = normed len768 eps (fun k => x (ix2 r k)) (fun k => g (ix2 0 k)) k := by
  unfold k0_pay3
  rw [shapeCast_self, truncf_apply]
  exact Cert.RmsNorm.block_apply x g len768 eps _ _ _ _ _ _ r k

/-- and the second. -/
theorem pay4_apply (x : Vec Ideal S256x768 .f32) (g : Vec Ideal S1x768 .f32) (r : Fin 256) (k : Fin 768) :
    k0_pay4 x g (ix2 r k) = normed len768 eps (fun k => x (ix2 r k)) (fun k => g (ix2 0 k)) k := pay3_apply x g r k

/-- The stream's block after the projection, from the normalised first two branches `p` and `q`, the third branch `z` and the
    rest of what the body loads. -/
theorem pay8_apply (p q : Vec Ideal S256x768 .bf16) (z : Vec Ideal S256x512 .f32) (g : Vec Ideal S1x512 .f32)
    (x : Vec Ideal S256x2048 .f32) (wa wb : Vec Ideal S1x768x2048 .bf16) (wc : Vec Ideal S1x512x2048 .bf16)
    (r : Fin 256) (n : Fin 2048) :
    k0_pay8 p q z (k0_pay5 g) (k0_pay6 z) (k0_pay7 (F := Ideal)) x wa wb wc (ix2 r n)
      = x (ix2 r n) + ∑ k, p (ix2 r k) * wa (ix3 0 k n) + ∑ k, q (ix2 r k) * wb (ix3 0 k n)
        + ∑ k, normed len512 eps (fun k => z (ix2 r k)) (fun k => g (ix2 0 k)) k * wc (ix3 0 k n) := by
  unfold k0_pay8 k0_pay5 k0_pay6 k0_pay7
  rw [addf_apply, addf_apply, addf_apply]
  refine congrArg₂ (· + ·) (congrArg₂ (· + ·) (congrArg (_ + ·) ?_) ?_) ?_
  · refine (Ideal.matmul_plain_apply none _ _ _ r n).trans ?_
    rw [constant_apply, Ideal.ofBits_zero_f32, zero_add]
    exact Finset.sum_congr rfl fun k _ => congrArg (_ * ·) (shapeCast_1ab_ab_apply _ _ _ _)
  · refine (Ideal.matmul_plain_apply none _ _ _ r n).trans ?_
    rw [constant_apply, Ideal.ofBits_zero_f32, zero_add]
    exact Finset.sum_congr rfl fun k _ => congrArg (_ * ·) (shapeCast_1ab_ab_apply _ _ _ _)
  · refine (Ideal.matmul_plain_apply none _ _ _ r n).trans ?_
    rw [constant_apply, Ideal.ofBits_zero_f32, zero_add]
    refine Finset.sum_congr rfl fun k _ => ?_
    refine congrArg₂ (· * ·) ?_ (shapeCast_1ab_ab_apply _ _ _ _)
    rw [truncf_apply, shapeCast_self]
    exact Cert.RmsNorm.block_apply z g len512 eps _ _ _ _ _ _ r k

/-- The normalised block of the stream. -/
theorem pay9_apply (p q : Vec Ideal S256x768 .bf16) (z : Vec Ideal S256x512 .f32) (g : Vec Ideal S1x512 .f32)
    (d e : Vec Ideal S256x1 .f32) (x : Vec Ideal S256x2048 .f32) (wa wb : Vec Ideal S1x768x2048 .bf16)
    (wc : Vec Ideal S1x512x2048 .bf16) (g2 : Vec Ideal S1x2048 .f32) (r : Fin 256) (k : Fin 2048) :
    k0_pay9 p q z g d e x wa wb wc g2 (ix2 r k)
      = normed len2048 eps (fun k => k0_pay8 p q z g d e x wa wb wc (ix2 r k)) (fun k => g2 (ix2 0 k)) k := by
  unfold k0_pay9
  rw [shapeCast_self]
  exact Cert.RmsNorm.block_apply (k0_pay8 p q z g d e x wa wb wc) g2 len2048 eps _ _ _ _ _ _ r k

/-- The masked score of lane `l`: the product of the token's row `h` with the lane's two columns `u` and `v`, minus
    infinity past the experts. -/
def laneScore (h : Fin 2048 → EReal) (u v : Fin 2048 → Fin 128 → EReal) (l : Fin 128) : EReal :=
  if l.val < 16 then ∑ k, h k * u k l + ∑ k, h k * v k l + ∑ k, (h k - h k) * u k l else ⊥

/-- The affinities' block. -/
theorem pay2_apply (h : Vec Ideal S256x2048 .f32) (u v : Vec Ideal S2048x128 .bf16) (r : Fin 256) (l : Fin 128) :
    k0_pay2 h u v u (ix2 r l)
      = share (laneScore (fun k => h (ix2 r k)) (fun k l => u (ix2 k l)) (fun k l => v (ix2 k l))) l := by
  -- the masked scores
  have hs : ∀ (hc : S2048x128.ShapeCasts S2048x128) (l : Fin 128),
      select (cmpi .slt (iota .tc S256x128 32 [1] iota_S256x128_d1_w32) (broadcast S256x128 16#32))
        (addf (addf
          (matmul dot_S256x2048_S2048x128_S256x128_1_0_0_1_n_n none (k0_pay1 h) (shapeCast S2048x128 u hc) (constant S256x128 .f32 0x00000000#32))
          (matmul dot_S256x2048_S2048x128_S256x128_1_0_0_1_n_n none (k0_pay1 h) (shapeCast S2048x128 v hc) (constant S256x128 .f32 0x00000000#32)))
          (matmul dot_S256x2048_S2048x128_S256x128_1_0_0_1_n_n none
            (truncf .bf16 (subf h (extf .f32 (k0_pay1 h) bitsLt_bf16_f32)) bitsLt_bf16_f32) (shapeCast S2048x128 u hc)
            (constant S256x128 .f32 0x00000000#32)))
        (broadcast S256x128 (Named.named (F := Ideal) κ "mask" 0xF149F2CA#32)) (ix2 r l)
      = laneScore (fun k => h (ix2 r k)) (fun k l => u (ix2 k l)) (fun k l => v (ix2 k l)) l := fun hc l => by
    rw [select_apply]
    show (if IntOp.cmpi .slt (iota .tc S256x128 32 [1] iota_S256x128_d1_w32 (ix2 r l)) 16#32 = 1#1 then _ else _) = _
    rw [iota_single_apply]
    unfold laneScore
    refine if_congr ((by decide +kernel : ∀ d : Fin 128, IntOp.cmpi .slt (BitVec.ofNat 32 d.val) 16#32 = 1#1 ↔ d.val < 16) l) ?_ ?_
    · rw [addf_apply, addf_apply, shapeCast_self, shapeCast_self]
      refine congrArg₂ (· + ·) (congrArg₂ (· + ·) ?_ ?_) ?_ <;>
      · refine (Ideal.matmul_plain_apply none _ _ _ r l).trans ?_
        rw [constant_apply, Ideal.ofBits_zero_f32, zero_add]
        rfl
    · rfl
  unfold k0_pay2
  generalize hS : select (cmpi .slt (iota .tc S256x128 32 [1] iota_S256x128_d1_w32) (broadcast S256x128 16#32)) _ _ = S
  have hS' : ∀ l, S (ix2 r l) = laneScore (fun k => h (ix2 r k)) (fun k l => u (ix2 k l)) (fun k l => v (ix2 k l)) l :=
    fun l => by rw [← hS]; exact hs _ l
  have hmax : ∀ l : Fin 128, broadcastTo S256x128 (shapeCast S256x1 (multiReduction .maximumf [1] S256 S 0xFF800000#32
      reduces_S256x128_S256 (.inl rfl) rfl) shapeCasts_S256_S256x1) broadcasts_S256x1_S256x128 (ix2 r l)
      = Finset.univ.sup (laneScore (fun k => h (ix2 r k)) (fun k l => u (ix2 k l)) (fun k l => v (ix2 k l))) := fun l => by
    rw [Cert.Ops.broadcastTo_col_apply, shapeCast_a_a1_apply]
    refine (Cert.Ops.rowMax_apply S _ _ _ r).trans ?_
    exact congrArg _ (funext hS')
  have hw : ∀ l : Fin 128, exp (subf S (broadcastTo S256x128 (shapeCast S256x1 (multiReduction .maximumf [1] S256 S 0xFF800000#32
      reduces_S256x128_S256 (.inl rfl) rfl) shapeCasts_S256_S256x1) broadcasts_S256x1_S256x128)) (ix2 r l)
      = Cert.Softmax.weight (laneScore (fun k => h (ix2 r k)) (fun k l => u (ix2 k l)) (fun k l => v (ix2 k l))) l := fun l => by
    show Ideal.exp (S (ix2 r l) - broadcastTo S256x128 _ _ (ix2 r l)) = _
    rw [hmax, hS']
    rfl
  refine (divf_apply _ _ _).trans ?_
  rw [Cert.Ops.broadcastTo_col_apply, shapeCast_a_a1_apply]
  unfold share
  refine congrArg₂ Ideal.div (hw l) ?_
  exact (Cert.Ops.rowSum_apply _ _ _ _ r).trans (Finset.sum_congr rfl fun l _ => hw l)

/-! ## The three blocks -/

section Blocks

variable (x0 x1 : Vec Ideal S256x768 .f32) (x2 : Vec Ideal S256x512 .f32) (x3 : Vec Ideal S256x2048 .f32) (x4 : Vec Ideal S1x2048 .f32)
  (x5 : Vec Ideal S1x2048x2048 .bf16) (x6 : Vec Ideal S1x2048 .f32) (x7 x8 : Vec Ideal S2048x128 .bf16)

/-- The zero offsets of a matrix. -/
theorem hz2 : (![0, 0] : Fin 2 → Nat) = fun _ => 0 := funext fun a => by fin_cases a <;> rfl

/-- One row of the stream's block after the projection. -/
def stream (r : Fin 256) (n : Fin 2048) : EReal :=
  outRow (fun k => x0 (ix2 r k)) (fun k => x1 (ix2 r k)) (fun k => x2 (ix2 r k)) (fun k => x4 (ix2 0 k)) (fun k => x5 (ix3 0 k n))
    (x3 (ix2 r n))

/-- One row of the normalised block. -/
def hidden (r : Fin 256) (k : Fin 2048) : EReal :=
  normed len2048 eps (stream x0 x1 x2 x3 x4 x5 r) (fun k => x6 (ix2 0 k)) k

/-- The part of the gain that the first branch takes, -/
theorem ld_gain_lo (k : Fin 768) : View.ld x4 r0_1 (ix2 0 k) = x4 (ix2 0 (lo k)) :=
  View.ld_unit_apply_of x4 _ _ _ _ _ fun a => by match a with | ⟨0, _⟩ => rfl | ⟨1, _⟩ => exact (Nat.zero_add _).symm
/-- the second, -/
theorem ld_gain_mid (k : Fin 768) : View.ld x4 r0_2 (ix2 0 k) = x4 (ix2 0 (mid k)) :=
  View.ld_unit_apply_of x4 _ _ _ _ _ fun a => by match a with | ⟨0, _⟩ => rfl | ⟨1, _⟩ => rfl
/-- and the third. -/
theorem ld_gain_hi (k : Fin 512) : View.ld x4 r0_4 (ix2 0 k) = x4 (ix2 0 (hi k)) :=
  View.ld_unit_apply_of x4 _ _ _ _ _ fun a => by match a with | ⟨0, _⟩ => rfl | ⟨1, _⟩ => rfl
/-- The rows of the weights that the first branch meets, -/
theorem ld_weight_lo (k : Fin 768) (n : Fin 2048) : View.ld x5 r0_6 (ix3 0 k n) = x5 (ix3 0 (lo k) n) :=
  View.ld_unit_apply_of x5 _ _ _ _ _ fun a => by
    match a with | ⟨0, _⟩ => rfl | ⟨1, _⟩ => exact (Nat.zero_add _).symm | ⟨2, _⟩ => exact (Nat.zero_add _).symm
/-- the second, -/
theorem ld_weight_mid (k : Fin 768) (n : Fin 2048) : View.ld x5 r0_7 (ix3 0 k n) = x5 (ix3 0 (mid k) n) :=
  View.ld_unit_apply_of x5 _ _ _ _ _ fun a => by
    match a with | ⟨0, _⟩ => rfl | ⟨1, _⟩ => rfl | ⟨2, _⟩ => exact (Nat.zero_add _).symm
/-- and the third. -/
theorem ld_weight_hi (k : Fin 512) (n : Fin 2048) : View.ld x5 r0_8 (ix3 0 k n) = x5 (ix3 0 (hi k) n) :=
  View.ld_unit_apply_of x5 _ _ _ _ _ fun a => by
    match a with | ⟨0, _⟩ => rfl | ⟨1, _⟩ => rfl | ⟨2, _⟩ => exact (Nat.zero_add _).symm

/-- The stream's block, -/
theorem stream_apply (r : Fin 256) (n : Fin 2048) :
    k0_pay8 (k0_pay10 x0 x1 x2 x3 x4 x5 x6 x7 x8) (k0_pay11 x0 x1 x2 x3 x4 x5 x6 x7 x8) (View.ld x2 r0_3)
      (k0_pay12 x0 x1 x2 x3 x4 x5 x6 x7 x8) (k0_pay13 x0 x1 x2 x3 x4 x5 x6 x7 x8) (k0_pay14 x0 x1 x2 x3 x4 x5 x6 x7 x8)
      (View.ld x3 r0_5) (View.ld x5 r0_6) (View.ld x5 r0_7) (View.ld x5 r0_8) (ix2 r n)
      = stream x0 x1 x2 x3 x4 x5 r n := by
  unfold k0_pay10 k0_pay11 k0_pay12 k0_pay13 k0_pay14
  rw [View.ld_unit_zero hz2, View.ld_unit_zero hz2, View.ld_unit_zero hz2, View.ld_unit_zero hz2]
  refine (pay8_apply _ _ _ _ _ _ _ _ r n).trans ?_
  unfold stream outRow
  refine congrArg₂ (· + ·) (congrArg₂ (· + ·) (congrArg (_ + ·) ?_) ?_) ?_
  · refine Finset.sum_congr rfl fun k _ => congrArg₂ (· * ·) ?_ (ld_weight_lo x5 k n)
    refine (pay3_apply _ _ r k).trans ?_
    exact congrArg (normed len768 eps _ · k) (funext (ld_gain_lo x4))
  · refine Finset.sum_congr rfl fun k _ => congrArg₂ (· * ·) ?_ (ld_weight_mid x5 k n)
    refine (pay4_apply _ _ r k).trans ?_
    exact congrArg (normed len768 eps _ · k) (funext (ld_gain_mid x4))
  · exact Finset.sum_congr rfl fun k _ => congrArg₂ (· * ·) (congrArg (normed len512 eps _ · k) (funext (ld_gain_hi x4)))
      (ld_weight_hi x5 k n)

/-- the normalised block, -/
theorem hidden_apply (r : Fin 256) (k : Fin 2048) :
    k0_pay15 x0 x1 x2 x3 x4 x5 x6 x7 x8 (ix2 r k) = hidden x0 x1 x2 x3 x4 x5 x6 r k := by
  unfold k0_pay15
  refine (pay9_apply _ _ _ _ _ _ _ _ _ _ _ r k).trans ?_
  unfold hidden
  rw [View.ld_unit_zero hz2 (X := x6)]
  exact congrArg (fun f => normed len2048 eps f _ k) (funext fun n => stream_apply x0 x1 x2 x3 x4 x5 x6 x7 x8 r n)

/-- The three stored blocks, at an element. -/
theorem out9_apply (r : Fin 256) (n : Fin 2048) :
    out0_9 x0 x1 x2 x3 x4 x5 x6 x7 x8 (ix2 r n) = stream x0 x1 x2 x3 x4 x5 r n := by
  unfold out0_9
  rw [View.canon_unit_zero hz2]
  exact stream_apply x0 x1 x2 x3 x4 x5 x6 x7 x8 r n

theorem out10_apply (r : Fin 256) (k : Fin 2048) :
    out0_10 x0 x1 x2 x3 x4 x5 x6 x7 x8 (ix2 r k) = hidden x0 x1 x2 x3 x4 x5 x6 r k := by
  unfold out0_10
  rw [View.canon_unit_zero hz2]
  exact hidden_apply x0 x1 x2 x3 x4 x5 x6 x7 x8 r k

theorem out11_apply (r : Fin 256) (l : Fin 128) :
    out0_11 x0 x1 x2 x3 x4 x5 x6 x7 x8 (ix2 r l)
      = share (laneScore (hidden x0 x1 x2 x3 x4 x5 x6 r) (fun k l => x7 (ix2 k l)) (fun k l => x8 (ix2 k l))) l := by
  unfold out0_11
  rw [View.canon_unit_zero hz2, View.ld_unit_zero hz2, View.ld_unit_zero hz2]
  refine (pay2_apply _ _ _ r l).trans ?_
  exact congrArg (fun f => share (laneScore f _ _) l) (funext fun k => hidden_apply x0 x1 x2 x3 x4 x5 x6 x7 x8 r k)

end Blocks

end Cert.OutProj

end
-- ==== Proof.OutProjReference.lean ====
/-
  What the output projection and router compute, as three arrays, and that the reference computes them.
-/
module

public import proofs.«01_k».proof.Proof.Gen.Reference4Ideal.Run
public import proofs.«01_k».proof.Proof.Gen.Reference4Ideal.Read
public import proofs.«01_k».proof.Proof.OutProjBody
public import Idealize.ShloMosaic.Lib.KernelVsHost

@[expose] public section

set_option maxRecDepth 16384

noncomputable section

namespace Cert.OutProj

open Cert.Reference4Ideal Cert.Reference4Ideal.Gen Cert.Reference4Ideal.Read Idealize.ShloMosaic Idealize.ShloMosaic.TcCoe
open Idealize.ShloMosaic.ValueIdx
open Cert.RmsNorm (normed)
open Cert.Router (share shares)

section Arrays

variable (x0 x1 : S32768x768.Idx → EReal) (x2 : S32768x512.Idx → EReal) (x3 : S32768x2048.Idx → EReal) (x4 : S4x2048.Idx → EReal)
  (x5 : S4x2048x2048.Idx → EReal) (x6 : S4x2048.Idx → EReal) (x7 : S4x2048x16.Idx → EReal)

/-- Channel `n` of token `i` of the stream after the projection, -/
def streamRow (i : Fin 32768) (n : Fin 2048) : EReal :=
  outRow (fun k => x0 (ix2 i k)) (fun k => x1 (ix2 i k)) (fun k => x2 (ix2 i k)) (fun k => x4 (ix2 0 k)) (fun k => x5 (ix3 0 k n))
    (x3 (ix2 i n))

/-- of that stream normalised, -/
def hiddenRow (i : Fin 32768) (k : Fin 2048) : EReal :=
  normed len2048 eps (streamRow x0 x1 x2 x3 x4 x5 i) (fun k => x6 (ix2 0 k)) k

/-- and the token's score of expert `e`. -/
def logit (i : Fin 32768) (e : Fin 16) : EReal := ∑ k, hiddenRow x0 x1 x2 x3 x4 x5 x6 i k * x7 (ix3 0 k e)

/-- The three arrays: the stream, -/
def streamArr : S32768x2048.Idx → EReal := fun i => streamRow x0 x1 x2 x3 x4 x5 (i 0) (i 1)
/-- the stream normalised, -/
def hiddenArr : S32768x2048.Idx → EReal := fun i => hiddenRow x0 x1 x2 x3 x4 x5 x6 (i 0) (i 1)
/-- and the affinities, in lanes of which those past the experts hold zero. -/
def affArr : S32768x128.Idx → EReal := fun i => shares (logit x0 x1 x2 x3 x4 x5 x6 x7 (i 0)) (i 1)

/-! ## The branches -/

/-- The gain of the first branch. -/
theorem ref_gain_lo (i : Fin 32768) (k : Fin 768) : val_main_v14 (F := Ideal) x4 (ix2 i k) = x4 (ix2 0 (lo k)) := by
  rw [val_main_v14_apply, val_main_v13_apply, val_main_v2_apply, val_main_v1_apply, val_main_v0_apply]
  have hk := k.isLt
  refine congrArg x4 (funext fun a => Fin.ext ?_)
  match a with
  | ⟨0, _⟩ => rfl
  | ⟨1, _⟩ => show k.val % 2048 = k.val; omega

/-- The gain of the second. -/
theorem ref_gain_mid (i : Fin 32768) (k : Fin 768) : val_main_v28 (F := Ideal) x4 (ix2 i k) = x4 (ix2 0 (mid k)) := by
  rw [val_main_v28_apply, val_main_v27_apply, val_main_v16_apply, val_main_v1_apply, val_main_v0_apply]
  have hk := k.isLt
  refine congrArg x4 (funext fun a => Fin.ext ?_)
  match a with
  | ⟨0, _⟩ => rfl
  | ⟨1, _⟩ => show (768 + k.val) % 2048 = 768 + k.val; omega

/-- The gain of the third. -/
theorem ref_gain_hi (i : Fin 32768) (k : Fin 512) : val_main_v42 (F := Ideal) x4 (ix2 i k) = x4 (ix2 0 (hi k)) := by
  rw [val_main_v42_apply, val_main_v41_apply, val_main_v30_apply, val_main_v1_apply, val_main_v0_apply]
  have hk := k.isLt
  refine congrArg x4 (funext fun a => Fin.ext ?_)
  match a with
  | ⟨0, _⟩ => rfl
  | ⟨1, _⟩ => show (1536 + k.val) % 2048 = 1536 + k.val; omega

/-- The first branch normalised. -/
theorem ref_branch_lo (i : Fin 32768) (k : Fin 768) :
    val_main_v15 (F := Ideal) x0 x4 (ix2 i k) = normed len768 eps (fun k => x0 (ix2 i k)) (fun k => x4 (ix2 0 (lo k))) k := by
  rw [val_main_v15_apply, ref_gain_lo]
  simp only [val_main_v12_apply, val_main_v11_apply, val_main_v10_apply, val_main_v9_apply, val_main_v8_apply, val_main_v7_apply,
    val_main_v6_apply, val_main_v5_apply, val_main_v4_apply, val_main_v3_apply]
  have hs : ∀ k' : Fin 768, idx_main_v4 (idx_main_v5 (idx_main_v11 (ix2 i k))) k' = ix2 i k' :=
    fun k' => funext fun a => by match a with | ⟨0, _⟩ => rfl | ⟨1, _⟩ => rfl
  simp only [hs]
  show x0 (ix2 i k) * Ideal.rsqrt (Ideal.div (Ideal.ofBits .f32 0x00000000#32 + ∑ k' : Fin 768, x0 (ix2 i k') * x0 (ix2 i k')) _ + _) * _ = _
  rw [Ideal.ofBits_zero_f32, zero_add]
  rfl

/-- The second branch normalised. -/
theorem ref_branch_mid (i : Fin 32768) (k : Fin 768) :
    val_main_v29 (F := Ideal) x1 x4 (ix2 i k) = normed len768 eps (fun k => x1 (ix2 i k)) (fun k => x4 (ix2 0 (mid k))) k := by
  rw [val_main_v29_apply, ref_gain_mid]
  simp only [val_main_v26_apply, val_main_v25_apply, val_main_v24_apply, val_main_v23_apply, val_main_v22_apply, val_main_v21_apply,
    val_main_v20_apply, val_main_v19_apply, val_main_v18_apply, val_main_v17_apply]
  have hs : ∀ k' : Fin 768, idx_main_v18 (idx_main_v19 (idx_main_v25 (ix2 i k))) k' = ix2 i k' :=
    fun k' => funext fun a => by match a with | ⟨0, _⟩ => rfl | ⟨1, _⟩ => rfl
  simp only [hs]
  show x1 (ix2 i k) * Ideal.rsqrt (Ideal.div (Ideal.ofBits .f32 0x00000000#32 + ∑ k' : Fin 768, x1 (ix2 i k') * x1 (ix2 i k')) _ + _) * _ = _
  rw [Ideal.ofBits_zero_f32, zero_add]
  rfl

/-- The third branch normalised. -/
theorem ref_branch_hi (i : Fin 32768) (k : Fin 512) :
    val_main_v43 (F := Ideal) x2 x4 (ix2 i k) = normed len512 eps (fun k => x2 (ix2 i k)) (fun k => x4 (ix2 0 (hi k))) k := by
  rw [val_main_v43_apply, ref_gain_hi]
  simp only [val_main_v40_apply, val_main_v39_apply, val_main_v38_apply, val_main_v37_apply, val_main_v36_apply, val_main_v35_apply,
    val_main_v34_apply, val_main_v33_apply, val_main_v32_apply, val_main_v31_apply]
  have hs : ∀ k' : Fin 512, idx_main_v32 (idx_main_v33 (idx_main_v39 (ix2 i k))) k' = ix2 i k' :=
    fun k' => funext fun a => by match a with | ⟨0, _⟩ => rfl | ⟨1, _⟩ => rfl
  simp only [hs]
  show x2 (ix2 i k) * Ideal.rsqrt (Ideal.div (Ideal.ofBits .f32 0x00000000#32 + ∑ k' : Fin 512, x2 (ix2 i k') * x2 (ix2 i k')) _ + _) * _ = _
  rw [Ideal.ofBits_zero_f32, zero_add]
  rfl

/-- The mix holds the first branch in its first channels, -/
theorem ref_mix_lo (i : Fin 32768) (k : Fin 768) :
    val_main_v44 (F := Ideal) x0 x1 x2 x4 (ix2 i (lo k)) = val_main_v15 (F := Ideal) x0 x4 (ix2 i k) := by
  unfold val_main_v44
  exact concatenate_apply_piece (t := S32768x2048) 1 _ _ _ 0 (by show 0 < 3; omega) S32768x768 _ rfl rfl 0 rfl (ix2 i k)
    (fun b hb => by match b with | ⟨0, _⟩ => rfl | ⟨1, _⟩ => exact absurd rfl hb) (Nat.zero_add _)

/-- then the second, -/
theorem ref_mix_mid (i : Fin 32768) (k : Fin 768) :
    val_main_v44 (F := Ideal) x0 x1 x2 x4 (ix2 i (mid k)) = val_main_v29 (F := Ideal) x1 x4 (ix2 i k) := by
  unfold val_main_v44
  exact concatenate_apply_piece (t := S32768x2048) 1 _ _ _ 1 (by show 1 < 3; omega) S32768x768 _ rfl rfl 768 rfl (ix2 i k)
    (fun b hb => by match b with | ⟨0, _⟩ => rfl | ⟨1, _⟩ => exact absurd rfl hb) rfl

/-- then the third. -/
theorem ref_mix_hi (i : Fin 32768) (k : Fin 512) :
    val_main_v44 (F := Ideal) x0 x1 x2 x4 (ix2 i (hi k)) = val_main_v43 (F := Ideal) x2 x4 (ix2 i k) := by
  unfold val_main_v44
  exact concatenate_apply_piece (t := S32768x2048) 1 _ _ _ 2 (by show 2 < 3; omega) S32768x512 _ rfl rfl 1536 rfl (ix2 i k)
    (fun b hb => by match b with | ⟨0, _⟩ => rfl | ⟨1, _⟩ => exact absurd rfl hb) rfl

/-- The weights are the layer's. -/
theorem ref_weight (k n : Fin 2048) : val_main_v46 (F := Ideal) x5 (ix2 k n) = x5 (ix3 0 k n) := by
  rw [val_main_v46_apply, val_main_v45_apply]
  have hk := k.isLt
  have hn := n.isLt
  refine congrArg x5 (funext fun a => Fin.ext ?_)
  match a with
  | ⟨0, _⟩ => rfl
  | ⟨1, _⟩ => show (k.val * 2048 + n.val) / 2048 % 2048 = k.val; omega
  | ⟨2, _⟩ => show (k.val * 2048 + n.val) % 2048 = n.val; omega

/-- The reference's stream after the projection. -/
theorem ref_stream (i : Fin 32768) (n : Fin 2048) :
    val_main_v48 (F := Ideal) x0 x1 x2 x3 x4 x5 (ix2 i n) = streamRow x0 x1 x2 x3 x4 x5 i n := by
  rw [val_main_v48_apply, val_main_v47_apply]
  have hl : ∀ k, lidx_main_v47 (ix2 i n) k = ix2 i k := fun k => funext fun a => by match a with | ⟨0, _⟩ => rfl | ⟨1, _⟩ => rfl
  have hr : ∀ k, ridx_main_v47 (ix2 i n) k = ix2 k n := fun k => funext fun a => by match a with | ⟨0, _⟩ => rfl | ⟨1, _⟩ => rfl
  simp only [hl, hr, ref_weight]
  rw [sum_branches]
  simp only [ref_mix_lo, ref_mix_mid, ref_mix_hi, ref_branch_lo, ref_branch_mid, ref_branch_hi]
  unfold streamRow outRow
  exact (add_assoc _ _ _).symm.trans (congrArg (· + _) (add_assoc _ _ _).symm)

/-- The gain of the second normalisation. -/
theorem ref_gain2 (i : Fin 32768) (k : Fin 2048) : val_main_v62 (F := Ideal) x6 (ix2 i k) = x6 (ix2 0 k) := by
  rw [val_main_v62_apply, val_main_v61_apply, val_main_v50_apply, val_main_v49_apply]
  have hk := k.isLt
  refine congrArg x6 (funext fun a => Fin.ext ?_)
  match a with
  | ⟨0, _⟩ => rfl
  | ⟨1, _⟩ => show k.val % 2048 = k.val; omega

/-- The reference's normalised stream. -/
theorem ref_hidden (i : Fin 32768) (k : Fin 2048) :
    val_main_v63 (F := Ideal) x0 x1 x2 x3 x4 x5 x6 (ix2 i k) = hiddenRow x0 x1 x2 x3 x4 x5 x6 i k := by
  rw [val_main_v63_apply, ref_gain2]
  simp only [val_main_v60_apply, val_main_v59_apply, val_main_v58_apply, val_main_v57_apply, val_main_v56_apply, val_main_v55_apply,
    val_main_v54_apply, val_main_v53_apply, val_main_v52_apply, val_main_v51_apply]
  have hs : ∀ k' : Fin 2048, idx_main_v52 (idx_main_v53 (idx_main_v59 (ix2 i k))) k' = ix2 i k' :=
    fun k' => funext fun a => by match a with | ⟨0, _⟩ => rfl | ⟨1, _⟩ => rfl
  simp only [hs, ref_stream]
  unfold hiddenRow normed
  show streamRow x0 x1 x2 x3 x4 x5 i k * Ideal.rsqrt (Ideal.div (Ideal.ofBits .f32 0x00000000#32
    + ∑ k' : Fin 2048, streamRow x0 x1 x2 x3 x4 x5 i k' * streamRow x0 x1 x2 x3 x4 x5 i k') _ + _) * _ = _
  rw [Ideal.ofBits_zero_f32, zero_add]
  rfl

/-! ## The router -/

/-- The router's weights are the layer's. -/
theorem ref_router (k : Fin 2048) (e : Fin 16) : val_main_v65 (F := Ideal) x7 (ix2 k e) = x7 (ix3 0 k e) := by
  rw [val_main_v65_apply, val_main_v64_apply]
  have hk := k.isLt
  have he := e.isLt
  refine congrArg x7 (funext fun a => Fin.ext ?_)
  match a with
  | ⟨0, _⟩ => rfl
  | ⟨1, _⟩ => show (k.val * 16 + e.val) / 16 % 2048 = k.val; omega
  | ⟨2, _⟩ => show (k.val * 16 + e.val) % 16 = e.val; omega

/-- The reference's scores. -/
theorem ref_logit (i : Fin 32768) (e : Fin 16) :
    val_main_v66 (F := Ideal) x0 x1 x2 x3 x4 x5 x6 x7 (ix2 i e) = logit x0 x1 x2 x3 x4 x5 x6 x7 i e := by
  rw [val_main_v66_apply]
  have hl : ∀ k, lidx_main_v66 (ix2 i e) k = ix2 i k := fun k => funext fun a => by match a with | ⟨0, _⟩ => rfl | ⟨1, _⟩ => rfl
  have hr : ∀ k, ridx_main_v66 (ix2 i e) k = ix2 k e := fun k => funext fun a => by match a with | ⟨0, _⟩ => rfl | ⟨1, _⟩ => rfl
  simp only [hl, hr, ref_router, ref_hidden]
  rfl

/-- The experts' axis can be reduced away. -/
theorem reduces : S32768x16.Reduces [1] S32768 := by decide

/-- Minus infinity is where a maximum starts. -/
theorem neutral : (0xFF800000#32 : BitVec 32) = FKind.maximumf.neutral .f32 (.inl rfl) := rfl

/-- The printed minus infinity. -/
theorem ofBits_neg_inf : Ideal.ofBits .f32 0xFF800000#32 = ⊥ := by simp [Ideal.ofBits, Ideal.ieee]

/-- A maximum over the experts, as a fold over them. -/
theorem reduceMax_eq (y : FVec Ideal S32768x16 .f32) (i : S32768.Idx) :
    Host.reduce FloatOps.maximumf y (constant S_ .f32 0xFF800000#32) reducesTo_S32768x16_S32768_d1 h_S_ i
      = (Finset.univ : Finset (Fin 16)).fold max (FloatOps.ofBits (F := Ideal) .f32 0xFF800000#32) (y ∘ reduces.lift i) :=
  (congrFun (hostReduce_maximumf_eq_multiReduction y 0xFF800000#32 reducesTo_S32768x16_S32768_d1 h_S_ reduces
    (.inl rfl) neutral) i).trans (Ideal.multiReduction_maximumf_single y _ reduces (.inl rfl) neutral i)

/-- The largest score of a token. -/
theorem ref_max (i : Fin 32768) :
    val_main_v67 (F := Ideal) x0 x1 x2 x3 x4 x5 x6 x7 (ix1 i) = Finset.univ.sup (logit x0 x1 x2 x3 x4 x5 x6 x7 i) := by
  refine (reduceMax_eq (val_main_v66 (F := Ideal) x0 x1 x2 x3 x4 x5 x6 x7) (ix1 i)).trans ?_
  have hb : FloatOps.ofBits (F := Ideal) .f32 0xFF800000#32 = (⊥ : EReal) := ofBits_neg_inf
  rw [hb]
  show Finset.fold max (⊥ : EReal) _ _ = Finset.fold max ⊥ _ _
  refine Finset.fold_congr fun e _ => ?_
  have ei : reduces.lift (ix1 i) e = ix2 i e := funext fun a => Fin.ext (by match a with | ⟨0, _⟩ => rfl | ⟨1, _⟩ => rfl)
  show val_main_v66 (F := Ideal) x0 x1 x2 x3 x4 x5 x6 x7 (reduces.lift (ix1 i) e) = _
  rw [ei]
  exact ref_logit x0 x1 x2 x3 x4 x5 x6 x7 i e

/-- The weight of an expert before the division. -/
theorem ref_weight_exp (i : Fin 32768) (e : Fin 16) :
    val_main_v73 (F := Ideal) x0 x1 x2 x3 x4 x5 x6 x7 (ix2 i e) = Softmax.weight (logit x0 x1 x2 x3 x4 x5 x6 x7 i) e := by
  have h : val_main_v71 (F := Ideal) x0 x1 x2 x3 x4 x5 x6 x7 (ix2 i e) = Finset.univ.sup (logit x0 x1 x2 x3 x4 x5 x6 x7 i) := by
    rw [val_main_v71_apply, val_main_v70_apply, val_main_v69_apply, val_main_v68_apply]
    show max (Ideal.ofBits .f32 0xFF800000#32) _ = _
    rw [ofBits_neg_inf, max_bot_left]
    refine Eq.trans (congrArg _ ?_) (ref_max x0 x1 x2 x3 x4 x5 x6 x7 i)
    exact funext fun a => by match a with | ⟨0, _⟩ => rfl
  rw [val_main_v73_apply, val_main_v72_apply, h, ref_logit]
  rfl

/-- The sum of a token's weights. -/
theorem ref_total (i : Fin 32768) (e : Fin 16) :
    val_main_v76 (F := Ideal) x0 x1 x2 x3 x4 x5 x6 x7 (ix2 i e) = ∑ k, Softmax.weight (logit x0 x1 x2 x3 x4 x5 x6 x7 i) k := by
  rw [val_main_v76_apply, val_main_v75_apply, val_main_v74_apply]
  have hz : val_main_cst_13 (F := Ideal) (Shape.Idx.first h_S_) = (0 : EReal) := Ideal.ofBits_zero_f32
  rw [hz, zero_add]
  refine Finset.sum_congr rfl fun k _ => ?_
  refine Eq.trans (congrArg _ ?_) (ref_weight_exp x0 x1 x2 x3 x4 x5 x6 x7 i k)
  exact funext fun a => by match a with | ⟨0, _⟩ => rfl | ⟨1, _⟩ => rfl

/-- The reference's affinities. -/
theorem ref_share (i : Fin 32768) (e : Fin 16) :
    val_main_v77 (F := Ideal) x0 x1 x2 x3 x4 x5 x6 x7 (ix2 i e) = share (logit x0 x1 x2 x3 x4 x5 x6 x7 i) e := by
  rw [val_main_v77_apply, ref_weight_exp, ref_total]
  rfl

/-- The reference's affinities, in 128 lanes. -/
theorem ref_aff (i : Fin 32768) (l : Fin 128) :
    val_main_v79 (F := Ideal) x0 x1 x2 x3 x4 x5 x6 x7 (ix2 i l) = shares (logit x0 x1 x2 x3 x4 x5 x6 x7 i) l := by
  unfold val_main_v79 shares
  by_cases hl : l.val < 16
  · rw [dif_pos hl, ← ref_share]
    refine pad_apply_of_inside _ _ _ _ _ _ _ (ix2 i l) (ix2 i ⟨l.val, hl⟩) fun a => ?_
    match a with
    | ⟨0, _⟩ => show i.val = 0 + i.val * (0 + 1); omega
    | ⟨1, _⟩ => show l.val = 0 + l.val * (0 + 1); omega
  · rw [dif_neg hl]
    refine (pad_apply_of_not_inside _ _ _ _ _ _ _ (ix2 i l) 1 ?_).trans ?_
    · rintro ⟨-, -, h⟩
      have h' : (l.val - 0) / (0 + 1) < 16 := h
      omega
    · show FloatOps.sitofp (F := Ideal) .f32 (0#32) = (0 : EReal)
      show ((((0#32 : BitVec 32).toInt : ℝ)) : EReal) = 0
      simp

/-! ## The three results -/

/-- The reference computes the stream, -/
theorem ref_streamArr : val_main_v48 (F := Ideal) x0 x1 x2 x3 x4 x5 = streamArr x0 x1 x2 x3 x4 x5 := funext fun i => by
  rw [eq_ix2 i]; exact ref_stream x0 x1 x2 x3 x4 x5 (i 0) (i 1)

/-- the stream normalised, -/
theorem ref_hiddenArr : val_main_v78 (F := Ideal) x0 x1 x2 x3 x4 x5 x6 = hiddenArr x0 x1 x2 x3 x4 x5 x6 := funext fun i => by
  rw [eq_ix2 i]; exact ref_hidden x0 x1 x2 x3 x4 x5 x6 (i 0) (i 1)

/-- and the affinities. -/
theorem ref_affArr : val_main_v79 (F := Ideal) x0 x1 x2 x3 x4 x5 x6 x7 = affArr x0 x1 x2 x3 x4 x5 x6 x7 := funext fun i => by
  rw [eq_ix2 i]; exact ref_aff x0 x1 x2 x3 x4 x5 x6 x7 (i 0) (i 1)

end Arrays

end Cert.OutProj

end
-- ==== Proof.OutProj.lean ====
/-
  What the output projection and router kernel computes: the stream after the projection, that stream normalised, and the
  experts' affinities, tile by tile.
-/
module

public import proofs.«01_k».proof.Defs
public import proofs.«01_k».proof.Proof.Gen.Kernel4.Frame
public import proofs.«01_k».proof.Proof.Gen.Kernel4Ideal.Value
public import proofs.«01_k».proof.Proof.Gen.Pre_finite4
public import proofs.«01_k».proof.Proof.Na
public import proofs.«01_k».proof.Proof.OutProjReference
public import Idealize.ShloMosaic.Lib.Routing.OpsSet
public import Idealize.ShloMosaic.Lib.ReduceAll

@[expose] public section

set_option maxRecDepth 16384

noncomputable section

namespace Cert.OutProj

open Cert.Kernel4Ideal Cert.Kernel4Ideal.Gen Idealize.ShloMosaic Idealize.ShloMosaic.TcCoe Idealize.SL.Sem
open Idealize.ShloMosaic.ValueIdx
open Idealize.ShloMosaic.Routing (scatter_set_hit resultIdx?_ix2)
open Idealize.ShloMosaic.Pipeline (Dat)
open Cert.Na (IsFinite)
open Cert.RmsNorm (normed)
open Cert.Router (share shares lane)

/-- The mask's literal stands for minus infinity. -/
theorem preserves : Cert.preserves_Kernel4_Kernel4Ideal :=
  IdealRules.named_const.statement Cert.Kernel4Ideal.κ "mask" .f32 0xF149F2CA#32 ⊥ rfl

/-- What the precondition says of the layer's gain and router weights. -/
theorem pre_finite (x0 x1 : S32768x768.Idx → EReal) (x2 : S32768x512.Idx → EReal) (x3 : S32768x2048.Idx → EReal)
    (x4 : S4x2048.Idx → EReal) (x5 : S4x2048x2048.Idx → EReal) (x6 : S4x2048.Idx → EReal) (x7 : S4x2048x16.Idx → EReal)
    (h : Cert.Pre_finite4.fn (F := Ideal) x0 x1 x2 x3 x4 x5 x6 x7 = fun _ => 1#1) :
    (∀ k : Fin 2048, IsFinite (x6 (ix2 0 k))) ∧ ∀ (k : Fin 2048) (e : Fin 16), IsFinite (x7 (ix3 0 k e)) := by
  have hsub : Subsingleton Cert.Pre_finite4.S_.Idx := ⟨fun a b => funext fun i => i.elim0⟩
  have h0 := congrFun h (fun a => a.elim0)
  obtain ⟨h1, h2⟩ := (Cert.Na.andi_eq_one _ _).mp h0
  refine ⟨fun k => ?_, fun k e => ?_⟩
  · have e := Host.reduce_andi_all _ _ _ _ _ h1 (ix2 0 k)
    refine (Cert.Na.finite_of_abs _ e).imp ?_ ?_ <;> intro hx hy <;> refine hx (Eq.trans ?_ hy) <;>
      refine extractStridedSlice_apply _ _ _ _ (ix2 0 k) (fun a => ?_) <;>
      match a with
      | ⟨0, _⟩ => rfl
      | ⟨1, _⟩ => exact (Nat.zero_add _).symm
  · have e := Host.reduce_andi_all _ _ _ _ _ h2 (ix3 0 k e)
    refine (Cert.Na.finite_of_abs _ e).imp ?_ ?_ <;> intro hx hy <;> refine hx (Eq.trans ?_ hy) <;>
      refine extractStridedSlice_apply _ _ _ _ (ix3 0 k _) (fun a => ?_) <;>
      match a with
      | ⟨0, _⟩ => rfl
      | ⟨1, _⟩ => exact (Nat.zero_add _).symm
      | ⟨2, _⟩ => exact (Nat.zero_add _).symm

/-! ## The arrays the kernel reads -/

/-- Writing sixteen columns at column zero leaves each in its lane. -/
theorem scatter_lane (x : S2048x128.Idx → EReal) (idx : IVec S1 32) (u : S2048x16.Idx → EReal) (hidx : ∀ i, idx i = 0#32)
    (k : Fin 2048) (e : Fin 16) :
    Host.scatter scatter_S2048x128_S1_S2048x16_01_n_1_0 (fun _ b => b) x idx u (ix2 k (lane e)) = u (ix2 k e) := by
  have hw0 : ∀ (a : Fin 2048) (b : Fin 16), ScatterDims.window scatter_S2048x128_S1_S2048x16_01_n_1_0 (ix2 a b) 0 = a.val :=
    fun a b => by
      unfold ScatterDims.window
      rw [dif_pos (by decide +revert)]
      rfl
  have hw1 : ∀ (a : Fin 2048) (b : Fin 16), ScatterDims.window scatter_S2048x128_S1_S2048x16_01_n_1_0 (ix2 a b) 1 = b.val :=
    fun a b => by
      unfold ScatterDims.window
      rw [dif_pos (by decide +revert)]
      rfl
  have hs0 : ∀ j, ScatterDims.start scatter_S2048x128_S1_S2048x16_01_n_1_0 j idx 0 = 0 := fun j => by
    unfold ScatterDims.start
    rw [dif_neg (by decide +revert)]
  have hs1 : ∀ j, ScatterDims.start scatter_S2048x128_S1_S2048x16_01_n_1_0 j idx 1 = 0 := fun j => by
    unfold ScatterDims.start
    rw [dif_pos (by decide +revert), hidx]
    rfl
  refine scatter_set_hit _ x idx u (ix2 k (lane e)) _ (fun j hj => ?_) (ix2 k e) ?_
  · obtain ⟨a, b, rfl⟩ : ∃ (a : Fin 2048) (b : Fin 16), j = ix2 a b := ⟨j 0, j 1, eq_ix2 j⟩
    obtain ⟨p, q⟩ := (resultIdx?_ix2 _ _ _ _ _).mp hj
    rw [hs0, hw0] at p
    rw [hs1, hw1] at q
    have hq : (b.val : Int) = e.val := by rw [← Int.zero_add (b.val : Int)]; exact q
    have ha : a = k := Fin.ext (by omega)
    have hb : b = e := Fin.ext (by omega)
    rw [ha, hb]
  · refine (resultIdx?_ix2 _ _ _ _ _).mpr ⟨?_, ?_⟩
    · rw [hs0, hw0]; exact Int.zero_add _
    · rw [hs1, hw1]; exact Int.zero_add _

variable (m : (ℓ : Loc nD τ sig) → Buf (Elt Ideal) ℓ) (ρ : Dev nD → PrngReg)

/-- The gain of the branches is row 0 of the argument, -/
theorem V_main_v14 (c : Dev nD) (k : Fin 2048) :
    V m c main_v14 (ix2 0 k) = m ((c : Thread nD τ).loc main_arg4) (ix2 0 k) := by
  show StableHlo.after hostOps0 _ (Proc.devRef .tc main_v14) (ix2 0 k) = _
  after_results
  show shapeCast S1x2048 (shapeCast S2048 (extractStridedSlice S1x2048 ![0, 0] (m ((c : Thread nD τ).loc main_arg4))
    slices_S4x2048_S1x2048_0_0) shapeCasts_S1x2048_S2048) shapeCasts_S2048_S1x2048 (ix2 0 k) = _
  rw [shapeCast_a_1a_apply, shapeCast_1a_a_apply]
  exact extractStridedSlice_apply _ _ _ _ (ix2 0 k) (fun a => by
    match a with
    | ⟨0, _⟩ => rfl
    | ⟨1, _⟩ => exact (Nat.zero_add _).symm)

/-- and so is the stream's. -/
theorem V_main_v15 (c : Dev nD) (k : Fin 2048) :
    V m c main_v15 (ix2 0 k) = m ((c : Thread nD τ).loc main_arg6) (ix2 0 k) := by
  show StableHlo.after hostOps0 _ (Proc.devRef .tc main_v15) (ix2 0 k) = _
  after_results
  show shapeCast S1x2048 (shapeCast S2048 (extractStridedSlice S1x2048 ![0, 0] (m ((c : Thread nD τ).loc main_arg6))
    slices_S4x2048_S1x2048_0_0) shapeCasts_S1x2048_S2048) shapeCasts_S2048_S1x2048 (ix2 0 k) = _
  rw [shapeCast_a_1a_apply, shapeCast_1a_a_apply]
  exact extractStridedSlice_apply _ _ _ _ (ix2 0 k) (fun a => by
    match a with
    | ⟨0, _⟩ => rfl
    | ⟨1, _⟩ => exact (Nat.zero_add _).symm)

/-- The weights are the argument. -/
theorem V_main_v11 (c : Dev nD) (i : S4x2048x2048.Idx) : V m c main_v11 i = m ((c : Thread nD τ).loc main_arg5) i := by
  show StableHlo.after hostOps0 _ (Proc.devRef .tc main_v11) i = _
  after_results
  rfl

/-- The layer's router weights, as the columns that are written into the lanes. -/
theorem router_apply (w : S4x2048x16.Idx → EReal) (k : Fin 2048) (e : Fin 16) :
    shapeCast S2048x16 (extractStridedSlice S1x2048x16 ![0, 0, 0] w slices_S4x2048x16_S1x2048x16_0_0_0)
      shapeCasts_S1x2048x16_S2048x16 (ix2 k e) = w (ix3 0 k e) := by
  rw [shapeCast_1ab_ab_apply]
  exact extractStridedSlice_apply _ _ _ _ (ix3 0 k e) (fun a => by
    match a with
    | ⟨0, _⟩ => rfl
    | ⟨1, _⟩ => exact (Nat.zero_add _).symm
    | ⟨2, _⟩ => exact (Nat.zero_add _).symm)

/-- The router weights in 128 lanes, an expert's in its own. -/
def lanes (w : S4x2048x16.Idx → EReal) : S2048x128.Idx → EReal :=
  Host.scatter scatter_S2048x128_S1_S2048x16_01_n_1_0 (fun _ b => b)
    (broadcastInDim S2048x128 ![] bcast_S_S2048x128 (constant (F := Ideal) S_ .f32 0#32))
    (broadcastInDim S1 ![] bcast_S_S1 (constantI S_ 32 0#32))
    (shapeCast S2048x16 (extractStridedSlice S1x2048x16 ![0, 0, 0] w slices_S4x2048x16_S1x2048x16_0_0_0)
      shapeCasts_S1x2048x16_S2048x16)

/-- The lane of an expert holds its weights. -/
theorem lanes_apply (w : S4x2048x16.Idx → EReal) (k : Fin 2048) (e : Fin 16) : lanes w (ix2 k (lane e)) = w (ix3 0 k e) := by
  unfold lanes
  refine (scatter_lane _ _ _ (fun _ => ?_) k e).trans (router_apply w k e)
  rfl

/-- The first router array is the weights, -/
theorem V_main_v5 (c : Dev nD) (i : S2048x128.Idx) : V m c main_v5 i = lanes (m ((c : Thread nD τ).loc main_arg7)) i := by
  show StableHlo.after hostOps0 _ (Proc.devRef .tc main_v5) i = _
  after_results
  refine (truncf_apply (φ := .f32) (ψ := .bf16) _ bitsLt_bf16_f32 i).trans ?_
  unfold lanes
  exact congrFun (congrArg (Host.scatter scatter_S2048x128_S1_S2048x16_01_n_1_0 (fun _ b => b) _ _) rfl) i

/-- and the second, the weights less themselves. -/
theorem V_main_v8 (c : Dev nD) (i : S2048x128.Idx) :
    V m c main_v8 i = lanes (m ((c : Thread nD τ).loc main_arg7)) i - lanes (m ((c : Thread nD τ).loc main_arg7)) i := by
  show StableHlo.after hostOps0 _ (Proc.devRef .tc main_v8) i = _
  after_results
  refine (truncf_apply (φ := .f32) (ψ := .bf16) _ bitsLt_bf16_f32 i).trans ?_
  refine (subf_apply _ _ i).trans ?_
  unfold lanes
  refine congrArg₂ (fun a b : EReal => a - b) ?_ ?_
  · exact congrFun (congrArg (Host.scatter scatter_S2048x128_S1_S2048x16_01_n_1_0 (fun _ b => b) _ _) rfl) i
  · refine (extf_apply (φ := .bf16) (ψ := .f32) _ bitsLt_bf16_f32 i).trans ?_
    refine (truncf_apply (φ := .f32) (ψ := .bf16) _ bitsLt_bf16_f32 i).trans ?_
    exact congrFun (congrArg (Host.scatter scatter_S2048x128_S1_S2048x16_01_n_1_0 (fun _ b => b) _ _) rfl) i

/-! ## The blocks of a grid point -/

/-- The index maps of the windows, as numbers. -/
theorem idx_eq : ∀ t : Fin cfg0.N,
    (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = 0 ∧ win0_4.index t 1 = 0)
    ∧ (win0_5.index t 0 = 0 ∧ win0_5.index t 1 = 0 ∧ win0_5.index t 2 = 0)
    ∧ (win0_6.index t 0 = 0 ∧ win0_6.index t 1 = 0) ∧ (win0_7.index t 0 = 0 ∧ win0_7.index t 1 = 0)
    ∧ (win0_8.index t 0 = 0 ∧ win0_8.index t 1 = 0) ∧ (win0_9.index t 0 = t.val ∧ win0_9.index t 1 = 0)
    ∧ (win0_10.index t 0 = t.val ∧ win0_10.index t 1 = 0) ∧ (win0_11.index t 0 = t.val ∧ win0_11.index t 1 = 0) :=
  (by decide +kernel : ∀ t : Fin grid0.N,
    (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = 0 ∧ win0_4.index t 1 = 0)
    ∧ (win0_5.index t 0 = 0 ∧ win0_5.index t 1 = 0 ∧ win0_5.index t 2 = 0)
    ∧ (win0_6.index t 0 = 0 ∧ win0_6.index t 1 = 0) ∧ (win0_7.index t 0 = 0 ∧ win0_7.index t 1 = 0)
    ∧ (win0_8.index t 0 = 0 ∧ win0_8.index t 1 = 0) ∧ (win0_9.index t 0 = t.val ∧ win0_9.index t 1 = 0)
    ∧ (win0_10.index t 0 = t.val ∧ win0_10.index t 1 = 0) ∧ (win0_11.index t 0 = t.val ∧ win0_11.index t 1 = 0))

/-- The token that row `r` of a grid point's blocks holds. -/
def rowOf (t : Fin cfg0.N) (r : Fin 256) : Fin 32768 :=
  ⟨t.val * 256 + r.val, by have h : t.val < cfg0.N := t.isLt; have hN : cfg0.N = 128 := N_0; omega⟩

/-- The first branch's block, -/
theorem blk0 (c : Dev nD) (t : Fin cfg0.N) (r : Fin 256) (k : Fin 768) :
    iblk m c 0 t (ix2 r k) = m ((c : Thread nD τ).loc main_arg0) (ix2 (rowOf t r) k) := by
  show V m c main_arg0 ((win0_0.rect t).emb (ix2 r k)) = _
  rw [V_main_arg0]
  obtain ⟨⟨e0, e1⟩, -⟩ := idx_eq t
  refine congrArg (m ((c : Thread nD τ).loc main_arg0)) (funext fun a => Fin.ext ?_)
  match a with
  | ⟨0, _⟩ => exact (Pipeline.Window.rect_emb_val win0_0 t _ 0).trans (by rw [e0]; rfl)
  | ⟨1, _⟩ => exact Pipeline.Window.rect_emb_val_of_index_zero win0_0 t 1 e1 (ix2 r k)

/-- the second's, -/
theorem blk1 (c : Dev nD) (t : Fin cfg0.N) (r : Fin 256) (k : Fin 768) :
    iblk m c 1 t (ix2 r k) = m ((c : Thread nD τ).loc main_arg1) (ix2 (rowOf t r) k) := by
  show V m c main_arg1 ((win0_1.rect t).emb (ix2 r k)) = _
  rw [V_main_arg1]
  obtain ⟨-, ⟨e0, e1⟩, -⟩ := idx_eq t
  refine congrArg (m ((c : Thread nD τ).loc main_arg1)) (funext fun a => Fin.ext ?_)
  match a with
  | ⟨0, _⟩ => exact (Pipeline.Window.rect_emb_val win0_1 t _ 0).trans (by rw [e0]; rfl)
  | ⟨1, _⟩ => exact Pipeline.Window.rect_emb_val_of_index_zero win0_1 t 1 e1 (ix2 r k)

/-- the third's, -/
theorem blk2 (c : Dev nD) (t : Fin cfg0.N) (r : Fin 256) (k : Fin 512) :
    iblk m c 2 t (ix2 r k) = m ((c : Thread nD τ).loc main_arg2) (ix2 (rowOf t r) k) := by
  show V m c main_arg2 ((win0_2.rect t).emb (ix2 r k)) = _
  rw [V_main_arg2]
  obtain ⟨-, -, ⟨e0, e1⟩, -⟩ := idx_eq t
  refine congrArg (m ((c : Thread nD τ).loc main_arg2)) (funext fun a => Fin.ext ?_)
  match a with
  | ⟨0, _⟩ => exact (Pipeline.Window.rect_emb_val win0_2 t _ 0).trans (by rw [e0]; rfl)
  | ⟨1, _⟩ => exact Pipeline.Window.rect_emb_val_of_index_zero win0_2 t 1 e1 (ix2 r k)

/-- the stream's, -/
theorem blk3 (c : Dev nD) (t : Fin cfg0.N) (r : Fin 256) (k : Fin 2048) :
    iblk m c 3 t (ix2 r k) = m ((c : Thread nD τ).loc main_arg3) (ix2 (rowOf t r) k) := by
  show V m c main_arg3 ((win0_3.rect t).emb (ix2 r k)) = _
  rw [V_main_arg3]
  obtain ⟨-, -, -, ⟨e0, e1⟩, -⟩ := idx_eq t
  refine congrArg (m ((c : Thread nD τ).loc main_arg3)) (funext fun a => Fin.ext ?_)
  match a with
  | ⟨0, _⟩ => exact (Pipeline.Window.rect_emb_val win0_3 t _ 0).trans (by rw [e0]; rfl)
  | ⟨1, _⟩ => exact Pipeline.Window.rect_emb_val_of_index_zero win0_3 t 1 e1 (ix2 r k)

/-- the branches' gain, -/
theorem blk4 (c : Dev nD) (t : Fin cfg0.N) (k : Fin 2048) :
    iblk m c 4 t (ix2 0 k) = m ((c : Thread nD τ).loc main_arg4) (ix2 0 k) := by
  show V m c main_v14 ((win0_4.rect t).emb (ix2 0 k)) = _
  obtain ⟨-, -, -, -, ⟨e0, e1⟩, -⟩ := idx_eq t
  refine Eq.trans ?_ (V_main_v14 m c k)
  refine congrArg (V m c main_v14) (funext fun a => Fin.ext ?_)
  match a with
  | ⟨0, _⟩ => exact Pipeline.Window.rect_emb_val_of_index_zero win0_4 t 0 e0 (ix2 0 k)
  | ⟨1, _⟩ => exact Pipeline.Window.rect_emb_val_of_index_zero win0_4 t 1 e1 (ix2 0 k)

/-- the weights, -/
theorem blk5 (c : Dev nD) (t : Fin cfg0.N) (k n : Fin 2048) :
    iblk m c 5 t (ix3 0 k n) = m ((c : Thread nD τ).loc main_arg5) (ix3 0 k n) := by
  show V m c main_v11 ((win0_5.rect t).emb (ix3 0 k n)) = _
  rw [V_main_v11]
  obtain ⟨-, -, -, -, -, ⟨e0, e1, e2⟩, -⟩ := idx_eq t
  refine congrArg (m ((c : Thread nD τ).loc main_arg5)) (funext fun a => Fin.ext ?_)
  match a with
  | ⟨0, _⟩ => exact Pipeline.Window.rect_emb_val_of_index_zero win0_5 t 0 e0 (ix3 0 k n)
  | ⟨1, _⟩ => exact Pipeline.Window.rect_emb_val_of_index_zero win0_5 t 1 e1 (ix3 0 k n)
  | ⟨2, _⟩ => exact Pipeline.Window.rect_emb_val_of_index_zero win0_5 t 2 e2 (ix3 0 k n)

/-- the stream's gain, -/
theorem blk6 (c : Dev nD) (t : Fin cfg0.N) (k : Fin 2048) :
    iblk m c 6 t (ix2 0 k) = m ((c : Thread nD τ).loc main_arg6) (ix2 0 k) := by
  show V m c main_v15 ((win0_6.rect t).emb (ix2 0 k)) = _
  obtain ⟨-, -, -, -, -, -, ⟨e0, e1⟩, -⟩ := idx_eq t
  refine Eq.trans ?_ (V_main_v15 m c k)
  refine congrArg (V m c main_v15) (funext fun a => Fin.ext ?_)
  match a with
  | ⟨0, _⟩ => exact Pipeline.Window.rect_emb_val_of_index_zero win0_6 t 0 e0 (ix2 0 k)
  | ⟨1, _⟩ => exact Pipeline.Window.rect_emb_val_of_index_zero win0_6 t 1 e1 (ix2 0 k)

/-- A router weight of the layer. -/
def wOf (c : Dev nD) (k : Fin 2048) (e : Fin 16) : EReal := m ((c : Thread nD τ).loc main_arg7) (ix3 0 k e)

/-- The blocks of the two router arrays. -/
theorem blk7 (c : Dev nD) (t : Fin cfg0.N) (k : Fin 2048) (e : Fin 16) :
    iblk m c 7 t (ix2 k (lane e)) = wOf m c k e := by
  show V m c main_v5 ((win0_7.rect t).emb (ix2 k (lane e))) = _
  obtain ⟨-, -, -, -, -, -, -, ⟨e0, e1⟩, -⟩ := idx_eq t
  refine Eq.trans ?_ ((V_main_v5 m c (ix2 k (lane e))).trans (lanes_apply _ k e))
  refine congrArg (V m c main_v5) (funext fun a => Fin.ext ?_)
  match a with
  | ⟨0, _⟩ => exact Pipeline.Window.rect_emb_val_of_index_zero win0_7 t 0 e0 (ix2 k (lane e))
  | ⟨1, _⟩ => exact Pipeline.Window.rect_emb_val_of_index_zero win0_7 t 1 e1 (ix2 k (lane e))

theorem blk8 (c : Dev nD) (t : Fin cfg0.N) (k : Fin 2048) (e : Fin 16) :
    iblk m c 8 t (ix2 k (lane e)) = wOf m c k e - wOf m c k e := by
  show V m c main_v8 ((win0_8.rect t).emb (ix2 k (lane e))) = _
  obtain ⟨-, -, -, -, -, -, -, -, ⟨e0, e1⟩, -⟩ := idx_eq t
  refine Eq.trans ?_ ((V_main_v8 m c (ix2 k (lane e))).trans (congrArg₂ (fun a b : EReal => a - b) (lanes_apply _ k e) (lanes_apply _ k e)))
  refine congrArg (V m c main_v8) (funext fun a => Fin.ext ?_)
  match a with
  | ⟨0, _⟩ => exact Pipeline.Window.rect_emb_val_of_index_zero win0_8 t 0 e0 (ix2 k (lane e))
  | ⟨1, _⟩ => exact Pipeline.Window.rect_emb_val_of_index_zero win0_8 t 1 e1 (ix2 k (lane e))

/-! ## What a grid point computes -/

/-- The stream the kernel leaves on a device, from its arguments, -/
def streamOf (c : Dev nD) : S32768x2048.Idx → EReal :=
  streamArr (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
/-- the stream normalised, -/
def hiddenOf (c : Dev nD) : S32768x2048.Idx → EReal :=
  hiddenArr (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))
/-- and the affinities. -/
def affOf (c : Dev nD) : S32768x128.Idx → EReal :=
  affArr (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- Equal rows, gains and columns give equal channels. -/
theorem outRow_congr {a a' b b' : Fin 768 → EReal} {c c' : Fin 512 → EReal} {g g' w w' : Fin 2048 → EReal} {x x' : EReal}
    (ha : ∀ k, a k = a' k) (hb : ∀ k, b k = b' k) (hc : ∀ k, c k = c' k) (hg : ∀ k, g k = g' k) (hw : ∀ k, w k = w' k)
    (hx : x = x') : outRow a b c g w x = outRow a' b' c' g' w' x' := by
  rw [funext ha, funext hb, funext hc, funext hg, funext hw, hx]

/-- A row of the stream's block is its token's, -/
theorem stream_eq (c : Dev nD) (t : Fin cfg0.N) (r : Fin 256) (n : Fin 2048) :
    stream (iblk m c 0 t) (iblk m c 1 t) (iblk m c 2 t) (iblk m c 3 t) (iblk m c 4 t) (iblk m c 5 t) r n
      = streamOf m c (ix2 (rowOf t r) n) := by
  unfold stream streamOf streamArr streamRow
  exact outRow_congr (fun k => blk0 m c t r k) (fun k => blk1 m c t r k) (fun k => blk2 m c t r k) (fun k => blk4 m c t k)
    (fun k => blk5 m c t k n) (blk3 m c t r n)

/-- The normalised stream, from the stream. -/
theorem hiddenOf_eq (c : Dev nD) (i : Fin 32768) (k : Fin 2048) :
    hiddenOf m c (ix2 i k) = normed len2048 eps (fun n => streamOf m c (ix2 i n))
      (fun k => m ((c : Thread nD τ).loc main_arg6) (ix2 0 k)) k := rfl

/-- and so is a row of the normalised block. -/
theorem hidden_eq (c : Dev nD) (t : Fin cfg0.N) (r : Fin 256) (k : Fin 2048) :
    hidden (iblk m c 0 t) (iblk m c 1 t) (iblk m c 2 t) (iblk m c 3 t) (iblk m c 4 t) (iblk m c 5 t) (iblk m c 6 t) r k
      = hiddenOf m c (ix2 (rowOf t r) k) := by
  rw [hiddenOf_eq]
  unfold hidden
  exact congrArg₂ (fun v g => normed len2048 eps v g k) (funext fun n => stream_eq m c t r n) (funext fun k => blk6 m c t k)

/-- The row length is positive, -/
theorem len_pos : len2048 = ((2048 : ℝ) : EReal) := by
  simp [Ideal.ofBits, Ideal.ieee, -EReal.coe_mul]; norm_num

/-- and so is the number added to the mean of the squares. -/
theorem eps_pos : ∃ e : ℝ, eps = (e : EReal) ∧ 0 < e := by
  refine ⟨8796093 * (2 : ℝ) ^ (-43 : ℤ), ?_, by positivity⟩
  simp [Ideal.ofBits, Ideal.ieee]

/-- The masked softmax of a row with finite entries and finite router weights is the affinities: the differences of a number
    from itself, that the kernel adds, are zero. -/
theorem share_lanes (h : Fin 2048 → EReal) (u v : Fin 2048 → Fin 128 → EReal) (w : Fin 2048 → Fin 16 → EReal)
    (hh : ∀ k, IsFinite (h k)) (hw : ∀ k e, IsFinite (w k e)) (hu : ∀ k e, u k (lane e) = w k e)
    (hv : ∀ k e, v k (lane e) = w k e - w k e) (l : Fin 128) :
    share (laneScore h u v) l = shares (fun e => ∑ k, h k * w k e) l := by
  refine Cert.Router.share_masked _ (fun e => IsFinite.sum _ _ fun k => (hh k).mul (hw k e)) _ (fun e => ?_) (fun l hl => if_neg hl) l
  rw [if_pos (show (lane e).val < 16 from e.isLt)]
  have h2 : ∑ k, h k * v k (lane e) = 0 := Finset.sum_eq_zero fun k _ => by
    rw [hv, Cert.Router.sub_self_finite (hw k e), mul_zero]
  have h3 : ∑ k, (h k - h k) * u k (lane e) = 0 := Finset.sum_eq_zero fun k _ => by
    rw [Cert.Router.sub_self_finite (hh k), zero_mul]
  rw [h2, h3, add_zero, add_zero]
  exact Finset.sum_congr rfl fun k _ => by rw [hu]

/-- The masked softmax of a row of the block is the token's affinities. -/
theorem aff_eq (c : Dev nD) (t : Fin cfg0.N) (r : Fin 256) (l : Fin 128)
    (hg : ∀ k : Fin 2048, IsFinite (m ((c : Thread nD τ).loc main_arg6) (ix2 0 k)))
    (hw : ∀ (k : Fin 2048) (e : Fin 16), IsFinite (m ((c : Thread nD τ).loc main_arg7) (ix3 0 k e))) :
    share (laneScore (hidden (iblk m c 0 t) (iblk m c 1 t) (iblk m c 2 t) (iblk m c 3 t) (iblk m c 4 t) (iblk m c 5 t)
        (iblk m c 6 t) r) (fun k l => iblk m c 7 t (ix2 k l)) (fun k l => iblk m c 8 t (ix2 k l))) l
      = affOf m c (ix2 (rowOf t r) l) := by
  obtain ⟨e', he, he'⟩ := eps_pos
  have hh : ∀ k, IsFinite (hiddenOf m c (ix2 (rowOf t r) k)) := fun k => by
    rw [hiddenOf_eq]
    exact Cert.Router.normed_finite len_pos (by norm_num) he he' _ _ k (hg k)
  refine (congrArg (fun f => share (laneScore f _ _) l) (funext fun k => hidden_eq m c t r k)).trans ?_
  refine (share_lanes _ _ _ (wOf m c) hh hw (fun k e => ?_) (fun k e => ?_) l).trans ?_
  · exact blk7 m c t k e
  · exact blk8 m c t k e
  · rfl

/-- Where an element of a grid point's tile of the stream lies, -/
theorem emb9 (t : Fin cfg0.N) (r : Fin 256) (n : Fin 2048) : (win0_9.rect t).emb (ix2 r n) = ix2 (rowOf t r) n := by
  obtain ⟨-, -, -, -, -, -, -, -, -, ⟨e0, e1⟩, -⟩ := idx_eq t
  refine funext fun a => Fin.ext ?_
  match a with
  | ⟨0, _⟩ => exact (Pipeline.Window.rect_emb_val win0_9 t _ 0).trans (by rw [e0]; rfl)
  | ⟨1, _⟩ => exact Pipeline.Window.rect_emb_val_of_index_zero win0_9 t 1 e1 (ix2 r n)

/-- of the normalised stream, -/
theorem emb10 (t : Fin cfg0.N) (r : Fin 256) (n : Fin 2048) : (win0_10.rect t).emb (ix2 r n) = ix2 (rowOf t r) n := by
  obtain ⟨-, -, -, -, -, -, -, -, -, -, ⟨e0, e1⟩, -⟩ := idx_eq t
  refine funext fun a => Fin.ext ?_
  match a with
  | ⟨0, _⟩ => exact (Pipeline.Window.rect_emb_val win0_10 t _ 0).trans (by rw [e0]; rfl)
  | ⟨1, _⟩ => exact Pipeline.Window.rect_emb_val_of_index_zero win0_10 t 1 e1 (ix2 r n)

/-- and of the affinities. -/
theorem emb11 (t : Fin cfg0.N) (r : Fin 256) (l : Fin 128) : (win0_11.rect t).emb (ix2 r l) = ix2 (rowOf t r) l := by
  obtain ⟨-, -, -, -, -, -, -, -, -, -, -, ⟨e0, e1⟩⟩ := idx_eq t
  refine funext fun a => Fin.ext ?_
  match a with
  | ⟨0, _⟩ => exact (Pipeline.Window.rect_emb_val win0_11 t _ 0).trans (by rw [e0]; rfl)
  | ⟨1, _⟩ => exact Pipeline.Window.rect_emb_val_of_index_zero win0_11 t 1 e1 (ix2 r l)

/-- Every grid point writes its rows of the stream, -/
theorem flushed9_eq (c : Dev nD) (t : Fin cfg0.N) :
    (dats m 0 c).flushed 9 t = ((cfg0.win 9).blk t).view.read (Elt Ideal) (streamOf m c) := by
  rw [Value.flushed9]
  funext y
  obtain ⟨r, n, rfl⟩ : ∃ (r : Fin 256) (n : Fin 2048), y = ix2 r n := ⟨y 0, y 1, eq_ix2 y⟩
  refine (out9_apply _ _ _ _ _ _ _ _ _ r n).trans ((stream_eq m c t r n).trans ?_)
  exact congrArg (streamOf m c) (emb9 t r n).symm

/-- of the normalised stream, -/
theorem flushed10_eq (c : Dev nD) (t : Fin cfg0.N) :
    (dats m 0 c).flushed 10 t = ((cfg0.win 10).blk t).view.read (Elt Ideal) (hiddenOf m c) := by
  rw [Value.flushed10]
  funext y
  obtain ⟨r, n, rfl⟩ : ∃ (r : Fin 256) (n : Fin 2048), y = ix2 r n := ⟨y 0, y 1, eq_ix2 y⟩
  refine (out10_apply _ _ _ _ _ _ _ _ _ r n).trans ((hidden_eq m c t r n).trans ?_)
  exact congrArg (hiddenOf m c) (emb10 t r n).symm

/-- and of the affinities. -/
theorem flushed11_eq (c : Dev nD) (t : Fin cfg0.N)
    (hg : ∀ k : Fin 2048, IsFinite (m ((c : Thread nD τ).loc main_arg6) (ix2 0 k)))
    (hw : ∀ (k : Fin 2048) (e : Fin 16), IsFinite (m ((c : Thread nD τ).loc main_arg7) (ix3 0 k e))) :
    (dats m 0 c).flushed 11 t = ((cfg0.win 11).blk t).view.read (Elt Ideal) (affOf m c) := by
  rw [Value.flushed11]
  funext y
  obtain ⟨r, l, rfl⟩ : ∃ (r : Fin 256) (l : Fin 128), y = ix2 r l := ⟨y 0, y 1, eq_ix2 y⟩
  refine (out11_apply _ _ _ _ _ _ _ _ _ r l).trans ((aff_eq m c t r l hg hw).trans ?_)
  exact congrArg (affOf m c) (emb11 t r l).symm

/-! ## The tiles fill the results -/

/-- The stream's, -/
theorem cover9 (i : S32768x2048.Idx) : ∃ t : Fin cfg0.N, (cfg0.win 9).flush t = true ∧ i ∈ ((cfg0.win 9).blk t).view.set := by
  have h0 : (i 0).val < 32768 := (i 0).isLt
  have h1 : (i 1).val < 2048 := (i 1).isLt
  have hN : cfg0.N = 128 := N_0
  let t : Fin cfg0.N := ⟨(i 0).val / 256, by omega⟩
  have ht : t.val = (i 0).val / 256 := rfl
  obtain ⟨-, -, -, -, -, -, -, -, -, ⟨e0, e1⟩, -⟩ := idx_eq t
  refine ⟨t, flush0_9 t, ?_⟩
  show i ∈ ((View.whole main_v16_0).slice (win0_9.rect t)).set
  rw [View.set_slice_whole, Rect.mem_set_unit]
  intro a
  match a with
  | ⟨0, _⟩ =>
    show win0_9.index t 0 * 256 ≤ (i 0).val ∧ (i 0).val < win0_9.index t 0 * 256 + 256
    rw [e0]; omega
  | ⟨1, _⟩ =>
    show win0_9.index t 1 * 2048 ≤ (i 1).val ∧ (i 1).val < win0_9.index t 1 * 2048 + 2048
    rw [e1]; omega

/-- the normalised stream's, -/
theorem cover10 (i : S32768x2048.Idx) : ∃ t : Fin cfg0.N, (cfg0.win 10).flush t = true ∧ i ∈ ((cfg0.win 10).blk t).view.set := by
  have h0 : (i 0).val < 32768 := (i 0).isLt
  have h1 : (i 1).val < 2048 := (i 1).isLt
  have hN : cfg0.N = 128 := N_0
  let t : Fin cfg0.N := ⟨(i 0).val / 256, by omega⟩
  have ht : t.val = (i 0).val / 256 := rfl
  obtain ⟨-, -, -, -, -, -, -, -, -, -, ⟨e0, e1⟩, -⟩ := idx_eq t
  refine ⟨t, flush0_10 t, ?_⟩
  show i ∈ ((View.whole main_v16_1).slice (win0_10.rect t)).set
  rw [View.set_slice_whole, Rect.mem_set_unit]
  intro a
  match a with
  | ⟨0, _⟩ =>
    show win0_10.index t 0 * 256 ≤ (i 0).val ∧ (i 0).val < win0_10.index t 0 * 256 + 256
    rw [e0]; omega
  | ⟨1, _⟩ =>
    show win0_10.index t 1 * 2048 ≤ (i 1).val ∧ (i 1).val < win0_10.index t 1 * 2048 + 2048
    rw [e1]; omega

/-- and the affinities'. -/
theorem cover11 (i : S32768x128.Idx) : ∃ t : Fin cfg0.N, (cfg0.win 11).flush t = true ∧ i ∈ ((cfg0.win 11).blk t).view.set := by
  have h0 : (i 0).val < 32768 := (i 0).isLt
  have h1 : (i 1).val < 128 := (i 1).isLt
  have hN : cfg0.N = 128 := N_0
  let t : Fin cfg0.N := ⟨(i 0).val / 256, by omega⟩
  have ht : t.val = (i 0).val / 256 := rfl
  obtain ⟨-, -, -, -, -, -, -, -, -, -, -, ⟨e0, e1⟩⟩ := idx_eq t
  refine ⟨t, flush0_11 t, ?_⟩
  show i ∈ ((View.whole main_v16_2).slice (win0_11.rect t)).set
  rw [View.set_slice_whole, Rect.mem_set_unit]
  intro a
  match a with
  | ⟨0, _⟩ =>
    show win0_11.index t 0 * 256 ≤ (i 0).val ∧ (i 0).val < win0_11.index t 0 * 256 + 256
    rw [e0]; omega
  | ⟨1, _⟩ =>
    show win0_11.index t 1 * 128 ≤ (i 1).val ∧ (i 1).val < win0_11.index t 1 * 128 + 128
    rw [e1]; omega

/-- The output projection and router kernel computes the three arrays the reference computes, from finite gains and router
    weights. -/
theorem algebraic : Cert.algebraic_Kernel4Ideal_Reference4Ideal_pre_finite4 := by
  intro m ρ m' ρ' hpre hag
  refine ⟨fun c => streamOf m c, fun c => hiddenOf m c, fun c => affOf m c,
    (θ_run _ _ _).mono (fun r h c => ⟨(h c).1.trans ?_, (h c).2.1.trans ?_, (h c).2.2.1.trans ?_, (h c).2.2.2⟩) (Value.run_blocks m ρ),
    (θ_run _ _ _).mono (fun r h c => ⟨(h c).1.trans ?_, (h c).2.1.trans ?_, (h c).2.2.1.trans ?_, (h c).2.2.2⟩)
      (Cert.Reference4Ideal.Value.run m' ρ')⟩
  · exact (dats m 0 c).arrAt_eq_of_cover 9 _ (fun t _ => flushed9_eq m c t) cover9
  · exact (dats m 0 c).arrAt_eq_of_cover 10 _ (fun t _ => flushed10_eq m c t) cover10
  · obtain ⟨hg, hw⟩ := pre_finite _ _ _ _ _ _ _ _ (hpre c)
    exact (dats m 0 c).arrAt_eq_of_cover 11 _ (fun t _ => flushed11_eq m c t hg hw) cover11
  · obtain ⟨a0, a1, a2, a3, a4, a5, a6, a7⟩ := hag c
    rw [a0, a1, a2, a3, a4, a5]
    exact (Cert.Reference4Ideal.Read.val_main_v48_eq _ _ _ _ _ _).trans (ref_streamArr _ _ _ _ _ _)
  · obtain ⟨a0, a1, a2, a3, a4, a5, a6, a7⟩ := hag c
    refine (Cert.Reference4Ideal.Read.val_main_v78_eq m' c).trans ?_
    rw [a0, a1, a2, a3, a4, a5, a6]
    exact ref_hiddenArr _ _ _ _ _ _ _
  · obtain ⟨a0, a1, a2, a3, a4, a5, a6, a7⟩ := hag c
    refine (Cert.Reference4Ideal.Read.val_main_v79_eq m' c).trans ?_
    rw [a0, a1, a2, a3, a4, a5, a6, a7]
    exact ref_affArr _ _ _ _ _ _ _ _

end Cert.OutProj

end
-- ==== Proof.FinalNorm.lean ====
/-
  What the final normalisation kernels compute: every row of the last stream divided by its root mean square and scaled.
-/
module

public import proofs.«01_k».proof.Defs
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.RmsNorm
public import Idealize.ShloMosaic.Lib.Pipeline.Value
public import Idealize.ShloMosaic.Lib.ValueIdx
public import Idealize.ShloMosaic.Lib.ValueLayout
public import Idealize.ShloMosaic.Lib.ValueLayoutCasts

@[expose] public section

set_option maxRecDepth 16384

noncomputable section

namespace Cert.FinalNormPrompt

open Cert.Kernel5Ideal Cert.Kernel5Ideal.Gen Idealize.ShloMosaic Idealize.ShloMosaic.TcCoe Idealize.SL.Sem
open Idealize.ShloMosaic.ValueIdx
open Idealize.ShloMosaic.Pipeline (Dat)
open Cert.RmsNorm (normed)

/-- The row length, as the programs print it. -/
abbrev len : EReal := Ideal.ofBits .f32 0x45000000#32
/-- The number added to the mean of the squares. -/
abbrev eps : EReal := Ideal.ofBits .f32 0x358637BD#32

variable (m : (ℓ : Loc nD τ sig) → Buf (Elt Ideal) ℓ) (ρ : Dev nD → PrngReg)

/-- The prompt stream's rows, sequence after sequence. -/
def rows (x : S16x2048x2048.Idx → EReal) : S32768x2048.Idx → EReal := shapeCast S32768x2048 x shapeCasts_S16x2048x2048_S32768x2048

/-- Row `i` of the stream is token `i % 2048` of sequence `i / 2048`. -/
theorem rows_apply (x : S16x2048x2048.Idx → EReal) (i : Fin 32768) (k : Fin 2048) (p : S16x2048x2048.Idx)
    (h0 : (p 0).val = i.val / 2048) (h1 : (p 1).val = i.val % 2048) (h2 : (p 2).val = k.val) : rows x (ix2 i k) = x p := by
  unfold rows
  refine shapeCast_apply x _ _ p ?_
  rw [Shape.rowMajor_val_three, Shape.rowMajor_val_two]
  show ((p 0).val * 2048 + (p 1).val) * 2048 + (p 2).val = i.val * 2048 + k.val
  rw [h0, h1, h2]; omega

/-- The stream the kernel reads. -/
theorem V_main_v0 (c : Dev nD) (i : S32768x2048.Idx) : V m c main_v0 i = rows (m ((c : Thread nD τ).loc main_arg0)) i := by
  show StableHlo.after hostOps0 _ (Proc.devRef .tc main_v0) i = _
  after_results
  rfl

/-- The gain the kernel reads is the argument. -/
theorem V_main_v1 (c : Dev nD) (k : Fin 2048) : V m c main_v1 (ix2 0 k) = m ((c : Thread nD τ).loc main_arg1) (ix1 k) := by
  show StableHlo.after hostOps0 _ (Proc.devRef .tc main_v1) (ix2 0 k) = _
  after_results
  show shapeCast S1x2048 (m ((c : Thread nD τ).loc main_arg1)) shapeCasts_S2048_S1x2048 (ix2 0 k) = _
  exact shapeCast_a_1a_apply _ _ _ k

/-- The whole array the normalisation leaves. -/
def result (x : S16x2048x2048.Idx → EReal) (g : S2048.Idx → EReal) : S32768x2048.Idx → EReal :=
  fun i => normed len eps (fun k => rows x (ix2 (i 0) k)) (fun k => g (ix1 k)) (i 1)

/-- The reference computes that array. -/
theorem reference_eq (x : S16x2048x2048.Idx → EReal) (g : S2048.Idx → EReal) :
    Cert.Reference5Ideal.Read.val_main_v13 (F := Ideal) x g = result x g := by
  funext i
  unfold result normed
  have h0 : (i 0).val < 32768 := (i 0).isLt
  have h1 : (i 1).val < 2048 := (i 1).isLt
  open Cert.Reference5Ideal.Read in
  simp only [val_main_v13_apply, val_main_v12_apply, val_main_v11_apply, val_main_v10_apply, val_main_v9_apply, val_main_v8_apply,
    val_main_v7_apply, val_main_v6_apply, val_main_v5_apply, val_main_v4_apply, val_main_v3_apply, val_main_v2_apply,
    val_main_v1_apply, val_main_v0_apply]
  have hx : ∀ k : Fin 2048, rows x (ix2 (i 0) k) = x (Cert.Reference5Ideal.Read.idx_main_v1 (Cert.Reference5Ideal.Read.idx_main_v2
      (Cert.Reference5Ideal.Read.idx_main_v8 (Cert.Reference5Ideal.Read.idx_main_v13 i))) k) := fun k =>
    rows_apply x (i 0) k _ (by show ((i 0).val * 2048 + (i 1).val) / 4194304 = (i 0).val / 2048; omega) (by show ((i 0).val * 2048 + (i 1).val) / 2048 % 2048 = (i 0).val % 2048; omega) rfl
  have hi : rows x (ix2 (i 0) (i 1)) = x (Cert.Reference5Ideal.Read.idx_main_v13 i) :=
    rows_apply x (i 0) (i 1) _ (by show ((i 0).val * 2048 + (i 1).val) / 4194304 = (i 0).val / 2048; omega) (by show ((i 0).val * 2048 + (i 1).val) / 2048 % 2048 = (i 0).val % 2048; omega) (by show ((i 0).val * 2048 + (i 1).val) % 2048 = (i 1).val; omega)
  have hg : Cert.Reference5Ideal.Read.idx_main_v10 (Cert.Reference5Ideal.Read.idx_main_v11
      (Cert.Reference5Ideal.Read.idx_main_v13 i)) = ix1 (i 1) :=
    funext fun a => by match a with | ⟨0, _⟩ => exact Fin.ext (by show ((i 0).val * 2048 + (i 1).val) % 2048 = (i 1).val; omega)
  simp only [← hx]
  rw [← hi, hg]
  show rows x (ix2 (i 0) (i 1)) * Ideal.rsqrt (Ideal.div (Ideal.ofBits .f32 0x00000000#32
    + ∑ k : Fin 2048, rows x (ix2 (i 0) k) * rows x (ix2 (i 0) k)) _ + _) * _ = _
  rw [Ideal.ofBits_zero_f32, zero_add]
  rfl

/-- The index maps of the three windows, as numbers. -/
theorem idx_eq : ∀ t : Fin cfg0.N,
    win0_0.index t 0 = t.val ∧ win0_0.index t 1 = 0 ∧ win0_1.index t 0 = 0 ∧ win0_1.index t 1 = 0
    ∧ win0_2.index t 0 = t.val ∧ win0_2.index t 1 = 0 :=
  (by decide +kernel : ∀ t : Fin grid0.N,
    win0_0.index t 0 = t.val ∧ win0_0.index t 1 = 0 ∧ win0_1.index t 0 = 0 ∧ win0_1.index t 1 = 0
    ∧ win0_2.index t 0 = t.val ∧ win0_2.index t 1 = 0)

/-- The zero offsets of a matrix. -/
theorem hz2 : (![0, 0] : Fin 2 → Nat) = fun _ => 0 := funext fun a => by fin_cases a <;> rfl

/-- What the kernel body computes from its two loaded blocks, at row `r` and column `k`. -/
theorem pay_apply (x : Vec Ideal S1024x2048 .f32) (g : Vec Ideal S1x2048 .f32) (r : Fin 1024) (k : Fin 2048) :
    k0_pay1 x g (ix2 r k) = normed len eps (fun k => x (ix2 r k)) (fun k => g (ix2 0 k)) k := by
  unfold k0_pay1
  rw [shapeCast_self, shapeCast_self]
  exact Cert.RmsNorm.block_apply x g len eps _ _ _ _ _ _ r k

/-- Every grid point writes its rows of the result. -/
theorem flushed_eq (c : Dev nD) (t : Fin cfg0.N) :
    (dats m 0 c).flushed 2 t = ((cfg0.win 2).blk t).view.read (Elt Ideal)
      (result (m ((c : Thread nD τ).loc main_arg0)) (m ((c : Thread nD τ).loc main_arg1))) := by
  rw [Value.flushed2]
  unfold out0_2
  rw [View.canon_unit_zero hz2, View.ld_unit_zero hz2, View.ld_unit_zero hz2]
  funext y
  obtain ⟨e0, e1, e2, e3, e4, e5⟩ := idx_eq t
  obtain ⟨r, n, rfl⟩ : ∃ (r : Fin 1024) (n : Fin 2048), y = ix2 r n := ⟨y 0, y 1, eq_ix2 y⟩
  show k0_pay1 (iblk m c 0 t) (iblk m c 1 t) (ix2 r n) = result _ _ ((win0_2.rect t).emb (ix2 r n))
  rw [pay_apply]
  unfold result
  congr 1
  · funext k
    show V m c main_v0 ((win0_0.rect t).emb (ix2 r k)) = _
    rw [V_main_v0]
    refine congrArg (rows (m ((c : Thread nD τ).loc main_arg0))) (funext fun a => Fin.ext ?_)
    match a with
    | ⟨0, _⟩ => exact (Pipeline.Window.rect_emb_val win0_0 t _ 0).trans (by
        rw [e0]; refine Eq.trans ?_ (Pipeline.Window.rect_emb_val win0_2 t _ 0).symm; rw [e4]; rfl)
    | ⟨1, _⟩ => exact Pipeline.Window.rect_emb_val_of_index_zero win0_0 t 1 e1 (ix2 r k)
  · funext k
    show V m c main_v1 ((win0_1.rect t).emb (ix2 0 k)) = _
    refine Eq.trans ?_ (V_main_v1 m c k)
    refine congrArg (V m c main_v1) (funext fun a => Fin.ext ?_)
    match a with
    | ⟨0, _⟩ => exact Pipeline.Window.rect_emb_val_of_index_zero win0_1 t 0 e2 (ix2 0 k)
    | ⟨1, _⟩ => exact Pipeline.Window.rect_emb_val_of_index_zero win0_1 t 1 e3 (ix2 0 k)
  · exact Fin.ext (Pipeline.Window.rect_emb_val_of_index_zero win0_2 t 1 e5 (ix2 r n)).symm

/-- An index of the result is in point `t`'s tile when its row is in the tile's range. -/
theorem mem_blk (t : Fin cfg0.N) (i : S32768x2048.Idx) (h0 : (i 0).val / 1024 = t.val) : i ∈ ((cfg0.win 2).blk t).view.set := by
  show i ∈ ((View.whole main_v2).slice (win0_2.rect t)).set
  rw [View.set_slice_whole, Rect.mem_set_unit]
  obtain ⟨-, -, -, -, e4, e5⟩ := idx_eq t
  intro a
  match a with
  | ⟨0, _⟩ =>
    show win0_2.index t 0 * 1024 ≤ (i 0).val ∧ (i 0).val < win0_2.index t 0 * 1024 + 1024
    rw [e4]; omega
  | ⟨1, _⟩ =>
    have h1 : (i 1).val < 2048 := (i 1).isLt
    show win0_2.index t 1 * 2048 ≤ (i 1).val ∧ (i 1).val < win0_2.index t 1 * 2048 + 2048
    rw [e5]; omega

/-- The tiles fill the result. -/
theorem cover (i : S32768x2048.Idx) : ∃ t : Fin cfg0.N, (cfg0.win 2).flush t = true ∧ i ∈ ((cfg0.win 2).blk t).view.set := by
  have h0 : (i 0).val < 32768 := (i 0).isLt
  have hN : cfg0.N = 32 := N_0
  exact ⟨⟨(i 0).val / 1024, by omega⟩, flush0_2 _, mem_blk _ i rfl⟩

/-- The final normalisation of the prompt computes the array the reference computes, on every input. -/
theorem algebraic : Cert.algebraic_Kernel5Ideal_Reference5Ideal := by
  intro m ρ m' ρ' _ hag
  refine ⟨fun c => result (m ((c : Thread nD τ).loc main_arg0)) (m ((c : Thread nD τ).loc main_arg1)),
    (θ_run _ _ _).mono (fun r h c => ⟨(h c).1.trans ?_, (h c).2⟩) (Value.run_blocks m ρ),
    (θ_run _ _ _).mono (fun r h c => ⟨(h c).1.trans ?_, (h c).2⟩) (Cert.Reference5Ideal.Value.run m' ρ')⟩
  · exact (dats m 0 c).arrAt_eq_of_cover 2 _ (fun t _ => flushed_eq m c t) cover
  · rw [(hag c).1, (hag c).2]
    exact (Cert.Reference5Ideal.Read.val_main_v13_eq _ _).trans (reference_eq _ _)

end Cert.FinalNormPrompt

namespace Cert.FinalNormSample

open Cert.Kernel6Ideal Cert.Kernel6Ideal.Gen Idealize.ShloMosaic Idealize.ShloMosaic.TcCoe Idealize.SL.Sem
open Idealize.ShloMosaic.ValueIdx
open Idealize.ShloMosaic.Pipeline (Dat)
open Cert.RmsNorm (normed)

/-- The row length, as the programs print it. -/
abbrev len : EReal := Ideal.ofBits .f32 0x45000000#32
/-- The number added to the mean of the squares. -/
abbrev eps : EReal := Ideal.ofBits .f32 0x358637BD#32

variable (m : (ℓ : Loc nD τ sig) → Buf (Elt Ideal) ℓ) (ρ : Dev nD → PrngReg)

/-- The sample stream's rows, sequence after sequence. -/
def rows (x : S1x16384x2048.Idx → EReal) : S16384x2048.Idx → EReal := shapeCast S16384x2048 x shapeCasts_S1x16384x2048_S16384x2048

/-- Row `i` of the stream is token `i % 16384` of sequence `i / 16384`. -/
theorem rows_apply (x : S1x16384x2048.Idx → EReal) (i : Fin 16384) (k : Fin 2048) (p : S1x16384x2048.Idx)
    (h0 : (p 0).val = i.val / 16384) (h1 : (p 1).val = i.val % 16384) (h2 : (p 2).val = k.val) : rows x (ix2 i k) = x p := by
  unfold rows
  refine shapeCast_apply x _ _ p ?_
  rw [Shape.rowMajor_val_three, Shape.rowMajor_val_two]
  show ((p 0).val * 16384 + (p 1).val) * 2048 + (p 2).val = i.val * 2048 + k.val
  rw [h0, h1, h2]; omega

/-- The stream the kernel reads. -/
theorem V_main_v0 (c : Dev nD) (i : S16384x2048.Idx) : V m c main_v0 i = rows (m ((c : Thread nD τ).loc main_arg0)) i := by
  show StableHlo.after hostOps0 _ (Proc.devRef .tc main_v0) i = _
  after_results
  rfl

/-- The gain the kernel reads is the argument. -/
theorem V_main_v1 (c : Dev nD) (k : Fin 2048) : V m c main_v1 (ix2 0 k) = m ((c : Thread nD τ).loc main_arg1) (ix1 k) := by
  show StableHlo.after hostOps0 _ (Proc.devRef .tc main_v1) (ix2 0 k) = _
  after_results
  show shapeCast S1x2048 (m ((c : Thread nD τ).loc main_arg1)) shapeCasts_S2048_S1x2048 (ix2 0 k) = _
  exact shapeCast_a_1a_apply _ _ _ k

/-- The whole array the normalisation leaves. -/
def result (x : S1x16384x2048.Idx → EReal) (g : S2048.Idx → EReal) : S16384x2048.Idx → EReal :=
  fun i => normed len eps (fun k => rows x (ix2 (i 0) k)) (fun k => g (ix1 k)) (i 1)

/-- The reference computes that array. -/
theorem reference_eq (x : S1x16384x2048.Idx → EReal) (g : S2048.Idx → EReal) :
    Cert.Reference6Ideal.Read.val_main_v13 (F := Ideal) x g = result x g := by
  funext i
  unfold result normed
  have h0 : (i 0).val < 16384 := (i 0).isLt
  have h1 : (i 1).val < 2048 := (i 1).isLt
  open Cert.Reference6Ideal.Read in
  simp only [val_main_v13_apply, val_main_v12_apply, val_main_v11_apply, val_main_v10_apply, val_main_v9_apply, val_main_v8_apply,
    val_main_v7_apply, val_main_v6_apply, val_main_v5_apply, val_main_v4_apply, val_main_v3_apply, val_main_v2_apply,
    val_main_v1_apply, val_main_v0_apply]
  have hx : ∀ k : Fin 2048, rows x (ix2 (i 0) k) = x (Cert.Reference6Ideal.Read.idx_main_v1 (Cert.Reference6Ideal.Read.idx_main_v2
      (Cert.Reference6Ideal.Read.idx_main_v8 (Cert.Reference6Ideal.Read.idx_main_v13 i))) k) := fun k =>
    rows_apply x (i 0) k _ (by show 0 = (i 0).val / 16384; omega) (by show ((i 0).val * 2048 + (i 1).val) / 2048 % 16384 = (i 0).val % 16384; omega) rfl
  have hi : rows x (ix2 (i 0) (i 1)) = x (Cert.Reference6Ideal.Read.idx_main_v13 i) :=
    rows_apply x (i 0) (i 1) _ (by show 0 = (i 0).val / 16384; omega) (by show ((i 0).val * 2048 + (i 1).val) / 2048 % 16384 = (i 0).val % 16384; omega) (by show ((i 0).val * 2048 + (i 1).val) % 2048 = (i 1).val; omega)
  have hg : Cert.Reference6Ideal.Read.idx_main_v10 (Cert.Reference6Ideal.Read.idx_main_v11
      (Cert.Reference6Ideal.Read.idx_main_v13 i)) = ix1 (i 1) :=
    funext fun a => by match a with | ⟨0, _⟩ => exact Fin.ext (by show ((i 0).val * 2048 + (i 1).val) % 2048 = (i 1).val; omega)
  simp only [← hx]
  rw [← hi, hg]
  show rows x (ix2 (i 0) (i 1)) * Ideal.rsqrt (Ideal.div (Ideal.ofBits .f32 0x00000000#32
    + ∑ k : Fin 2048, rows x (ix2 (i 0) k) * rows x (ix2 (i 0) k)) _ + _) * _ = _
  rw [Ideal.ofBits_zero_f32, zero_add]
  rfl

/-- The index maps of the three windows, as numbers. -/
theorem idx_eq : ∀ t : Fin cfg0.N,
    win0_0.index t 0 = t.val ∧ win0_0.index t 1 = 0 ∧ win0_1.index t 0 = 0 ∧ win0_1.index t 1 = 0
    ∧ win0_2.index t 0 = t.val ∧ win0_2.index t 1 = 0 :=
  (by decide +kernel : ∀ t : Fin grid0.N,
    win0_0.index t 0 = t.val ∧ win0_0.index t 1 = 0 ∧ win0_1.index t 0 = 0 ∧ win0_1.index t 1 = 0
    ∧ win0_2.index t 0 = t.val ∧ win0_2.index t 1 = 0)

/-- The zero offsets of a matrix. -/
theorem hz2 : (![0, 0] : Fin 2 → Nat) = fun _ => 0 := funext fun a => by fin_cases a <;> rfl

/-- What the kernel body computes from its two loaded blocks, at row `r` and column `k`. -/
theorem pay_apply (x : Vec Ideal S1024x2048 .f32) (g : Vec Ideal S1x2048 .f32) (r : Fin 1024) (k : Fin 2048) :
    k0_pay1 x g (ix2 r k) = normed len eps (fun k => x (ix2 r k)) (fun k => g (ix2 0 k)) k := by
  unfold k0_pay1
  rw [shapeCast_self, shapeCast_self]
  exact Cert.RmsNorm.block_apply x g len eps _ _ _ _ _ _ r k

/-- Every grid point writes its rows of the result. -/
theorem flushed_eq (c : Dev nD) (t : Fin cfg0.N) :
    (dats m 0 c).flushed 2 t = ((cfg0.win 2).blk t).view.read (Elt Ideal)
      (result (m ((c : Thread nD τ).loc main_arg0)) (m ((c : Thread nD τ).loc main_arg1))) := by
  rw [Value.flushed2]
  unfold out0_2
  rw [View.canon_unit_zero hz2, View.ld_unit_zero hz2, View.ld_unit_zero hz2]
  funext y
  obtain ⟨e0, e1, e2, e3, e4, e5⟩ := idx_eq t
  obtain ⟨r, n, rfl⟩ : ∃ (r : Fin 1024) (n : Fin 2048), y = ix2 r n := ⟨y 0, y 1, eq_ix2 y⟩
  show k0_pay1 (iblk m c 0 t) (iblk m c 1 t) (ix2 r n) = result _ _ ((win0_2.rect t).emb (ix2 r n))
  rw [pay_apply]
  unfold result
  congr 1
  · funext k
    show V m c main_v0 ((win0_0.rect t).emb (ix2 r k)) = _
    rw [V_main_v0]
    refine congrArg (rows (m ((c : Thread nD τ).loc main_arg0))) (funext fun a => Fin.ext ?_)
    match a with
    | ⟨0, _⟩ => exact (Pipeline.Window.rect_emb_val win0_0 t _ 0).trans (by
        rw [e0]; refine Eq.trans ?_ (Pipeline.Window.rect_emb_val win0_2 t _ 0).symm; rw [e4]; rfl)
    | ⟨1, _⟩ => exact Pipeline.Window.rect_emb_val_of_index_zero win0_0 t 1 e1 (ix2 r k)
  · funext k
    show V m c main_v1 ((win0_1.rect t).emb (ix2 0 k)) = _
    refine Eq.trans ?_ (V_main_v1 m c k)
    refine congrArg (V m c main_v1) (funext fun a => Fin.ext ?_)
    match a with
    | ⟨0, _⟩ => exact Pipeline.Window.rect_emb_val_of_index_zero win0_1 t 0 e2 (ix2 0 k)
    | ⟨1, _⟩ => exact Pipeline.Window.rect_emb_val_of_index_zero win0_1 t 1 e3 (ix2 0 k)
  · exact Fin.ext (Pipeline.Window.rect_emb_val_of_index_zero win0_2 t 1 e5 (ix2 r n)).symm

/-- An index of the result is in point `t`'s tile when its row is in the tile's range. -/
theorem mem_blk (t : Fin cfg0.N) (i : S16384x2048.Idx) (h0 : (i 0).val / 1024 = t.val) : i ∈ ((cfg0.win 2).blk t).view.set := by
  show i ∈ ((View.whole main_v2).slice (win0_2.rect t)).set
  rw [View.set_slice_whole, Rect.mem_set_unit]
  obtain ⟨-, -, -, -, e4, e5⟩ := idx_eq t
  intro a
  match a with
  | ⟨0, _⟩ =>
    show win0_2.index t 0 * 1024 ≤ (i 0).val ∧ (i 0).val < win0_2.index t 0 * 1024 + 1024
    rw [e4]; omega
  | ⟨1, _⟩ =>
    have h1 : (i 1).val < 2048 := (i 1).isLt
    show win0_2.index t 1 * 2048 ≤ (i 1).val ∧ (i 1).val < win0_2.index t 1 * 2048 + 2048
    rw [e5]; omega

/-- The tiles fill the result. -/
theorem cover (i : S16384x2048.Idx) : ∃ t : Fin cfg0.N, (cfg0.win 2).flush t = true ∧ i ∈ ((cfg0.win 2).blk t).view.set := by
  have h0 : (i 0).val < 16384 := (i 0).isLt
  have hN : cfg0.N = 16 := N_0
  exact ⟨⟨(i 0).val / 1024, by omega⟩, flush0_2 _, mem_blk _ i rfl⟩

/-- The final normalisation of the sample computes the array the reference computes, on every input. -/
theorem algebraic : Cert.algebraic_Kernel6Ideal_Reference6Ideal := by
  intro m ρ m' ρ' _ hag
  refine ⟨fun c => result (m ((c : Thread nD τ).loc main_arg0)) (m ((c : Thread nD τ).loc main_arg1)),
    (θ_run _ _ _).mono (fun r h c => ⟨(h c).1.trans ?_, (h c).2⟩) (Value.run_blocks m ρ),
    (θ_run _ _ _).mono (fun r h c => ⟨(h c).1.trans ?_, (h c).2⟩) (Cert.Reference6Ideal.Value.run m' ρ')⟩
  · exact (dats m 0 c).arrAt_eq_of_cover 2 _ (fun t _ => flushed_eq m c t) cover
  · rw [(hag c).1, (hag c).2]
    exact (Cert.Reference6Ideal.Read.val_main_v13_eq _ _).trans (reference_eq _ _)

end Cert.FinalNormSample

end
-- ==== Proof.GatedUnit.lean ====
/-
  What the last call of the recurrent state space computes: the skip connection, gelu, and the gated linear unit.
-/
module

public import proofs.«01_k».proof.Defs
public import proofs.«01_k».proof.Proof.Gen.Kernel7Ideal.Value
public import proofs.«01_k».proof.Proof.Gen.Reference7Ideal.Run
public import proofs.«01_k».proof.Proof.Gen.Reference7Ideal.Read
public import proofs.«01_k».proof.Proof.Ops
public import Idealize.ShloMosaic.Lib.Pipeline.Value
public import Idealize.ShloMosaic.Lib.MatmulPlain
public import Idealize.ShloMosaic.Lib.ValueIdx
public import Idealize.ShloMosaic.Lib.ValueLayout
public import Idealize.ShloMosaic.Lib.ValueLayoutCasts

@[expose] public section

set_option maxRecDepth 16384

noncomputable section

namespace Cert.GatedUnit

open Cert.Kernel7Ideal Cert.Kernel7Ideal.Gen Idealize.ShloMosaic Idealize.ShloMosaic.TcCoe Idealize.SL.Sem
open Idealize.ShloMosaic.ValueIdx
open Idealize.ShloMosaic.Pipeline (Dat)

/-- The gelu of a number, by the hyperbolic tangent. -/
def gelu (y : EReal) : EReal :=
  y * (Ideal.ofBits .f32 0x3F000000#32 * (Ideal.ofBits .f32 0x3F800000#32
    + Ideal.tanh (Ideal.ofBits .f32 0x3F4C422A#32 * (y + Ideal.ofBits .f32 0x3D372713#32 * (y * (y * y))))))

/-- One channel of the linear map: the gelu of a token's channels, each with its skip connection, against a column, plus
    the bias. -/
def channel (y u d w : Fin 512 → EReal) (b : EReal) : EReal := ∑ k, gelu (y k + u k * d k) * w k + b

/-- A channel's column in the linear map's first half, -/
def lo (n : Fin 512) : Fin 1024 := ⟨n.val, by omega⟩
/-- and its gate's, in the second. -/
def hi (n : Fin 512) : Fin 1024 := ⟨512 + n.val, by omega⟩

/-- One channel of the gated linear unit. -/
def gated (y u d : Fin 512 → EReal) (w : Fin 512 → Fin 1024 → EReal) (b : Fin 1024 → EReal) (n : Fin 512) : EReal :=
  channel y u d (fun k => w k (lo n)) (b (lo n)) * Ideal.logistic (channel y u d (fun k => w k (hi n)) (b (hi n)))

/-! ## The kernel's body -/

/-- The linear map's channels, of a block of tokens. -/
theorem linear_apply (y u : Vec Ideal S1024x512 .f32) (d : Vec Ideal S1x512 .f32) (w : Vec Ideal S512x1024 .bf16)
    (b : Vec Ideal S1x1024 .f32) (z : FVec Ideal S1024x512 .bf16)
    (hz : ∀ r k, z (ix2 r k) = gelu (y (ix2 r k) + u (ix2 r k) * d (ix2 0 k))) (r : Fin 1024) (n : Fin 1024) :
    addf (matmul dot_S1024x512_S512x1024_S1024x1024_1_0_0_1_n_n none z
        (shapeCast S512x1024 w shapeCasts_S512x1024_S512x1024 : FVec Ideal S512x1024 .bf16)
        (constant (F := Ideal) S1024x1024 .f32 0x00000000#32))
      (broadcastTo S1024x1024 (shapeCast S1x1024 b shapeCasts_S1x1024_S1x1024) broadcasts_S1x1024_S1024x1024) (ix2 r n)
      = channel (fun k => y (ix2 r k)) (fun k => u (ix2 r k)) (fun k => d (ix2 0 k)) (fun k => w (ix2 k n)) (b (ix2 0 n)) := by
  rw [addf_apply, broadcastTo_1b_ab_apply, shapeCast_self, shapeCast_self]
  refine congrArg (· + b (ix2 0 n)) ((Ideal.matmul_plain_apply none _ _ _ r n).trans ?_)
  rw [constant_apply, Ideal.ofBits_zero_f32, zero_add]
  exact Finset.sum_congr rfl fun k _ => congrArg (· * w (ix2 k n)) (hz r k)

/-- What the kernel body computes from its five loaded blocks, at row `r` and channel `n`. -/
theorem pay_apply (y u : Vec Ideal S1024x512 .f32) (d : Vec Ideal S1x512 .f32) (w : Vec Ideal S512x1024 .bf16)
    (b : Vec Ideal S1x1024 .f32) (r : Fin 1024) (n : Fin 512) :
    k0_pay1 y u d w b (ix2 r n) = gated (fun k => y (ix2 r k)) (fun k => u (ix2 r k)) (fun k => d (ix2 0 k))
      (fun k n => w (ix2 k n)) (fun n => b (ix2 0 n)) n := by
  unfold k0_pay1 gated
  refine congrArg₂ (fun p q : EReal => p * Ideal.logistic q) ?_ ?_
  · refine (extractStridedSlice_apply _ _ _ (ix2 r n) (ix2 r (lo n)) (fun a => ?_)).trans
      (linear_apply y u d w b _ (fun r k => ?_) r (lo n))
    · match a with
      | ⟨0, _⟩ => exact (Nat.zero_add _).symm
      | ⟨1, _⟩ => exact (Nat.zero_add _).symm
    · have hd : broadcastTo S1024x512 (shapeCast S1x512 d shapeCasts_S1x512_S1x512) broadcasts_S1x512_S1024x512 (ix2 r k)
          = d (ix2 0 k) := by rw [broadcastTo_1b_ab_apply, shapeCast_self]
      exact congrArg (fun e => gelu (y (ix2 r k) + u (ix2 r k) * e)) hd
  · refine (extractStridedSlice_apply _ _ _ (ix2 r n) (ix2 r (hi n)) (fun a => ?_)).trans
      (linear_apply y u d w b _ (fun r k => ?_) r (hi n))
    · match a with
      | ⟨0, _⟩ => exact (Nat.zero_add _).symm
      | ⟨1, _⟩ => rfl
    · have hd : broadcastTo S1024x512 (shapeCast S1x512 d shapeCasts_S1x512_S1x512) broadcasts_S1x512_S1024x512 (ix2 r k)
          = d (ix2 0 k) := by rw [broadcastTo_1b_ab_apply, shapeCast_self]
      exact congrArg (fun e => gelu (y (ix2 r k) + u (ix2 r k) * e)) hd

/-! ## The prepared arrays -/

variable (m : (ℓ : Loc nD τ sig) → Buf (Elt Ideal) ℓ) (ρ : Dev nD → PrngReg)

/-- The skip connection's factors are row 0 of the argument, -/
theorem V_main_v7 (c : Dev nD) (k : Fin 512) :
    V m c main_v7 (ix2 0 k) = m ((c : Thread nD τ).loc main_arg2) (ix2 0 k) := by
  show StableHlo.after hostOps0 _ (Proc.devRef .tc main_v7) (ix2 0 k) = _
  after_results
  show shapeCast S1x512 (shapeCast S512 (extractStridedSlice S1x512 ![0, 0] (m ((c : Thread nD τ).loc main_arg2))
    slices_S4x512_S1x512_0_0) shapeCasts_S1x512_S512) shapeCasts_S512_S1x512 (ix2 0 k) = _
  rw [shapeCast_a_1a_apply, shapeCast_1a_a_apply]
  exact extractStridedSlice_apply _ _ _ _ (ix2 0 k) (fun a => by
    match a with
    | ⟨0, _⟩ => rfl
    | ⟨1, _⟩ => exact (Nat.zero_add _).symm)

/-- the bias is row 0 of its argument, -/
theorem V_main_v8 (c : Dev nD) (k : Fin 1024) :
    V m c main_v8 (ix2 0 k) = m ((c : Thread nD τ).loc main_arg4) (ix2 0 k) := by
  show StableHlo.after hostOps0 _ (Proc.devRef .tc main_v8) (ix2 0 k) = _
  after_results
  show shapeCast S1x1024 (shapeCast S1024 (extractStridedSlice S1x1024 ![0, 0] (m ((c : Thread nD τ).loc main_arg4))
    slices_S4x1024_S1x1024_0_0) shapeCasts_S1x1024_S1024) shapeCasts_S1024_S1x1024 (ix2 0 k) = _
  rw [shapeCast_a_1a_apply, shapeCast_1a_a_apply]
  exact extractStridedSlice_apply _ _ _ _ (ix2 0 k) (fun a => by
    match a with
    | ⟨0, _⟩ => rfl
    | ⟨1, _⟩ => exact (Nat.zero_add _).symm)

/-- and the weights are the first layer's. -/
theorem V_main_v4 (c : Dev nD) (k : Fin 512) (n : Fin 1024) :
    V m c main_v4 (ix2 k n) = m ((c : Thread nD τ).loc main_arg3) (ix3 0 k n) := by
  show StableHlo.after hostOps0 _ (Proc.devRef .tc main_v4) (ix2 k n) = _
  after_results
  show shapeCast S512x1024 (extractStridedSlice S1x512x1024 ![0, 0, 0] (m ((c : Thread nD τ).loc main_arg3))
    slices_S4x512x1024_S1x512x1024_0_0_0) shapeCasts_S1x512x1024_S512x1024 (ix2 k n) = _
  rw [shapeCast_1ab_ab_apply]
  exact extractStridedSlice_apply _ _ _ _ (ix3 0 k n) (fun a => by
    match a with
    | ⟨0, _⟩ => rfl
    | ⟨1, _⟩ => exact (Nat.zero_add _).symm
    | ⟨2, _⟩ => exact (Nat.zero_add _).symm)

/-! ## The result -/

/-- The whole array: each token's channels through the gated linear unit. -/
def result (y u : S32768x512.Idx → EReal) (d : S4x512.Idx → EReal) (w : S4x512x1024.Idx → EReal) (b : S4x1024.Idx → EReal) :
    S32768x512.Idx → EReal :=
  fun i => gated (fun k => y (ix2 (i 0) k)) (fun k => u (ix2 (i 0) k)) (fun k => d (ix2 0 k)) (fun k n => w (ix3 0 k n))
    (fun n => b (ix2 0 n)) (i 1)

open Cert.Reference7Ideal.Read in
/-- The reference's gelu, of a token's channel. -/
theorem ref_gelu (y u : S32768x512.Idx → EReal) (d : S4x512.Idx → EReal) (i : Fin 32768) (k : Fin 512) :
    val_main_v18 (F := Ideal) y u d (ix2 i k) = gelu (y (ix2 i k) + u (ix2 i k) * d (ix2 0 k)) := by
  have h5 : val_main_v5 (F := Ideal) y u d (ix2 i k) = y (ix2 i k) + u (ix2 i k) * d (ix2 0 k) := by
    rw [val_main_v5_apply, val_main_v4_apply, val_main_v3_apply, val_main_v2_apply, val_main_v1_apply, val_main_v0_apply]
    refine (add_comm _ _).trans (congrArg (fun e => y (ix2 i k) + u (ix2 i k) * d e) (funext fun a => Fin.ext ?_))
    match a with
    | ⟨0, _⟩ => rfl
    | ⟨1, _⟩ => exact Nat.mod_eq_of_lt k.isLt
  simp only [val_main_v18_apply, val_main_v17_apply, val_main_v16_apply, val_main_v15_apply, val_main_v14_apply,
    val_main_v13_apply, val_main_v12_apply, val_main_v11_apply, val_main_v10_apply, val_main_v9_apply, val_main_v8_apply,
    val_main_v7_apply, val_main_v6_apply]
  rw [h5]
  generalize y (ix2 i k) + u (ix2 i k) * d (ix2 0 k) = v
  show v * (_ * (_ + Ideal.tanh (_ * (v + _ * (v * v * v))))) = gelu v
  rw [mul_assoc v v v]
  rfl

open Cert.Reference7Ideal.Read in
/-- The reference's linear map. -/
theorem ref_linear (y u : S32768x512.Idx → EReal) (d : S4x512.Idx → EReal) (w : S4x512x1024.Idx → EReal)
    (b : S4x1024.Idx → EReal) (i : Fin 32768) (n : Fin 1024) :
    val_main_v26 (F := Ideal) y u d w b (ix2 i n) = channel (fun k => y (ix2 i k)) (fun k => u (ix2 i k)) (fun k => d (ix2 0 k))
      (fun k => w (ix3 0 k n)) (b (ix2 0 n)) := by
  have hn := n.isLt
  rw [val_main_v26_apply, val_main_v21_apply, val_main_v25_apply, val_main_v24_apply, val_main_v23_apply, val_main_v22_apply]
  refine congrArg₂ (fun p q : EReal => p + q) (Finset.sum_congr rfl fun k _ => ?_) (congrArg b (funext fun a => Fin.ext ?_))
  · have hk := k.isLt
    rw [val_main_v20_apply, val_main_v19_apply]
    refine congrArg₂ (fun p q : EReal => p * q) ?_ (congrArg w (funext fun a => Fin.ext ?_))
    · exact (congrArg (val_main_v18 (F := Ideal) y u d) (funext fun a => by
        match a with | ⟨0, _⟩ => rfl | ⟨1, _⟩ => rfl)).trans (ref_gelu y u d i k)
    · match a with
      | ⟨0, _⟩ => rfl
      | ⟨1, _⟩ => show (k.val * 1024 + n.val) / 1024 % 512 = k.val; omega
      | ⟨2, _⟩ => show (k.val * 1024 + n.val) % 1024 = n.val; omega
  · match a with
    | ⟨0, _⟩ => rfl
    | ⟨1, _⟩ => show n.val % 1024 = n.val; omega

open Cert.Reference7Ideal.Read in
/-- The reference computes the result. -/
theorem reference_eq (y u : S32768x512.Idx → EReal) (d : S4x512.Idx → EReal) (w : S4x512x1024.Idx → EReal)
    (b : S4x1024.Idx → EReal) : val_main_v35 (F := Ideal) y u d w b = result y u d w b := by
  funext j
  obtain ⟨i, n, rfl⟩ : ∃ (i : Fin 32768) (n : Fin 512), j = ix2 i n := ⟨j 0, j 1, eq_ix2 j⟩
  have hn := n.isLt
  simp only [val_main_v35_apply, val_main_v34_apply, val_main_v33_apply, val_main_v32_apply, val_main_v31_apply,
    val_main_v30_apply, val_main_v29_apply]
  rw [val_main_v27_apply, val_main_v28_apply]
  have h27 : idx_main_v27 (ix2 i n) = ix2 i (lo n) := funext fun a => Fin.ext (by
    match a with
    | ⟨0, _⟩ => rfl
    | ⟨1, _⟩ => rfl)
  have h28 : idx_main_v28 (ix2 i n) = ix2 i (hi n) := funext fun a => Fin.ext (by
    match a with
    | ⟨0, _⟩ => rfl
    | ⟨1, _⟩ => first | rfl | exact Nat.add_comm _ _)
  rw [h27, h28, ref_linear, ref_linear]
  unfold result gated Ideal.logistic
  show _ * Ideal.div (Ideal.ofBits .f32 0x3F800000#32) (Ideal.ofBits .f32 0x3F800000#32 + Ideal.exp (-_)) = _
  rw [Cert.Ops.ofBits_one]

/-! ## The tiles -/

/-- The index maps of the six windows, as numbers. -/
theorem idx_eq : ∀ t : Fin cfg0.N,
    (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = t.val ∧ win0_5.index t 1 = 0) :=
  (by decide +kernel : ∀ t : Fin grid0.N,
    (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = t.val ∧ win0_5.index t 1 = 0))

/-- The zero offsets of a matrix. -/
theorem hz2 : (![0, 0] : Fin 2 → Nat) = fun _ => 0 := funext fun a => by fin_cases a <;> rfl

/-- The token that row `r` of a grid point's blocks holds. -/
def rowOf (t : Fin cfg0.N) (r : Fin 1024) : Fin 32768 :=
  ⟨t.val * 1024 + r.val, by have h : t.val < cfg0.N := t.isLt; have hN : cfg0.N = 32 := N_0; omega⟩

/-- The block of the state space's outputs, -/
theorem blk0 (c : Dev nD) (t : Fin cfg0.N) (r : Fin 1024) (k : Fin 512) :
    iblk m c 0 t (ix2 r k) = m ((c : Thread nD τ).loc main_arg0) (ix2 (rowOf t r) k) := by
  show V m c main_arg0 ((win0_0.rect t).emb (ix2 r k)) = _
  rw [V_main_arg0]
  obtain ⟨⟨e0, e1⟩, -⟩ := idx_eq t
  refine congrArg (m ((c : Thread nD τ).loc main_arg0)) (funext fun a => Fin.ext ?_)
  match a with
  | ⟨0, _⟩ => exact (Pipeline.Window.rect_emb_val win0_0 t _ 0).trans (by rw [e0]; rfl)
  | ⟨1, _⟩ => exact Pipeline.Window.rect_emb_val_of_index_zero win0_0 t 1 e1 (ix2 r k)

/-- of its inputs, -/
theorem blk1 (c : Dev nD) (t : Fin cfg0.N) (r : Fin 1024) (k : Fin 512) :
    iblk m c 1 t (ix2 r k) = m ((c : Thread nD τ).loc main_arg1) (ix2 (rowOf t r) k) := by
  show V m c main_arg1 ((win0_1.rect t).emb (ix2 r k)) = _
  rw [V_main_arg1]
  obtain ⟨-, ⟨e0, e1⟩, -⟩ := idx_eq t
  refine congrArg (m ((c : Thread nD τ).loc main_arg1)) (funext fun a => Fin.ext ?_)
  match a with
  | ⟨0, _⟩ => exact (Pipeline.Window.rect_emb_val win0_1 t _ 0).trans (by rw [e0]; rfl)
  | ⟨1, _⟩ => exact Pipeline.Window.rect_emb_val_of_index_zero win0_1 t 1 e1 (ix2 r k)

/-- of the skip connection's factors, -/
theorem blk2 (c : Dev nD) (t : Fin cfg0.N) (k : Fin 512) :
    iblk m c 2 t (ix2 0 k) = m ((c : Thread nD τ).loc main_arg2) (ix2 0 k) := by
  show V m c main_v7 ((win0_2.rect t).emb (ix2 0 k)) = _
  obtain ⟨-, -, ⟨e0, e1⟩, -⟩ := idx_eq t
  refine Eq.trans ?_ (V_main_v7 m c k)
  refine congrArg (V m c main_v7) (funext fun a => Fin.ext ?_)
  match a with
  | ⟨0, _⟩ => exact Pipeline.Window.rect_emb_val_of_index_zero win0_2 t 0 e0 (ix2 0 k)
  | ⟨1, _⟩ => exact Pipeline.Window.rect_emb_val_of_index_zero win0_2 t 1 e1 (ix2 0 k)

/-- of the weights, -/
theorem blk3 (c : Dev nD) (t : Fin cfg0.N) (k : Fin 512) (n : Fin 1024) :
    iblk m c 3 t (ix2 k n) = m ((c : Thread nD τ).loc main_arg3) (ix3 0 k n) := by
  show V m c main_v4 ((win0_3.rect t).emb (ix2 k n)) = _
  obtain ⟨-, -, -, ⟨e0, e1⟩, -⟩ := idx_eq t
  refine Eq.trans ?_ (V_main_v4 m c k n)
  refine congrArg (V m c main_v4) (funext fun a => Fin.ext ?_)
  match a with
  | ⟨0, _⟩ => exact Pipeline.Window.rect_emb_val_of_index_zero win0_3 t 0 e0 (ix2 k n)
  | ⟨1, _⟩ => exact Pipeline.Window.rect_emb_val_of_index_zero win0_3 t 1 e1 (ix2 k n)

/-- and of the bias. -/
theorem blk4 (c : Dev nD) (t : Fin cfg0.N) (n : Fin 1024) :
    iblk m c 4 t (ix2 0 n) = m ((c : Thread nD τ).loc main_arg4) (ix2 0 n) := by
  show V m c main_v8 ((win0_4.rect t).emb (ix2 0 n)) = _
  obtain ⟨-, -, -, -, ⟨e0, e1⟩, -⟩ := idx_eq t
  refine Eq.trans ?_ (V_main_v8 m c n)
  refine congrArg (V m c main_v8) (funext fun a => Fin.ext ?_)
  match a with
  | ⟨0, _⟩ => exact Pipeline.Window.rect_emb_val_of_index_zero win0_4 t 0 e0 (ix2 0 n)
  | ⟨1, _⟩ => exact Pipeline.Window.rect_emb_val_of_index_zero win0_4 t 1 e1 (ix2 0 n)

/-- The result at the arguments of `m`. -/
abbrev res (c : Dev nD) := result (m ((c : Thread nD τ).loc main_arg0)) (m ((c : Thread nD τ).loc main_arg1))
  (m ((c : Thread nD τ).loc main_arg2)) (m ((c : Thread nD τ).loc main_arg3)) (m ((c : Thread nD τ).loc main_arg4))

/-- Equal channels, factors, weights and biases give equal results. -/
theorem gated_congr {y y' u u' d d' : Fin 512 → EReal} {w w' : Fin 512 → Fin 1024 → EReal} {b b' : Fin 1024 → EReal}
    (hy : ∀ k, y k = y' k) (hu : ∀ k, u k = u' k) (hd : ∀ k, d k = d' k) (hw : ∀ k n, w k n = w' k n)
    (hb : ∀ n, b n = b' n) (n : Fin 512) : gated y u d w b n = gated y' u' d' w' b' n := by
  rw [funext hy, funext hu, funext hd, funext fun k => funext (hw k), funext hb]

/-- Every grid point writes its rows of the result. -/
theorem flushed_eq (c : Dev nD) (t : Fin cfg0.N) :
    (dats m 0 c).flushed 5 t = ((cfg0.win 5).blk t).view.read (Elt Ideal) (res m c) := by
  rw [Value.flushed5]
  unfold out0_5
  rw [View.canon_unit_zero hz2, View.ld_unit_zero hz2, View.ld_unit_zero hz2, View.ld_unit_zero hz2, View.ld_unit_zero hz2,
    View.ld_unit_zero hz2]
  funext j
  obtain ⟨-, -, -, -, -, ⟨e0, e1⟩⟩ := idx_eq t
  obtain ⟨r, n, rfl⟩ : ∃ (r : Fin 1024) (n : Fin 512), j = ix2 r n := ⟨j 0, j 1, eq_ix2 j⟩
  show k0_pay1 (iblk m c 0 t) (iblk m c 1 t) (iblk m c 2 t) (iblk m c 3 t) (iblk m c 4 t) (ix2 r n)
    = res m c ((win0_5.rect t).emb (ix2 r n))
  have he : (win0_5.rect t).emb (ix2 r n) = ix2 (rowOf t r) n := funext fun a => Fin.ext (by
    match a with
    | ⟨0, _⟩ => exact (Pipeline.Window.rect_emb_val win0_5 t _ 0).trans (by rw [e0]; rfl)
    | ⟨1, _⟩ => exact Pipeline.Window.rect_emb_val_of_index_zero win0_5 t 1 e1 (ix2 r n))
  rw [pay_apply, he]
  unfold res result
  refine gated_congr (fun k => ?_) (fun k => ?_) (fun k => ?_) (fun k n => ?_) (fun n => ?_) n
  · exact blk0 m c t r k
  · exact blk1 m c t r k
  · exact blk2 m c t k
  · exact blk3 m c t k n
  · exact blk4 m c t n

/-- An index of the result is in point `t`'s tile when its row is in the tile's range. -/
theorem mem_blk (t : Fin cfg0.N) (i : S32768x512.Idx) (h0 : (i 0).val / 1024 = t.val) : i ∈ ((cfg0.win 5).blk t).view.set := by
  show i ∈ ((View.whole main_v9).slice (win0_5.rect t)).set
  rw [View.set_slice_whole, Rect.mem_set_unit]
  obtain ⟨-, -, -, -, -, ⟨e0, e1⟩⟩ := idx_eq t
  intro a
  match a with
  | ⟨0, _⟩ =>
    show win0_5.index t 0 * 1024 ≤ (i 0).val ∧ (i 0).val < win0_5.index t 0 * 1024 + 1024
    rw [e0]; omega
  | ⟨1, _⟩ =>
    have h1 : (i 1).val < 512 := (i 1).isLt
    show win0_5.index t 1 * 512 ≤ (i 1).val ∧ (i 1).val < win0_5.index t 1 * 512 + 512
    rw [e1]; omega

/-- The tiles fill the result. -/
theorem cover (i : S32768x512.Idx) : ∃ t : Fin cfg0.N, (cfg0.win 5).flush t = true ∧ i ∈ ((cfg0.win 5).blk t).view.set := by
  have h0 : (i 0).val < 32768 := (i 0).isLt
  have hN : cfg0.N = 32 := N_0
  exact ⟨⟨(i 0).val / 1024, by omega⟩, flush0_5 _, mem_blk _ i rfl⟩

/-- The kernel computes the array the reference computes, on every input. -/
theorem algebraic : Cert.algebraic_Kernel7Ideal_Reference7Ideal := by
  intro m ρ m' ρ' _ hag
  refine ⟨fun c => res m c,
    (θ_run _ _ _).mono (fun r h c => ⟨(h c).1.trans ?_, (h c).2⟩) (Value.run_blocks m ρ),
    (θ_run _ _ _).mono (fun r h c => ⟨(h c).1.trans ?_, (h c).2⟩) (Cert.Reference7Ideal.Value.run m' ρ')⟩
  · exact (dats m 0 c).arrAt_eq_of_cover 5 _ (fun t _ => flushed_eq m c t) cover
  · refine (Cert.Reference7Ideal.Read.val_main_v35_eq _ _).trans ((reference_eq _ _ _ _ _).trans ?_)
    rw [(hag c).1, (hag c).2.1, (hag c).2.2.1, (hag c).2.2.2.1, (hag c).2.2.2.2]

end Cert.GatedUnit

end
-- ==== Proof.lean ====
/-
  The certificate's proof.  The frames are the generated runs; the value claims are proved in `Na` (the neighbourhood
  attention), `Ffn` (the routed experts), `InProj` (the input projection), `OutProj` (the output projection with the router),
  `FinalNorm` (the final normalisation, of the prompts and of the samples) and `GatedUnit` (the gated linear unit of the state
  space).
-/
module

public import proofs.«01_k».proof.Defs
public import proofs.«01_k».proof.Proof.Gen.Pre_finite
public import proofs.«01_k».proof.Proof.Gen.Pre_finite4
public import proofs.«01_k».proof.Proof.Gen.Kernel.Frame
public import proofs.«01_k».proof.Proof.Gen.Kernel2.Frame
public import proofs.«01_k».proof.Proof.Gen.Kernel3.Frame
public import proofs.«01_k».proof.Proof.Gen.KernelLiteral.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.KernelIdeal.Value
public import proofs.«01_k».proof.Proof.Gen.ReferenceIdeal.Read
public import proofs.«01_k».proof.Proof.Na
public import proofs.«01_k».proof.Proof.Ffn
public import proofs.«01_k».proof.Proof.InProj
public import proofs.«01_k».proof.Proof.OutProj
public import proofs.«01_k».proof.Proof.FinalNorm
public import proofs.«01_k».proof.Proof.GatedUnit
public import Idealize.ShloMosaic.Lib.Quiescent

@[expose] public section

noncomputable section

namespace Cert.Proof

open Idealize.ShloMosaic Idealize.SL.Sem

/-- The reference program ReferenceIdeal runs, its arguments unchanged and every counter back at zero. -/
theorem frame_ReferenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference program Reference2Ideal runs, its arguments unchanged and every counter back at zero. -/
theorem frame_Reference2Ideal : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The reference program Reference3Ideal runs, its arguments unchanged and every counter back at zero. -/
theorem frame_Reference3Ideal : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The reference program Reference4Ideal runs, its arguments unchanged and every counter back at zero. -/
theorem frame_Reference4Ideal : Cert.quiescent_Reference4Ideal := fun m ρ _ =>
  (θ_run Cert.Reference4Ideal.defs _ _).mono (fun r h => ⟨fun c => (h c).2.2.2, sem_eq_zero_of_no_sems (by decide) r.2⟩)
    (Cert.Reference4Ideal.Value.run (F := Ideal) m ρ)

/-- The reference program Reference5Ideal runs, its arguments unchanged and every counter back at zero. -/
theorem frame_Reference5Ideal : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The reference program Reference6Ideal runs, its arguments unchanged and every counter back at zero. -/
theorem frame_Reference6Ideal : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The reference program Reference7Ideal runs, its arguments unchanged and every counter back at zero. -/
theorem frame_Reference7Ideal : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- Everything the certificate claims. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.KernelLiteral.Gen.facts, Cert.Kernel4.Gen.facts, Cert.Kernel4Ideal.Gen.facts,
    Cert.Reference4Ideal.Gen.facts, Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts, Cert.Pre_finite.Gen.facts,
    Cert.Pre_finite4.Gen.facts,
    fun m ρ _ => Cert.Kernel.Gen.frame m ρ,
    fun m ρ _ => Cert.KernelIdeal.Gen.frame m ρ,
    fun m ρ _ => Cert.KernelIdeal.Gen.frame m ρ,
    frame_ReferenceIdeal,
    fun m ρ _ => frame_ReferenceIdeal m ρ trivial,
    fun m ρ _ => Cert.Kernel2.Gen.frame m ρ,
    fun m ρ _ => Cert.Kernel2Ideal.Gen.frame m ρ,
    frame_Reference2Ideal,
    fun m ρ _ => Cert.Kernel3.Gen.frame m ρ,
    fun m ρ _ => Cert.Kernel3Ideal.Gen.frame m ρ,
    frame_Reference3Ideal,
    fun m ρ _ => Cert.KernelLiteral.Gen.frame m ρ,
    fun m ρ _ => Cert.Kernel4.Gen.frame m ρ,
    fun m ρ _ => Cert.Kernel4Ideal.Gen.frame m ρ,
    fun m ρ _ => Cert.Kernel4Ideal.Gen.frame m ρ,
    frame_Reference4Ideal,
    fun m ρ _ => frame_Reference4Ideal m ρ trivial,
    fun m ρ _ => Cert.Kernel5.Gen.frame m ρ,
    fun m ρ _ => Cert.Kernel5Ideal.Gen.frame m ρ,
    frame_Reference5Ideal,
    fun m ρ _ => Cert.Kernel6.Gen.frame m ρ,
    fun m ρ _ => Cert.Kernel6Ideal.Gen.frame m ρ,
    frame_Reference6Ideal,
    fun m ρ _ => Cert.Kernel7.Gen.frame m ρ,
    fun m ρ _ => Cert.Kernel7Ideal.Gen.frame m ρ,
    frame_Reference7Ideal,
    trivial, Cert.Na.algebraic, trivial, Cert.Ffn.algebraic, trivial, Cert.InProj.algebraic,
    Cert.OutProj.preserves, Cert.OutProj.algebraic, trivial, Cert.FinalNormPrompt.algebraic, trivial,
    Cert.FinalNormSample.algebraic, trivial, Cert.GatedUnit.algebraic⟩

end Cert.Proof

end
